-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5)) (v1 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_v7) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v12)) (v1 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12) = v0 c
          ∧ r.2.mem ((c.tc : Thread Cert.Kernel9Ideal.nD Cert.Kernel9Ideal.τ).loc Cert.Kernel9Ideal.main_v15) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v12)) (v1 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v12) = v0 c
          ∧ r.2.mem ((c.tc : Thread Cert.Kernel10Ideal.nD Cert.Kernel10Ideal.τ).loc Cert.Kernel10Ideal.main_v15) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v12) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v8)) (v1 : (c : Dev Cert.Kernel13Ideal.nD) → Buf (Elt Ideal) ((c.tc : Thread Cert.Kernel13Ideal.nD Cert.Kernel13Ideal.τ).loc Cert.Kernel13Ideal.main_v11)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8) = v0 c
          ∧ r.2.mem ((c.tc : Thread Cert.Kernel13Ideal.nD Cert.Kernel13Ideal.τ).loc Cert.Kernel13Ideal.main_v11) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v20) = v0 c
          ∧ r.2.mem ((c.tc : Thread Cert.Reference13Ideal.nD Cert.Reference13Ideal.τ).loc Cert.Reference13Ideal.main_v16) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_qk.lean ====
abbrev S24576x1536 : Shape := ⟨2, ![24576, 1536]⟩
abbrev S24576x2048 : Shape := ⟨2, ![24576, 2048]⟩
abbrev S24576x64 : Shape := ⟨2, ![24576, 64]⟩
abbrev S16384x1536 : Shape := ⟨2, ![16384, 1536]⟩
abbrev S_ : Shape := ⟨0, ![]⟩
abbrev S16384x2048 : Shape := ⟨2, ![16384, 2048]⟩
abbrev S16384x8x256 : Shape := ⟨3, ![16384, 8, 256]⟩
abbrev S16384x8x128 : Shape := ⟨3, ![16384, 8, 128]⟩
abbrev S16384x64 : Shape := ⟨2, ![16384, 64]⟩

class Facts : Prop where
  slices_S24576x1536_S16384x1536_0_0 : S24576x1536.Slices ![0, 0] S16384x1536
  bcast_S_S16384x1536 : S_.BroadcastsInDim S16384x1536 (![] : Fin 0 → Fin S16384x1536.rank)
  slices_S24576x2048_S16384x2048_0_0 : S24576x2048.Slices ![0, 0] S16384x2048
  shapeCasts_S16384x2048_S16384x8x256 : S16384x2048.ShapeCasts S16384x8x256
  slices_S16384x8x256_S16384x8x128_0_0_0 : S16384x8x256.Slices ![0, 0, 0] S16384x8x128
  bcast_S_S16384x8x128 : S_.BroadcastsInDim S16384x8x128 (![] : Fin 0 → Fin S16384x8x128.rank)
  slices_S24576x64_S16384x64_0_0 : S24576x64.Slices ![0, 0] S16384x64
  bcast_S_S16384x64 : S_.BroadcastsInDim S16384x64 (![] : Fin 0 → Fin S16384x64.rank)

variable [Facts]

def fn {F : FTy → Type} [FloatOps F] (main_arg0 : FVec F S24576x1536 .f32) (main_arg1 : FVec F S24576x2048 .f32) (main_arg2 : FVec F S24576x64 .f32) : IVec S16384x1536 1 × IVec S16384x8x128 1 × IVec S16384x64 1 :=
  let main_v0 : FVec F S16384x1536 .f32 := (extractStridedSlice S16384x1536 ![0, 0] · slices_S24576x1536_S16384x1536_0_0) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_v4 : FVec F S16384x2048 .f32 := (extractStridedSlice S16384x2048 ![0, 0] · slices_S24576x2048_S16384x2048_0_0) main_arg1
  let main_v5 : FVec F S16384x8x256 .f32 := shapeCast S16384x8x256 main_v4 shapeCasts_S16384x2048_S16384x8x256
  let main_v6 : FVec F S16384x8x128 .f32 := (extractStridedSlice S16384x8x128 ![0, 0, 0] · slices_S16384x8x256_S16384x8x128_0_0_0) main_v5
  let main_v7 : FVec F S16384x8x128 .f32 := Host.absf main_v6
  let main_cst_0 : FVec F S_ .f32 := constant S_ .f32 0x7F800000#32
  let main_v8 : FVec F S16384x8x128 .f32 := broadcastInDim S16384x8x128 ![] bcast_S_S16384x8x128 main_cst_0
  let main_v9 : IVec S16384x8x128 1 := cmpf .olt main_v7 main_v8
  let main_v10 : FVec F S16384x64 .f32 := (extractStridedSlice S16384x64 ![0, 0] · slices_S24576x64_S16384x64_0_0) main_arg2
  let main_v11 : FVec F S16384x64 .f32 := Host.absf main_v10
  let main_cst_1 : FVec F S_ .f32 := constant S_ .f32 0x7F800000#32
  let main_v12 : FVec F S16384x64 .f32 := broadcastInDim S16384x64 ![] bcast_S_S16384x64 main_cst_1
  let main_v13 : IVec S16384x64 1 := cmpf .olt main_v11 main_v12
  (main_v3, main_v9, main_v13)
-- ==== Kernel.lean ====
abbrev S24576x1536 : Shape := ⟨2, ![24576, 1536]⟩
abbrev S24576x2048 : Shape := ⟨2, ![24576, 2048]⟩
abbrev S24576x64 : Shape := ⟨2, ![24576, 64]⟩
abbrev S16384 : Shape := ⟨1, ![16384]⟩
abbrev S1x16384 : Shape := ⟨2, ![1, 16384]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S24576 : Shape := ⟨1, ![24576]⟩
abbrev S24576x8x192 : Shape := ⟨3, ![24576, 8, 192]⟩
abbrev S24576x8x256 : Shape := ⟨3, ![24576, 8, 256]⟩
abbrev S32 : Shape := ⟨1, ![32]⟩
abbrev S_ : Shape := ⟨0, ![]⟩
abbrev S24576x1 : Shape := ⟨2, ![24576, 1]⟩
abbrev S1x32 : Shape := ⟨2, ![1, 32]⟩
abbrev S24576x32 : Shape := ⟨2, ![24576, 32]⟩
abbrev S24576x8x64 : Shape := ⟨3, ![24576, 8, 64]⟩
abbrev S24576x1x32 : Shape := ⟨3, ![24576, 1, 32]⟩
abbrev S24576x8x32 : Shape := ⟨3, ![24576, 8, 32]⟩
abbrev S24576x8x128 : Shape := ⟨3, ![24576, 8, 128]⟩
abbrev S24576x1x64 : Shape := ⟨3, ![24576, 1, 64]⟩
abbrev S24576x1024 : Shape := ⟨2, ![24576, 1024]⟩
abbrev S8x24576x192 : Shape := ⟨3, ![8, 24576, 192]⟩
abbrev S16384x1024 : Shape := ⟨2, ![16384, 1024]⟩
abbrev S1x512x192 : Shape := ⟨3, ![1, 512, 192]⟩
abbrev S1x16384x192 : Shape := ⟨3, ![1, 16384, 192]⟩
abbrev S16384x128 : Shape := ⟨2, ![16384, 128]⟩
abbrev S512x128 : Shape := ⟨2, ![512, 128]⟩
abbrev S512x1 : Shape := ⟨2, ![512, 1]⟩
abbrev S512x192 : Shape := ⟨2, ![512, 192]⟩
abbrev S512x512 : Shape := ⟨2, ![512, 512]⟩
abbrev S512 : Shape := ⟨1, ![512]⟩

abbrev nBuf : Space → Nat
  | .hbm => 78
  | .vmem => 11
  | .smem => 0
  | _ => 0

abbrev bufTy : (tb : Table) → Fin (tcTables nBuf tb) → BufTy
  | .hbm, ⟨0, _⟩ => ⟨S24576x1536, .f32⟩
  | .hbm, ⟨1, _⟩ => ⟨S24576x2048, .f32⟩
  | .hbm, ⟨2, _⟩ => ⟨S24576x64, .f32⟩
  | .hbm, ⟨3, _⟩ => ⟨S16384, .i32⟩
  | .hbm, ⟨4, _⟩ => ⟨S1x16384, .i32⟩
  | .hbm, ⟨5, _⟩ => ⟨S1x16384, .i32⟩
  | .hbm, ⟨6, _⟩ => ⟨S16384, .i32⟩
  | .hbm, ⟨7, _⟩ => ⟨S4096, .i32⟩
  | .hbm, ⟨8, _⟩ => ⟨S1x4096, .i32⟩
  | .hbm, ⟨9, _⟩ => ⟨S2x4096, .i32⟩
  | .hbm, ⟨10, _⟩ => ⟨S8192, .i32⟩
  | .hbm, ⟨11, _⟩ => ⟨S24576, .i32⟩
  | .hbm, ⟨12, _⟩ => ⟨S24576x8x192, .f32⟩
  | .hbm, ⟨13, _⟩ => ⟨S24576x8x256, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S24576, .f32⟩
  | .hbm, ⟨29, _⟩ => ⟨S24576x1, .f32⟩
  | .hbm, ⟨30, _⟩ => ⟨S1x32, .f32⟩
  | .hbm, ⟨31, _⟩ => ⟨S24576x32, .f32⟩
  | .hbm, ⟨32, _⟩ => ⟨S24576x32, .f32⟩
  | .hbm, ⟨33, _⟩ => ⟨S24576x32, .f32⟩
  | .hbm, ⟨34, _⟩ => ⟨S24576x32, .f32⟩
  | .hbm, ⟨35, _⟩ => ⟨S24576x32, .f32⟩
  | .hbm, ⟨36, _⟩ => ⟨S24576x8x64, .f32⟩
  | .hbm, ⟨37, _⟩ => ⟨S24576x1x32, .f32⟩
  | .hbm, ⟨38, _⟩ => ⟨S24576x1x32, .f32⟩
  | .hbm, ⟨39, _⟩ => ⟨S24576x8x32, .f32⟩
  | .hbm, ⟨40, _⟩ => ⟨S24576x8x32, .f32⟩
  | .hbm, ⟨41, _⟩ => ⟨S24576x8x32, .f32⟩
  | .hbm, ⟨42, _⟩ => ⟨S24576x8x32, .f32⟩
  | .hbm, ⟨43, _⟩ => ⟨S24576x8x32, .f32⟩
  | .hbm, ⟨44, _⟩ => ⟨S24576x8x32, .f32⟩
  | .hbm, ⟨45, _⟩ => ⟨S24576x8x32, .f32⟩
  | .hbm, ⟨46, _⟩ => ⟨S24576x8x32, .f32⟩
  | .hbm, ⟨47, _⟩ => ⟨S24576x8x32, .f32⟩
  | .hbm, ⟨48, _⟩ => ⟨S24576x8x32, .f32⟩
  | .hbm, ⟨49, _⟩ => ⟨S24576x8x32, .f32⟩
  | .hbm, ⟨50, _⟩ => ⟨S24576x8x32, .f32⟩
  | .hbm, ⟨51, _⟩ => ⟨S24576x8x64, .f32⟩
  | .hbm, ⟨52, _⟩ => ⟨S24576x8x128, .f32⟩
  | .hbm, ⟨53, _⟩ => ⟨S24576x8x192, .f32⟩
  | .hbm, ⟨54, _⟩ => ⟨S_, .f32⟩
  | .hbm, ⟨55, _⟩ => ⟨S24576x8x192, .f32⟩
  | .hbm, ⟨56, _⟩ => ⟨S24576x8x192, .f32⟩
  | .hbm, ⟨57, _⟩ => ⟨S24576x8x192, .bf16⟩
  | .hbm, ⟨58, _⟩ => ⟨S24576x32, .f32⟩
  | .hbm, ⟨59, _⟩ => ⟨S24576x32, .f32⟩
  | .hbm, ⟨60, _⟩ => ⟨S24576x32, .f32⟩
  | .hbm, ⟨61, _⟩ => ⟨S24576x32, .f32⟩
  | .hbm, ⟨62, _⟩ => ⟨S24576x32, .f32⟩
  | .hbm, ⟨63, _⟩ => ⟨S24576x32, .f32⟩
  | .hbm, ⟨64, _⟩ => ⟨S24576x32, .f32⟩
  | .hbm, ⟨65, _⟩ => ⟨S24576x32, .f32⟩
  | .hbm, ⟨66, _⟩ => ⟨S24576x64, .f32⟩
  | .hbm, ⟨67, _⟩ => ⟨S24576x1x64, .f32⟩
  | .hbm, ⟨68, _⟩ => ⟨S24576x8x64, .f32⟩
  | .hbm, ⟨69, _⟩ => ⟨S24576x8x128, .f32⟩
  | .hbm, ⟨70, _⟩ => ⟨S24576x8x192, .f32⟩
  | .hbm, ⟨71, _⟩ => ⟨S24576x8x192, .bf16⟩
  | .hbm, ⟨72, _⟩ => ⟨S24576x8x128, .f32⟩
  | .hbm, ⟨73, _⟩ => ⟨S24576x8x128, .bf16⟩
  | .hbm, ⟨74, _⟩ => ⟨S24576x1024, .bf16⟩
  | .hbm, ⟨75, _⟩ => ⟨S8x24576x192, .bf16⟩
  | .hbm, ⟨76, _⟩ => ⟨S8x24576x192, .bf16⟩
  | .hbm, ⟨77, _⟩ => ⟨S16384x1024, .bf16⟩
  | .local _ .vmem, ⟨0, _⟩ => ⟨S1x512x192, .bf16⟩
  | .local _ .vmem, ⟨1, _⟩ => ⟨S1x512x192, .bf16⟩
  | .local _ .vmem, ⟨2, _⟩ => ⟨S1x16384x192, .bf16⟩
  | .local _ .vmem, ⟨3, _⟩ => ⟨S1x16384x192, .bf16⟩
  | .local _ .vmem, ⟨4, _⟩ => ⟨S16384x128, .bf16⟩
  | .local _ .vmem, ⟨5, _⟩ => ⟨S16384x128, .bf16⟩
  | .local _ .vmem, ⟨6, _⟩ => ⟨S512x128, .bf16⟩
  | .local _ .vmem, ⟨7, _⟩ => ⟨S512x128, .bf16⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S24576x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_3 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 32], ![false, false, false]⟩

@[reducible] def k0_t1_loop : Scf.Loop 32 :=
  let c0_i32 : BitVec 32 := 0#32
  let c32_i32 : BitVec 32 := 32#32
  let v14 : BitVec 32 := Scalar.addi c0_i32 c32_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32 : BitVec 32 := 512#32
  let v21 : BitVec 32 := Scalar.muli arg10 c512_i32
  v21
def k0_off1 (k0_t1 : Fin k0_t1_loop.trips) : Fin 3 → Nat :=
  let c0_17 : Index := 0#32
  let c0_i32 : BitVec 32 := 0#32
  let c1_i32 : BitVec 32 := 1#32
  let arg10 : BitVec 32 := Scf.iv c0_i32 c1_i32 k0_t1
  let c512_i32 : BitVec 32 := 512#32
  let v21 : BitVec 32 := Scalar.muli arg10 c512_i32
  let v22 : BitVec 32 := v21
  let v23 : Index := Scalar.indexCast v22
  let c0_18 : Index := 0#32
  ![0, v23.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v21 : BitVec 32 := Scalar.muli arg10 c512_i32
  let v22 : BitVec 32 := v21
  let v26 : Index := Scalar.indexCast v22
  let c0_19 : Index := 0#32
  ![v26.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![arg1.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S24576x1536 : Shape := ⟨2, ![24576, 1536]⟩
abbrev S24576x2048 : Shape := ⟨2, ![24576, 2048]⟩
abbrev S24576x64 : Shape := ⟨2, ![24576, 64]⟩
abbrev S16384x1536 : Shape := ⟨2, ![16384, 1536]⟩
abbrev S16384x8x192 : Shape := ⟨3, ![16384, 8, 192]⟩
abbrev S16384x2048 : Shape := ⟨2, ![16384, 2048]⟩
abbrev S16384x8x256 : Shape := ⟨3, ![16384, 8, 256]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x8x128 : Shape := ⟨3, ![16384, 8, 128]⟩
abbrev S16384x8x64 : Shape := ⟨3, ![16384, 8, 64]⟩
abbrev S16384x1x32 : Shape := ⟨3, ![16384, 1, 32]⟩
abbrev S16384x8x32 : Shape := ⟨3, ![16384, 8, 32]⟩
abbrev S16384x64 : Shape := ⟨2, ![16384, 64]⟩
abbrev S8x16384x16384 : Shape := ⟨3, ![8, 16384, 16384]⟩
abbrev S16384x16384x8 : Shape := ⟨3, ![16384, 16384, 8]⟩
abbrev S8x16384 : Shape := ⟨2, ![8, 16384]⟩
abbrev S8x16384x1 : Shape := ⟨3, ![8, 16384, 1]⟩
abbrev S8x128x16384 : Shape := ⟨3, ![8, 128, 16384]⟩
abbrev S16384x1024 : Shape := ⟨2, ![16384, 1024]⟩

abbrev nBuf : Space → Nat
  | .hbm => 84
  | .vmem => 0
  | .smem => 0
  | _ => 0

abbrev bufTy : (tb : Table) → Fin (tcTables nBuf tb) → BufTy
  | .hbm, ⟨0, _⟩ => ⟨S24576x1536, .f32⟩
  | .hbm, ⟨1, _⟩ => ⟨S24576x2048, .f32⟩
  | .hbm, ⟨2, _⟩ => ⟨S24576x64, .f32⟩
  | .hbm, ⟨3, _⟩ => ⟨S16384x1536, .f32⟩
  | .hbm, ⟨4, _⟩ => ⟨S16384x8x192, .f32⟩
  | .hbm, ⟨5, _⟩ => ⟨S16384x2048, .f32⟩
  | .hbm, ⟨6, _⟩ => ⟨S16384x8x256, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S16384, .i32⟩
  | .hbm, ⟨22, _⟩ => ⟨S16384, .f32⟩
  | .hbm, ⟨23, _⟩ => ⟨S16384x1, .f32⟩
  | .hbm, ⟨24, _⟩ => ⟨S1x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S16384x32, .f32⟩
  | .hbm, ⟨30, _⟩ => ⟨S16384x8x128, .f32⟩
  | .hbm, ⟨31, _⟩ => ⟨S16384x8x64, .f32⟩
  | .hbm, ⟨32, _⟩ => ⟨S16384x1x32, .f32⟩
  | .hbm, ⟨33, _⟩ => ⟨S16384x1x32, .f32⟩
  | .hbm, ⟨34, _⟩ => ⟨S16384x8x32, .f32⟩
  | .hbm, ⟨35, _⟩ => ⟨S16384x8x32, .f32⟩
  | .hbm, ⟨36, _⟩ => ⟨S16384x8x32, .f32⟩
  | .hbm, ⟨37, _⟩ => ⟨S16384x8x32, .f32⟩
  | .hbm, ⟨38, _⟩ => ⟨S16384x8x32, .f32⟩
  | .hbm, ⟨39, _⟩ => ⟨S16384x8x32, .f32⟩
  | .hbm, ⟨40, _⟩ => ⟨S16384x8x32, .f32⟩
  | .hbm, ⟨41, _⟩ => ⟨S16384x8x32, .f32⟩
  | .hbm, ⟨42, _⟩ => ⟨S16384x8x32, .f32⟩
  | .hbm, ⟨43, _⟩ => ⟨S16384x8x32, .f32⟩
  | .hbm, ⟨44, _⟩ => ⟨S16384x8x32, .f32⟩
  | .hbm, ⟨45, _⟩ => ⟨S16384x8x32, .f32⟩
  | .hbm, ⟨46, _⟩ => ⟨S16384x8x64, .f32⟩
  | .hbm, ⟨47, _⟩ => ⟨S16384x8x128, .f32⟩
  | .hbm, ⟨48, _⟩ => ⟨S16384x8x128, .f32⟩
  | .hbm, ⟨49, _⟩ => ⟨S16384x64, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S16384x32, .f32⟩
  | .hbm, ⟨56, _⟩ => ⟨S16384x32, .f32⟩
  | .hbm, ⟨57, _⟩ => ⟨S16384x32, .f32⟩
  | .hbm, ⟨58, _⟩ => ⟨S16384x64, .f32⟩
  | .hbm, ⟨59, _⟩ => ⟨S8x16384x16384, .f32⟩
  | .hbm, ⟨60, _⟩ => ⟨S16384x16384x8, .f32⟩
  | .hbm, ⟨61, _⟩ => ⟨S8x16384x16384, .f32⟩
  | .hbm, ⟨62, _⟩ => ⟨S8x16384x16384, .f32⟩
  | .hbm, ⟨63, _⟩ => ⟨S_, .f32⟩
  | .hbm, ⟨64, _⟩ => ⟨S8x16384x16384, .f32⟩
  | .hbm, ⟨65, _⟩ => ⟨S8x16384x16384, .f32⟩
  | .hbm, ⟨66, _⟩ => ⟨S_, .f32⟩
  | .hbm, ⟨67, _⟩ => ⟨S8x16384, .f32⟩
  | .hbm, ⟨68, _⟩ => ⟨S_, .f32⟩
  | .hbm, ⟨69, _⟩ => ⟨S8x16384, .f32⟩
  | .hbm, ⟨70, _⟩ => ⟨S8x16384, .f32⟩
  | .hbm, ⟨71, _⟩ => ⟨S8x16384x1, .f32⟩
  | .hbm, ⟨72, _⟩ => ⟨S8x16384x16384, .f32⟩
  | .hbm, ⟨73, _⟩ => ⟨S8x16384x16384, .f32⟩
  | .hbm, ⟨74, _⟩ => ⟨S8x16384x16384, .f32⟩
  | .hbm, ⟨75, _⟩ => ⟨S_, .f32⟩
  | .hbm, ⟨76, _⟩ => ⟨S8x16384, .f32⟩
  | .hbm, ⟨77, _⟩ => ⟨S8x16384x1, .f32⟩
  | .hbm, ⟨78, _⟩ => ⟨S8x16384x16384, .f32⟩
  | .hbm, ⟨79, _⟩ => ⟨S8x16384x16384, .f32⟩
  | .hbm, ⟨80, _⟩ => ⟨S8x128x16384, .f32⟩
  | .hbm, ⟨81, _⟩ => ⟨S16384x8x128, .f32⟩
  | .hbm, ⟨82, _⟩ => ⟨S16384x1024, .f32⟩
  | .hbm, ⟨83, _⟩ => ⟨S16384x1024, .bf16⟩
  | _, _ => ⟨S24576x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_3 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_6 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩

abbrev nD : Nat := 1
abbrev τ : Topo := Topo.v7x

variable {F : FTy → Type} [FloatOps F]
-- ==== Kernel2.lean ====
abbrev S24576x2048 : Shape := ⟨2, ![24576, 2048]⟩
abbrev S2048x5632 : Shape := ⟨2, ![2048, 5632]⟩
abbrev S24576x5632 : Shape := ⟨2, ![24576, 5632]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S24576x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2048x5632, .bf16⟩
  | .hbm, ⟨5, _⟩ => ⟨S24576x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![48, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S24576x2048 : Shape := ⟨2, ![24576, 2048]⟩
abbrev S2048x5632 : Shape := ⟨2, ![2048, 5632]⟩
abbrev S24576x5632 : Shape := ⟨2, ![24576, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x5632, .f32⟩
  | .hbm, ⟨2, _⟩ => ⟨S2048x5632, .f32⟩
  | .hbm, ⟨3, _⟩ => ⟨S24576x2048, .f32⟩
  | .hbm, ⟨4, _⟩ => ⟨S24576x5632, .f32⟩
  | .hbm, ⟨5, _⟩ => ⟨S24576x5632, .f32⟩
  | .hbm, ⟨6, _⟩ => ⟨S24576x5632, .f32⟩
  | .hbm, ⟨7, _⟩ => ⟨S_, .f32⟩
  | .hbm, ⟨8, _⟩ => ⟨S24576x5632, .f32⟩
  | .hbm, ⟨9, _⟩ => ⟨S24576x5632, .f32⟩
  | .hbm, ⟨10, _⟩ => ⟨S_, .f32⟩
  | .hbm, ⟨11, _⟩ => ⟨S24576x5632, .f32⟩
  | .hbm, ⟨12, _⟩ => ⟨S24576x5632, .f32⟩
  | .hbm, ⟨13, _⟩ => ⟨S24576x5632, .f32⟩
  | .hbm, ⟨14, _⟩ => ⟨S24576x5632, .f32⟩
  | .hbm, ⟨15, _⟩ => ⟨S24576x5632, .f32⟩
  | .hbm, ⟨16, _⟩ => ⟨S24576x5632, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel3.lean ====
abbrev S24576x5632 : Shape := ⟨2, ![24576, 5632]⟩
abbrev S5632x2048 : Shape := ⟨2, ![5632, 2048]⟩
abbrev S24576x2048 : Shape := ⟨2, ![24576, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S24576x5632, .bf16⟩
  | .hbm, ⟨1, _⟩ => ⟨S5632x2048, .f32⟩
  | .hbm, ⟨2, _⟩ => ⟨S24576x2048, .f32⟩
  | .hbm, ⟨3, _⟩ => ⟨S2048, .f32⟩
  | .hbm, ⟨4, _⟩ => ⟨S5632x2048, .bf16⟩
  | .hbm, ⟨5, _⟩ => ⟨S1x2048, .f32⟩
  | .hbm, ⟨6, _⟩ => ⟨S24576x2048, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S24576x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![48, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S24576x5632 : Shape := ⟨2, ![24576, 5632]⟩
abbrev S5632x2048 : Shape := ⟨2, ![5632, 2048]⟩
abbrev S24576x2048 : Shape := ⟨2, ![24576, 2048]⟩
abbrev S2048 : Shape := ⟨1, ![2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S24576x5632, .bf16⟩
  | .hbm, ⟨1, _⟩ => ⟨S5632x2048, .f32⟩
  | .hbm, ⟨2, _⟩ => ⟨S24576x2048, .f32⟩
  | .hbm, ⟨3, _⟩ => ⟨S2048, .f32⟩
  | .hbm, ⟨4, _⟩ => ⟨S24576x5632, .f32⟩
  | .hbm, ⟨5, _⟩ => ⟨S24576x2048, .f32⟩
  | .hbm, ⟨6, _⟩ => ⟨S24576x2048, .f32⟩
  | .hbm, ⟨7, _⟩ => ⟨S_, .f32⟩
  | .hbm, ⟨8, _⟩ => ⟨S24576, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S_, .f32⟩
  | .hbm, ⟨14, _⟩ => ⟨S24576x1, .f32⟩
  | .hbm, ⟨15, _⟩ => ⟨S24576x1, .f32⟩
  | .hbm, ⟨16, _⟩ => ⟨S24576x1, .f32⟩
  | .hbm, ⟨17, _⟩ => ⟨S24576x2048, .f32⟩
  | .hbm, ⟨18, _⟩ => ⟨S24576x2048, .f32⟩
  | .hbm, ⟨19, _⟩ => ⟨S1x2048, .f32⟩
  | .hbm, ⟨20, _⟩ => ⟨S24576x2048, .f32⟩
  | .hbm, ⟨21, _⟩ => ⟨S24576x2048, .f32⟩
  | .hbm, ⟨22, _⟩ => ⟨S24576x2048, .f32⟩
  | _, _ => ⟨S24576x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S24576x2048 : Shape := ⟨2, ![24576, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2048x2048, .f32⟩
  | .hbm, ⟨2, _⟩ => ⟨S2048x2048, .bf16⟩
  | .hbm, ⟨3, _⟩ => ⟨S24576x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![48, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S24576x2048 : Shape := ⟨2, ![24576, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x2048, .f32⟩
  | .hbm, ⟨2, _⟩ => ⟨S24576x2048, .f32⟩
  | .hbm, ⟨3, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S24576x2048 : Shape := ⟨2, ![24576, 2048]⟩
abbrev S2048x2048 : Shape := ⟨2, ![2048, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S24576x2048, .bf16⟩
  | .hbm, ⟨1, _⟩ => ⟨S2048x2048, .f32⟩
  | .hbm, ⟨2, _⟩ => ⟨S24576x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S24576x2048, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![48, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S24576x2048 : Shape := ⟨2, ![24576, 2048]⟩
abbrev S2048x2048 : Shape := ⟨2, ![2048, 2048]⟩
abbrev S2048 : Shape := ⟨1, ![2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x2048, .f32⟩
  | .hbm, ⟨2, _⟩ => ⟨S24576x2048, .f32⟩
  | .hbm, ⟨3, _⟩ => ⟨S2048, .f32⟩
  | .hbm, ⟨4, _⟩ => ⟨S24576x2048, .f32⟩
  | .hbm, ⟨5, _⟩ => ⟨S24576x2048, .f32⟩
  | .hbm, ⟨6, _⟩ => ⟨S24576x2048, .f32⟩
  | .hbm, ⟨7, _⟩ => ⟨S_, .f32⟩
  | .hbm, ⟨8, _⟩ => ⟨S24576, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S_, .f32⟩
  | .hbm, ⟨14, _⟩ => ⟨S24576x1, .f32⟩
  | .hbm, ⟨15, _⟩ => ⟨S24576x1, .f32⟩
  | .hbm, ⟨16, _⟩ => ⟨S24576x1, .f32⟩
  | .hbm, ⟨17, _⟩ => ⟨S24576x2048, .f32⟩
  | .hbm, ⟨18, _⟩ => ⟨S24576x2048, .f32⟩
  | .hbm, ⟨19, _⟩ => ⟨S1x2048, .f32⟩
  | .hbm, ⟨20, _⟩ => ⟨S24576x2048, .f32⟩
  | .hbm, ⟨21, _⟩ => ⟨S24576x2048, .f32⟩
  | .hbm, ⟨22, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel6.lean ====
abbrev S24576x2048 : Shape := ⟨2, ![24576, 2048]⟩
abbrev S2048x4160 : Shape := ⟨2, ![2048, 4160]⟩
abbrev S2048x1024 : Shape := ⟨2, ![2048, 1024]⟩
abbrev S2048x3072 : Shape := ⟨2, ![2048, 3072]⟩
abbrev S2048x4096 : Shape := ⟨2, ![2048, 4096]⟩
abbrev S24576x4096 : Shape := ⟨2, ![24576, 4096]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S24576x2048, .f32⟩
  | .hbm, ⟨1, _⟩ => ⟨S2048x4160, .f32⟩
  | .hbm, ⟨2, _⟩ => ⟨S2048x1024, .f32⟩
  | .hbm, ⟨3, _⟩ => ⟨S2048x3072, .f32⟩
  | .hbm, ⟨4, _⟩ => ⟨S2048x4096, .f32⟩
  | .hbm, ⟨5, _⟩ => ⟨S2048x4096, .bf16⟩
  | .hbm, ⟨6, _⟩ => ⟨S24576x4096, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![48, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S24576x2048 : Shape := ⟨2, ![24576, 2048]⟩
abbrev S2048x4160 : Shape := ⟨2, ![2048, 4160]⟩
abbrev S24576x4160 : Shape := ⟨2, ![24576, 4160]⟩
abbrev S24576x512 : Shape := ⟨2, ![24576, 512]⟩
abbrev S24576x64 : Shape := ⟨2, ![24576, 64]⟩
abbrev S24576x1024 : Shape := ⟨2, ![24576, 1024]⟩
abbrev S24576x4096 : Shape := ⟨2, ![24576, 4096]⟩

abbrev nBuf : Space → Nat
  | .hbm => 10
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048x4160, .f32⟩
  | .hbm, ⟨2, _⟩ => ⟨S24576x4160, .f32⟩
  | .hbm, ⟨3, _⟩ => ⟨S24576x512, .f32⟩
  | .hbm, ⟨4, _⟩ => ⟨S24576x512, .f32⟩
  | .hbm, ⟨5, _⟩ => ⟨S24576x64, .f32⟩
  | .hbm, ⟨6, _⟩ => ⟨S24576x1024, .f32⟩
  | .hbm, ⟨7, _⟩ => ⟨S24576x1024, .f32⟩
  | .hbm, ⟨8, _⟩ => ⟨S24576x1024, .f32⟩
  | .hbm, ⟨9, _⟩ => ⟨S24576x4096, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel7.lean ====
abbrev S24576x2048 : Shape := ⟨2, ![24576, 2048]⟩
abbrev S2048x256 : Shape := ⟨2, ![2048, 256]⟩
abbrev S256x2048 : Shape := ⟨2, ![256, 2048]⟩
abbrev S24576x256 : Shape := ⟨2, ![24576, 256]⟩
abbrev S512x2048 : Shape := ⟨2, ![512, 2048]⟩
abbrev S512x256 : Shape := ⟨2, ![512, 256]⟩
abbrev S256x512 : Shape := ⟨2, ![256, 512]⟩
abbrev S512x512 : Shape := ⟨2, ![512, 512]⟩

abbrev nBuf : Space → Nat
  | .hbm => 7
  | .vmem => 11
  | .smem => 0
  | _ => 0

abbrev bufTy : (tb : Table) → Fin (tcTables nBuf tb) → BufTy
  | .hbm, ⟨0, _⟩ => ⟨S24576x2048, .bf16⟩
  | .hbm, ⟨1, _⟩ => ⟨S2048x256, .f32⟩
  | .hbm, ⟨2, _⟩ => ⟨S256x2048, .f32⟩
  | .hbm, ⟨3, _⟩ => ⟨S2048x256, .bf16⟩
  | .hbm, ⟨4, _⟩ => ⟨S24576x256, .bf16⟩
  | .hbm, ⟨5, _⟩ => ⟨S256x2048, .bf16⟩
  | .hbm, ⟨6, _⟩ => ⟨S24576x2048, .f32⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S256x512, .bf16⟩
  | .local _ .vmem, ⟨8, _⟩ => ⟨S256x512, .bf16⟩
  | .local _ .vmem, ⟨9, _⟩ => ⟨S512x512, .f32⟩
  | .local _ .vmem, ⟨10, _⟩ => ⟨S512x512, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![48, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![48, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference7Ideal.lean ====
abbrev S24576x2048 : Shape := ⟨2, ![24576, 2048]⟩
abbrev S2048x256 : Shape := ⟨2, ![2048, 256]⟩
abbrev S256x2048 : Shape := ⟨2, ![256, 2048]⟩
abbrev S24576x256 : Shape := ⟨2, ![24576, 256]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x256, .f32⟩
  | .hbm, ⟨2, _⟩ => ⟨S256x2048, .f32⟩
  | .hbm, ⟨3, _⟩ => ⟨S24576x2048, .f32⟩
  | .hbm, ⟨4, _⟩ => ⟨S24576x256, .f32⟩
  | .hbm, ⟨5, _⟩ => ⟨S24576x256, .f32⟩
  | .hbm, ⟨6, _⟩ => ⟨S24576x256, .f32⟩
  | .hbm, ⟨7, _⟩ => ⟨S_, .f32⟩
  | .hbm, ⟨8, _⟩ => ⟨S24576x256, .f32⟩
  | .hbm, ⟨9, _⟩ => ⟨S24576x256, .f32⟩
  | .hbm, ⟨10, _⟩ => ⟨S_, .f32⟩
  | .hbm, ⟨11, _⟩ => ⟨S24576x256, .f32⟩
  | .hbm, ⟨12, _⟩ => ⟨S24576x256, .f32⟩
  | .hbm, ⟨13, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel8.lean ====
abbrev S24576x4096 : Shape := ⟨2, ![24576, 4096]⟩
abbrev S512 : Shape := ⟨1, ![512]⟩
abbrev S512x1536 : Shape := ⟨2, ![512, 1536]⟩
abbrev S512x2048 : Shape := ⟨2, ![512, 2048]⟩
abbrev S1x512 : Shape := ⟨2, ![1, 512]⟩
abbrev S24576x512 : Shape := ⟨2, ![24576, 512]⟩
abbrev S512x512 : Shape := ⟨2, ![512, 512]⟩
abbrev S512x1 : Shape := ⟨2, ![512, 1]⟩
abbrev S24576x1536 : Shape := ⟨2, ![24576, 1536]⟩
abbrev S24576x2048 : Shape := ⟨2, ![24576, 2048]⟩

abbrev nBuf : Space → Nat
  | .hbm => 13
  | .vmem => 22
  | .smem => 0
  | _ => 0

abbrev bufTy : (tb : Table) → Fin (tcTables nBuf tb) → BufTy
  | .hbm, ⟨0, _⟩ => ⟨S24576x4096, .f32⟩
  | .hbm, ⟨1, _⟩ => ⟨S512, .f32⟩
  | .hbm, ⟨2, _⟩ => ⟨S512, .f32⟩
  | .hbm, ⟨3, _⟩ => ⟨S512x1536, .f32⟩
  | .hbm, ⟨4, _⟩ => ⟨S512x2048, .f32⟩
  | .hbm, ⟨5, _⟩ => ⟨S1x512, .f32⟩
  | .hbm, ⟨6, _⟩ => ⟨S24576x512, .bf16⟩
  | .hbm, ⟨7, _⟩ => ⟨S1x512, .f32⟩
  | .hbm, ⟨8, _⟩ => ⟨S24576x512, .bf16⟩
  | .hbm, ⟨9, _⟩ => ⟨S512x1536, .bf16⟩
  | .hbm, ⟨10, _⟩ => ⟨S24576x1536, .f32⟩
  | .hbm, ⟨11, _⟩ => ⟨S512x2048, .bf16⟩
  | .hbm, ⟨12, _⟩ => ⟨S24576x2048, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![48, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![48, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference8Ideal.lean ====
abbrev S24576x4096 : Shape := ⟨2, ![24576, 4096]⟩
abbrev S512 : Shape := ⟨1, ![512]⟩
abbrev S512x1536 : Shape := ⟨2, ![512, 1536]⟩
abbrev S512x2048 : Shape := ⟨2, ![512, 2048]⟩
abbrev S24576x512 : Shape := ⟨2, ![24576, 512]⟩
abbrev S_ : Shape := ⟨0, ![]⟩
abbrev S24576 : Shape := ⟨1, ![24576]⟩
abbrev S24576x1 : Shape := ⟨2, ![24576, 1]⟩
abbrev S1x512 : Shape := ⟨2, ![1, 512]⟩
abbrev S24576x1536 : Shape := ⟨2, ![24576, 1536]⟩
abbrev S24576x2048 : Shape := ⟨2, ![24576, 2048]⟩

abbrev nBuf : Space → Nat
  | .hbm => 41
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S512, .f32⟩
  | .hbm, ⟨2, _⟩ => ⟨S512, .f32⟩
  | .hbm, ⟨3, _⟩ => ⟨S512x1536, .f32⟩
  | .hbm, ⟨4, _⟩ => ⟨S512x2048, .f32⟩
  | .hbm, ⟨5, _⟩ => ⟨S24576x512, .f32⟩
  | .hbm, ⟨6, _⟩ => ⟨S24576x512, .f32⟩
  | .hbm, ⟨7, _⟩ => ⟨S24576x512, .f32⟩
  | .hbm, ⟨8, _⟩ => ⟨S_, .f32⟩
  | .hbm, ⟨9, _⟩ => ⟨S24576, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S_, .f32⟩
  | .hbm, ⟨15, _⟩ => ⟨S24576x1, .f32⟩
  | .hbm, ⟨16, _⟩ => ⟨S24576x1, .f32⟩
  | .hbm, ⟨17, _⟩ => ⟨S24576x1, .f32⟩
  | .hbm, ⟨18, _⟩ => ⟨S24576x512, .f32⟩
  | .hbm, ⟨19, _⟩ => ⟨S24576x512, .f32⟩
  | .hbm, ⟨20, _⟩ => ⟨S1x512, .f32⟩
  | .hbm, ⟨21, _⟩ => ⟨S24576x512, .f32⟩
  | .hbm, ⟨22, _⟩ => ⟨S24576x512, .f32⟩
  | .hbm, ⟨23, _⟩ => ⟨S24576x1536, .f32⟩
  | .hbm, ⟨24, _⟩ => ⟨S24576x512, .f32⟩
  | .hbm, ⟨25, _⟩ => ⟨S_, .f32⟩
  | .hbm, ⟨26, _⟩ => ⟨S24576, .f32⟩
  | .hbm, ⟨27, _⟩ => ⟨S24576x1, .f32⟩
  | .hbm, ⟨28, _⟩ => ⟨S_, .f32⟩
  | .hbm, ⟨29, _⟩ => ⟨S24576x1, .f32⟩
  | .hbm, ⟨30, _⟩ => ⟨S24576x1, .f32⟩
  | .hbm, ⟨31, _⟩ => ⟨S_, .f32⟩
  | .hbm, ⟨32, _⟩ => ⟨S24576x1, .f32⟩
  | .hbm, ⟨33, _⟩ => ⟨S24576x1, .f32⟩
  | .hbm, ⟨34, _⟩ => ⟨S24576x1, .f32⟩
  | .hbm, ⟨35, _⟩ => ⟨S24576x512, .f32⟩
  | .hbm, ⟨36, _⟩ => ⟨S24576x512, .f32⟩
  | .hbm, ⟨37, _⟩ => ⟨S1x512, .f32⟩
  | .hbm, ⟨38, _⟩ => ⟨S24576x512, .f32⟩
  | .hbm, ⟨39, _⟩ => ⟨S24576x512, .f32⟩
  | .hbm, ⟨40, _⟩ => ⟨S24576x2048, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel9.lean ====
abbrev S24576x2048 : Shape := ⟨2, ![24576, 2048]⟩
abbrev S2x2048x96 : Shape := ⟨3, ![2, 2048, 96]⟩
abbrev S2x96x2048 : Shape := ⟨3, ![2, 96, 2048]⟩
abbrev S_ : Shape := ⟨0, ![]⟩
abbrev S2x2048x128 : Shape := ⟨3, ![2, 2048, 128]⟩
abbrev S2x128x2048 : Shape := ⟨3, ![2, 128, 2048]⟩
abbrev S1x2048x128 : Shape := ⟨3, ![1, 2048, 128]⟩
abbrev S2048x128 : Shape := ⟨2, ![2048, 128]⟩
abbrev S2048x256 : Shape := ⟨2, ![2048, 256]⟩
abbrev S24576x256 : Shape := ⟨2, ![24576, 256]⟩
abbrev S512x2048 : Shape := ⟨2, ![512, 2048]⟩
abbrev S512x256 : Shape := ⟨2, ![512, 256]⟩
abbrev S1x128x2048 : Shape := ⟨3, ![1, 128, 2048]⟩
abbrev S128x2048 : Shape := ⟨2, ![128, 2048]⟩
abbrev S512x128 : Shape := ⟨2, ![512, 128]⟩
abbrev S128x512 : Shape := ⟨2, ![128, 512]⟩
abbrev S512x512 : Shape := ⟨2, ![512, 512]⟩

abbrev nBuf : Space → Nat
  | .hbm => 23
  | .vmem => 17
  | .smem => 0
  | _ => 0

abbrev bufTy : (tb : Table) → Fin (tcTables nBuf tb) → BufTy
  | .hbm, ⟨0, _⟩ => ⟨S24576x2048, .bf16⟩
  | .hbm, ⟨1, _⟩ => ⟨S2x2048x96, .f32⟩
  | .hbm, ⟨2, _⟩ => ⟨S2x96x2048, .f32⟩
  | .hbm, ⟨3, _⟩ => ⟨S_, .i32⟩
  | .hbm, ⟨4, _⟩ => ⟨S_, .f32⟩
  | .hbm, ⟨5, _⟩ => ⟨S2x2048x128, .f32⟩
  | .hbm, ⟨6, _⟩ => ⟨S_, .i32⟩
  | .hbm, ⟨7, _⟩ => ⟨S_, .f32⟩
  | .hbm, ⟨8, _⟩ => ⟨S2x128x2048, .f32⟩
  | .hbm, ⟨9, _⟩ => ⟨S1x2048x128, .f32⟩
  | .hbm, ⟨10, _⟩ => ⟨S2048x128, .f32⟩
  | .hbm, ⟨11, _⟩ => ⟨S1x2048x128, .f32⟩
  | .hbm, ⟨12, _⟩ => ⟨S2048x128, .f32⟩
  | .hbm, ⟨13, _⟩ => ⟨S2048x256, .f32⟩
  | .hbm, ⟨14, _⟩ => ⟨S2048x256, .bf16⟩
  | .hbm, ⟨15, _⟩ => ⟨S2x128x2048, .bf16⟩
  | .hbm, ⟨16, _⟩ => ⟨S24576x256, .bf16⟩
  | .hbm, ⟨17, _⟩ => ⟨S1x128x2048, .bf16⟩
  | .hbm, ⟨18, _⟩ => ⟨S128x2048, .bf16⟩
  | .hbm, ⟨19, _⟩ => ⟨S24576x2048, .f32⟩
  | .hbm, ⟨20, _⟩ => ⟨S1x128x2048, .bf16⟩
  | .hbm, ⟨21, _⟩ => ⟨S128x2048, .bf16⟩
  | .hbm, ⟨22, _⟩ => ⟨S24576x2048, .f32⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S512x256, .bf16⟩
  | .local _ .vmem, ⟨4, _⟩ => ⟨S512x256, .bf16⟩
  | .local _ .vmem, ⟨5, _⟩ => ⟨S512x128, .bf16⟩
  | .local _ .vmem, ⟨6, _⟩ => ⟨S512x128, .bf16⟩
  | .local _ .vmem, ⟨7, _⟩ => ⟨S128x512, .bf16⟩
  | .local _ .vmem, ⟨8, _⟩ => ⟨S128x512, .bf16⟩
  | .local _ .vmem, ⟨9, _⟩ => ⟨S512x512, .f32⟩
  | .local _ .vmem, ⟨10, _⟩ => ⟨S512x512, .f32⟩
  | .local _ .vmem, ⟨11, _⟩ => ⟨S512x128, .bf16⟩
  | .local _ .vmem, ⟨12, _⟩ => ⟨S512x128, .bf16⟩
  | .local _ .vmem, ⟨13, _⟩ => ⟨S128x512, .bf16⟩
  | .local _ .vmem, ⟨14, _⟩ => ⟨S128x512, .bf16⟩
  | .local _ .vmem, ⟨15, _⟩ => ⟨S512x512, .f32⟩
  | .local _ .vmem, ⟨16, _⟩ => ⟨S512x512, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨2, ![48, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![48, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![48, 4], ![false, false]⟩

def cc2_transform_0 (i : grid2.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference9Ideal.lean ====
abbrev S24576x2048 : Shape := ⟨2, ![24576, 2048]⟩
abbrev S2x2048x96 : Shape := ⟨3, ![2, 2048, 96]⟩
abbrev S2x96x2048 : Shape := ⟨3, ![2, 96, 2048]⟩
abbrev S1x2048x96 : Shape := ⟨3, ![1, 2048, 96]⟩
abbrev S2048x96 : Shape := ⟨2, ![2048, 96]⟩
abbrev S24576x96 : Shape := ⟨2, ![24576, 96]⟩
abbrev S1x96x2048 : Shape := ⟨3, ![1, 96, 2048]⟩
abbrev S96x2048 : Shape := ⟨2, ![96, 2048]⟩

abbrev nBuf : Space → Nat
  | .hbm => 18
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2x2048x96, .f32⟩
  | .hbm, ⟨2, _⟩ => ⟨S2x96x2048, .f32⟩
  | .hbm, ⟨3, _⟩ => ⟨S24576x2048, .f32⟩
  | .hbm, ⟨4, _⟩ => ⟨S1x2048x96, .f32⟩
  | .hbm, ⟨5, _⟩ => ⟨S2048x96, .f32⟩
  | .hbm, ⟨6, _⟩ => ⟨S24576x96, .f32⟩
  | .hbm, ⟨7, _⟩ => ⟨S24576x96, .f32⟩
  | .hbm, ⟨8, _⟩ => ⟨S1x96x2048, .f32⟩
  | .hbm, ⟨9, _⟩ => ⟨S96x2048, .f32⟩
  | .hbm, ⟨10, _⟩ => ⟨S24576x2048, .f32⟩
  | .hbm, ⟨11, _⟩ => ⟨S1x2048x96, .f32⟩
  | .hbm, ⟨12, _⟩ => ⟨S2048x96, .f32⟩
  | .hbm, ⟨13, _⟩ => ⟨S24576x96, .f32⟩
  | .hbm, ⟨14, _⟩ => ⟨S24576x96, .f32⟩
  | .hbm, ⟨15, _⟩ => ⟨S1x96x2048, .f32⟩
  | .hbm, ⟨16, _⟩ => ⟨S96x2048, .f32⟩
  | .hbm, ⟨17, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel10.lean ====
abbrev S24576x2048 : Shape := ⟨2, ![24576, 2048]⟩
abbrev S2x2048x96 : Shape := ⟨3, ![2, 2048, 96]⟩
abbrev S2x96x2048 : Shape := ⟨3, ![2, 96, 2048]⟩
abbrev S_ : Shape := ⟨0, ![]⟩
abbrev S2x2048x128 : Shape := ⟨3, ![2, 2048, 128]⟩
abbrev S2x128x2048 : Shape := ⟨3, ![2, 128, 2048]⟩
abbrev S1x2048x128 : Shape := ⟨3, ![1, 2048, 128]⟩
abbrev S2048x128 : Shape := ⟨2, ![2048, 128]⟩
abbrev S2048x256 : Shape := ⟨2, ![2048, 256]⟩
abbrev S24576x256 : Shape := ⟨2, ![24576, 256]⟩
abbrev S512x2048 : Shape := ⟨2, ![512, 2048]⟩
abbrev S512x256 : Shape := ⟨2, ![512, 256]⟩
abbrev S1x128x2048 : Shape := ⟨3, ![1, 128, 2048]⟩
abbrev S128x2048 : Shape := ⟨2, ![128, 2048]⟩
abbrev S512x128 : Shape := ⟨2, ![512, 128]⟩
abbrev S128x512 : Shape := ⟨2, ![128, 512]⟩
abbrev S512x512 : Shape := ⟨2, ![512, 512]⟩

abbrev nBuf : Space → Nat
  | .hbm => 23
  | .vmem => 17
  | .smem => 0
  | _ => 0

abbrev bufTy : (tb : Table) → Fin (tcTables nBuf tb) → BufTy
  | .hbm, ⟨0, _⟩ => ⟨S24576x2048, .bf16⟩
  | .hbm, ⟨1, _⟩ => ⟨S2x2048x96, .f32⟩
  | .hbm, ⟨2, _⟩ => ⟨S2x96x2048, .f32⟩
  | .hbm, ⟨3, _⟩ => ⟨S_, .i32⟩
  | .hbm, ⟨4, _⟩ => ⟨S_, .f32⟩
  | .hbm, ⟨5, _⟩ => ⟨S2x2048x128, .f32⟩
  | .hbm, ⟨6, _⟩ => ⟨S_, .i32⟩
  | .hbm, ⟨7, _⟩ => ⟨S_, .f32⟩
  | .hbm, ⟨8, _⟩ => ⟨S2x128x2048, .f32⟩
  | .hbm, ⟨9, _⟩ => ⟨S1x2048x128, .f32⟩
  | .hbm, ⟨10, _⟩ => ⟨S2048x128, .f32⟩
  | .hbm, ⟨11, _⟩ => ⟨S1x2048x128, .f32⟩
  | .hbm, ⟨12, _⟩ => ⟨S2048x128, .f32⟩
  | .hbm, ⟨13, _⟩ => ⟨S2048x256, .f32⟩
  | .hbm, ⟨14, _⟩ => ⟨S2048x256, .bf16⟩
  | .hbm, ⟨15, _⟩ => ⟨S2x128x2048, .bf16⟩
  | .hbm, ⟨16, _⟩ => ⟨S24576x256, .bf16⟩
  | .hbm, ⟨17, _⟩ => ⟨S1x128x2048, .bf16⟩
  | .hbm, ⟨18, _⟩ => ⟨S128x2048, .bf16⟩
  | .hbm, ⟨19, _⟩ => ⟨S24576x2048, .f32⟩
  | .hbm, ⟨20, _⟩ => ⟨S1x128x2048, .bf16⟩
  | .hbm, ⟨21, _⟩ => ⟨S128x2048, .bf16⟩
  | .hbm, ⟨22, _⟩ => ⟨S24576x2048, .f32⟩
  | .local _ .vmem, ⟨0, _⟩ => ⟨S512x2048, .bf16⟩
  | .local _ .vmem, ⟨1, _⟩ => ⟨S512x2048, .bf16⟩
  | .local _ .vmem, ⟨2, _⟩ => ⟨S2048x256, .bf16⟩
  | .local _ .vmem, ⟨3, _⟩ => ⟨S512x256, .bf16⟩
  | .local _ .vmem, ⟨4, _⟩ => ⟨S512x256, .bf16⟩
  | .local _ .vmem, ⟨5, _⟩ => ⟨S512x128, .bf16⟩
  | .local _ .vmem, ⟨6, _⟩ => ⟨S512x128, .bf16⟩
  | .local _ .vmem, ⟨7, _⟩ => ⟨S128x512, .bf16⟩
  | .local _ .vmem, ⟨8, _⟩ => ⟨S128x512, .bf16⟩
  | .local _ .vmem, ⟨9, _⟩ => ⟨S512x512, .f32⟩
  | .local _ .vmem, ⟨10, _⟩ => ⟨S512x512, .f32⟩
  | .local _ .vmem, ⟨11, _⟩ => ⟨S512x128, .bf16⟩
  | .local _ .vmem, ⟨12, _⟩ => ⟨S512x128, .bf16⟩
  | .local _ .vmem, ⟨13, _⟩ => ⟨S128x512, .bf16⟩
  | .local _ .vmem, ⟨14, _⟩ => ⟨S128x512, .bf16⟩
  | .local _ .vmem, ⟨15, _⟩ => ⟨S512x512, .f32⟩
  | .local _ .vmem, ⟨16, _⟩ => ⟨S512x512, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨2, ![48, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![48, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![48, 4], ![false, false]⟩

def cc2_transform_0 (i : grid2.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference10Ideal.lean ====
abbrev S24576x2048 : Shape := ⟨2, ![24576, 2048]⟩
abbrev S2x2048x96 : Shape := ⟨3, ![2, 2048, 96]⟩
abbrev S2x96x2048 : Shape := ⟨3, ![2, 96, 2048]⟩
abbrev S1x2048x96 : Shape := ⟨3, ![1, 2048, 96]⟩
abbrev S2048x96 : Shape := ⟨2, ![2048, 96]⟩
abbrev S24576x96 : Shape := ⟨2, ![24576, 96]⟩
abbrev S1x96x2048 : Shape := ⟨3, ![1, 96, 2048]⟩
abbrev S96x2048 : Shape := ⟨2, ![96, 2048]⟩

abbrev nBuf : Space → Nat
  | .hbm => 16
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2x2048x96, .f32⟩
  | .hbm, ⟨2, _⟩ => ⟨S2x96x2048, .f32⟩
  | .hbm, ⟨3, _⟩ => ⟨S24576x2048, .f32⟩
  | .hbm, ⟨4, _⟩ => ⟨S1x2048x96, .f32⟩
  | .hbm, ⟨5, _⟩ => ⟨S2048x96, .f32⟩
  | .hbm, ⟨6, _⟩ => ⟨S24576x96, .f32⟩
  | .hbm, ⟨7, _⟩ => ⟨S1x96x2048, .f32⟩
  | .hbm, ⟨8, _⟩ => ⟨S96x2048, .f32⟩
  | .hbm, ⟨9, _⟩ => ⟨S24576x2048, .f32⟩
  | .hbm, ⟨10, _⟩ => ⟨S1x2048x96, .f32⟩
  | .hbm, ⟨11, _⟩ => ⟨S2048x96, .f32⟩
  | .hbm, ⟨12, _⟩ => ⟨S24576x96, .f32⟩
  | .hbm, ⟨13, _⟩ => ⟨S1x96x2048, .f32⟩
  | .hbm, ⟨14, _⟩ => ⟨S96x2048, .f32⟩
  | .hbm, ⟨15, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel11.lean ====
abbrev S24576x2048 : Shape := ⟨2, ![24576, 2048]⟩
abbrev S2048x4160 : Shape := ⟨2, ![2048, 4160]⟩
abbrev S2048x64 : Shape := ⟨2, ![2048, 64]⟩
abbrev S_ : Shape := ⟨0, ![]⟩
abbrev S2048x128 : Shape := ⟨2, ![2048, 128]⟩
abbrev S24576x128 : Shape := ⟨2, ![24576, 128]⟩
abbrev S512x2048 : Shape := ⟨2, ![512, 2048]⟩
abbrev S512x128 : Shape := ⟨2, ![512, 128]⟩
abbrev S24576x64 : Shape := ⟨2, ![24576, 64]⟩

abbrev nBuf : Space → Nat
  | .hbm => 9
  | .vmem => 5
  | .smem => 0
  | _ => 0

abbrev bufTy : (tb : Table) → Fin (tcTables nBuf tb) → BufTy
  | .hbm, ⟨0, _⟩ => ⟨S24576x2048, .f32⟩
  | .hbm, ⟨1, _⟩ => ⟨S2048x4160, .f32⟩
  | .hbm, ⟨2, _⟩ => ⟨S2048x64, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x128, .bf16⟩
  | .hbm, ⟨7, _⟩ => ⟨S24576x128, .f32⟩
  | .hbm, ⟨8, _⟩ => ⟨S24576x64, .f32⟩
  | .local _ .vmem, ⟨0, _⟩ => ⟨S512x2048, .f32⟩
  | .local _ .vmem, ⟨1, _⟩ => ⟨S512x2048, .f32⟩
  | .local _ .vmem, ⟨2, _⟩ => ⟨S2048x128, .bf16⟩
  | .local _ .vmem, ⟨3, _⟩ => ⟨S512x128, .f32⟩
  | .local _ .vmem, ⟨4, _⟩ => ⟨S512x128, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![48, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S24576x2048 : Shape := ⟨2, ![24576, 2048]⟩
abbrev S2048x4160 : Shape := ⟨2, ![2048, 4160]⟩
abbrev S24576x4160 : Shape := ⟨2, ![24576, 4160]⟩
abbrev S24576x512 : Shape := ⟨2, ![24576, 512]⟩
abbrev S24576x64 : Shape := ⟨2, ![24576, 64]⟩
abbrev S24576x1024 : Shape := ⟨2, ![24576, 1024]⟩

abbrev nBuf : Space → Nat
  | .hbm => 9
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048x4160, .f32⟩
  | .hbm, ⟨2, _⟩ => ⟨S24576x4160, .f32⟩
  | .hbm, ⟨3, _⟩ => ⟨S24576x512, .f32⟩
  | .hbm, ⟨4, _⟩ => ⟨S24576x512, .f32⟩
  | .hbm, ⟨5, _⟩ => ⟨S24576x64, .f32⟩
  | .hbm, ⟨6, _⟩ => ⟨S24576x1024, .f32⟩
  | .hbm, ⟨7, _⟩ => ⟨S24576x1024, .f32⟩
  | .hbm, ⟨8, _⟩ => ⟨S24576x1024, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel12.lean ====
abbrev S24576x2048 : Shape := ⟨2, ![24576, 2048]⟩
abbrev S2048 : Shape := ⟨1, ![2048]⟩
abbrev S2048x5632 : Shape := ⟨2, ![2048, 5632]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S24576x5632 : Shape := ⟨2, ![24576, 5632]⟩
abbrev S2048x512 : Shape := ⟨2, ![2048, 512]⟩
abbrev S512x512 : Shape := ⟨2, ![512, 512]⟩

abbrev nBuf : Space → Nat
  | .hbm => 9
  | .vmem => 13
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S1x2048, .f32⟩
  | .hbm, ⟨5, _⟩ => ⟨S24576x2048, .bf16⟩
  | .hbm, ⟨6, _⟩ => ⟨S2048x5632, .bf16⟩
  | .hbm, ⟨7, _⟩ => ⟨S2048x5632, .bf16⟩
  | .hbm, ⟨8, _⟩ => ⟨S24576x5632, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x512, .bf16⟩
  | .local _ .vmem, ⟨12, _⟩ => ⟨S512x512, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![48, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference12Ideal.lean ====
abbrev S24576x2048 : Shape := ⟨2, ![24576, 2048]⟩
abbrev S2048 : Shape := ⟨1, ![2048]⟩
abbrev S2048x5632 : Shape := ⟨2, ![2048, 5632]⟩
abbrev S_ : Shape := ⟨0, ![]⟩
abbrev S24576 : Shape := ⟨1, ![24576]⟩
abbrev S24576x1 : Shape := ⟨2, ![24576, 1]⟩
abbrev S1x2048 : Shape := ⟨2, ![1, 2048]⟩
abbrev S24576x5632 : Shape := ⟨2, ![24576, 5632]⟩

abbrev nBuf : Space → Nat
  | .hbm => 33
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S24576x2048, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x2048, .f32⟩
  | .hbm, ⟨16, _⟩ => ⟨S24576x2048, .f32⟩
  | .hbm, ⟨17, _⟩ => ⟨S1x2048, .f32⟩
  | .hbm, ⟨18, _⟩ => ⟨S24576x2048, .f32⟩
  | .hbm, ⟨19, _⟩ => ⟨S24576x2048, .f32⟩
  | .hbm, ⟨20, _⟩ => ⟨S24576x5632, .f32⟩
  | .hbm, ⟨21, _⟩ => ⟨S24576x5632, .f32⟩
  | .hbm, ⟨22, _⟩ => ⟨S24576x5632, .f32⟩
  | .hbm, ⟨23, _⟩ => ⟨S_, .f32⟩
  | .hbm, ⟨24, _⟩ => ⟨S24576x5632, .f32⟩
  | .hbm, ⟨25, _⟩ => ⟨S24576x5632, .f32⟩
  | .hbm, ⟨26, _⟩ => ⟨S_, .f32⟩
  | .hbm, ⟨27, _⟩ => ⟨S24576x5632, .f32⟩
  | .hbm, ⟨28, _⟩ => ⟨S24576x5632, .f32⟩
  | .hbm, ⟨29, _⟩ => ⟨S24576x5632, .f32⟩
  | .hbm, ⟨30, _⟩ => ⟨S24576x5632, .f32⟩
  | .hbm, ⟨31, _⟩ => ⟨S24576x5632, .f32⟩
  | .hbm, ⟨32, _⟩ => ⟨S24576x5632, .bf16⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Kernel13.lean ====
abbrev S24576x2048 : Shape := ⟨2, ![24576, 2048]⟩
abbrev S2048 : Shape := ⟨1, ![2048]⟩
abbrev S2048x4160 : Shape := ⟨2, ![2048, 4160]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩
abbrev S2048x3072 : Shape := ⟨2, ![2048, 3072]⟩
abbrev S2048x4096 : Shape := ⟨2, ![2048, 4096]⟩
abbrev S2048x64 : Shape := ⟨2, ![2048, 64]⟩
abbrev S_ : Shape := ⟨0, ![]⟩
abbrev S2048x128 : Shape := ⟨2, ![2048, 128]⟩
abbrev S24576x4096 : Shape := ⟨2, ![24576, 4096]⟩
abbrev S2048x512 : Shape := ⟨2, ![2048, 512]⟩
abbrev S512x512 : Shape := ⟨2, ![512, 512]⟩
abbrev S24576x128 : Shape := ⟨2, ![24576, 128]⟩
abbrev S512x128 : Shape := ⟨2, ![512, 128]⟩
abbrev S24576x64 : Shape := ⟨2, ![24576, 64]⟩

abbrev nBuf : Space → Nat
  | .hbm => 17
  | .vmem => 16
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S2048x4160, .f32⟩
  | .hbm, ⟨3, _⟩ => ⟨S1x2048, .f32⟩
  | .hbm, ⟨4, _⟩ => ⟨S24576x2048, .f32⟩
  | .hbm, ⟨5, _⟩ => ⟨S2048x1024, .f32⟩
  | .hbm, ⟨6, _⟩ => ⟨S2048x3072, .f32⟩
  | .hbm, ⟨7, _⟩ => ⟨S2048x4096, .f32⟩
  | .hbm, ⟨8, _⟩ => ⟨S2048x4096, .bf16⟩
  | .hbm, ⟨9, _⟩ => ⟨S2048x64, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S24576x4096, .f32⟩
  | .hbm, ⟨14, _⟩ => ⟨S2048x128, .bf16⟩
  | .hbm, ⟨15, _⟩ => ⟨S24576x128, .f32⟩
  | .hbm, ⟨16, _⟩ => ⟨S24576x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S2048x512, .bf16⟩
  | .local _ .vmem, ⟨8, _⟩ => ⟨S2048x512, .bf16⟩
  | .local _ .vmem, ⟨9, _⟩ => ⟨S512x512, .f32⟩
  | .local _ .vmem, ⟨10, _⟩ => ⟨S512x512, .f32⟩
  | .local _ .vmem, ⟨11, _⟩ => ⟨S512x2048, .f32⟩
  | .local _ .vmem, ⟨12, _⟩ => ⟨S512x2048, .f32⟩
  | .local _ .vmem, ⟨13, _⟩ => ⟨S2048x128, .bf16⟩
  | .local _ .vmem, ⟨14, _⟩ => ⟨S512x128, .f32⟩
  | .local _ .vmem, ⟨15, _⟩ => ⟨S512x128, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![48, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![48, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S2048x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference13Ideal.lean ====
abbrev S24576x2048 : Shape := ⟨2, ![24576, 2048]⟩
abbrev S2048 : Shape := ⟨1, ![2048]⟩
abbrev S2048x4160 : Shape := ⟨2, ![2048, 4160]⟩
abbrev S_ : Shape := ⟨0, ![]⟩
abbrev S24576 : Shape := ⟨1, ![24576]⟩
abbrev S24576x1 : Shape := ⟨2, ![24576, 1]⟩
abbrev S1x2048 : Shape := ⟨2, ![1, 2048]⟩
abbrev S24576x4160 : Shape := ⟨2, ![24576, 4160]⟩
abbrev S24576x512 : Shape := ⟨2, ![24576, 512]⟩
abbrev S24576x64 : Shape := ⟨2, ![24576, 64]⟩
abbrev S24576x1024 : Shape := ⟨2, ![24576, 1024]⟩
abbrev S24576x4096 : Shape := ⟨2, ![24576, 4096]⟩

abbrev nBuf : Space → Nat
  | .hbm => 27
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S2048x4160, .f32⟩
  | .hbm, ⟨3, _⟩ => ⟨S24576x2048, .f32⟩
  | .hbm, ⟨4, _⟩ => ⟨S_, .f32⟩
  | .hbm, ⟨5, _⟩ => ⟨S24576, .f32⟩
  | .hbm, ⟨6, _⟩ => ⟨S24576x1, .f32⟩
  | .hbm, ⟨7, _⟩ => ⟨S_, .f32⟩
  | .hbm, ⟨8, _⟩ => ⟨S24576x1, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S24576x1, .f32⟩
  | .hbm, ⟨14, _⟩ => ⟨S24576x2048, .f32⟩
  | .hbm, ⟨15, _⟩ => ⟨S24576x2048, .f32⟩
  | .hbm, ⟨16, _⟩ => ⟨S1x2048, .f32⟩
  | .hbm, ⟨17, _⟩ => ⟨S24576x2048, .f32⟩
  | .hbm, ⟨18, _⟩ => ⟨S24576x2048, .f32⟩
  | .hbm, ⟨19, _⟩ => ⟨S24576x4160, .f32⟩
  | .hbm, ⟨20, _⟩ => ⟨S24576x512, .f32⟩
  | .hbm, ⟨21, _⟩ => ⟨S24576x512, .f32⟩
  | .hbm, ⟨22, _⟩ => ⟨S24576x64, .f32⟩
  | .hbm, ⟨23, _⟩ => ⟨S24576x1024, .f32⟩
  | .hbm, ⟨24, _⟩ => ⟨S24576x1024, .f32⟩
  | .hbm, ⟨25, _⟩ => ⟨S24576x1024, .f32⟩
  | .hbm, ⟨26, _⟩ => ⟨S24576x4096, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.AttentionLoop.lean ====
/-
  One grid point of the attention kernel: its loop over the key tiles as a recursion on the three scratch buffers, and
  the block it stores.
-/
module

public import proofs.«01_k».proof.Proof.Gen.KernelIdeal.Frame
public import Idealize.ShloMosaic.Lib.VecWindow
public import Idealize.ShloMosaic.Lib.Tactic
public import Idealize.ShloMosaic.Lib.Pipeline.Value

@[expose] public section

set_option maxRecDepth 16384

noncomputable section

open Idealize.ShloMosaic Idealize.ShloMosaic.TcCoe Idealize.SL.Sem

namespace Cert.KernelIdeal.Attention

open Cert.KernelIdeal Cert.KernelIdeal.Gen

variable {F : FTy → Type} [FloatOps F]
variable (𝒱 : Variants) (c : Dev nD) (bd : Option 𝒱.V) (i : grid0.Coords)
  (a3 : Memref sig .tc .vmem S1x512x192 .bf16) (h3 : a3.IsWhole)
  (a4 : Memref sig .tc .vmem S1x16384x192 .bf16) (h4 : a4.IsWhole)
  (a5 : Memref sig .tc .vmem S16384x128 .bf16) (h5 : a5.IsWhole)
  (a6 : Memref sig .tc .vmem S512x128 .bf16) (h6 : a6.IsWhole)
  (a7 : Memref sig .tc .vmem S512x1 .f32) (h7 : a7.IsWhole)
  (a8 : Memref sig .tc .vmem S512x1 .f32) (h8 : a8.IsWhole)
  (a9 : Memref sig .tc .vmem S512x128 .f32) (h9 : a9.IsWhole)
  (v0 : Vec F S1x512x192 .bf16)
  (X4 : BufTy.Contents (Elt F) a4.view.ty) (X5 : BufTy.Contents (Elt F) a5.view.ty)

/-- The 512 keys of trip `k`. -/
def keyRows (x1 : Vec F S1x16384x192 .bf16) (k : Fin k0_t1_loop.trips) : Vec F S1x512x192 .bf16 :=
  View.ld x1 (Rect.unit (s := S1x16384x192) (k0_off1 k) S1x512x192.size (k0_off1_inb k))

/-- The 512 values of trip `k`. -/
def valRows (x2 : Vec F S16384x128 .bf16) (k : Fin k0_t1_loop.trips) : Vec F S512x128 .bf16 :=
  View.ld x2 (Rect.unit (s := S16384x128) (k0_off2 k) S512x128.size (k0_off2_inb k))

/-- What the three scratch buffers hold: the running maximum, the running denominator, the running numerator. -/
abbrev State (F : FTy → Type) [FloatOps F] := Vec F S512x1 .f32 × Vec F S512x1 .f32 × Vec F S512x128 .f32

/-- One trip of the loop on the scratch. -/
def next (kb : Vec F S1x512x192 .bf16) (vb : Vec F S512x128 .bf16) (s : State F) : State F :=
  (k0_pay5 (k0_pay8 (k0_pay1 v0) kb s.1), k0_pay11 (k0_pay1 v0) kb s.1 s.2.1, k0_pay12 (k0_pay1 v0) kb vb s.1 s.2.2)

/-- The scratch after `n` trips. -/
def states (kb : Fin k0_t1_loop.trips → Vec F S1x512x192 .bf16) (vb : Fin k0_t1_loop.trips → Vec F S512x128 .bf16)
    (s0 : State F) : ℕ → State F
  | 0 => s0
  | n + 1 => if h : n < k0_t1_loop.trips then
      next v0 (kb ⟨n, h⟩) (vb ⟨n, h⟩) (states kb vb s0 n) else states kb vb s0 n

/-- The zero offset of a two-axis block. -/
theorem hz2 : (![0, 0] : Fin 2 → Nat) = fun _ => 0 := funext fun a => by fin_cases a <;> rfl

/-- The zero offset of a three-axis block. -/
theorem hz3 : (![0, 0, 0] : Fin 3 → Nat) = fun _ => 0 := funext fun a => by fin_cases a <;> rfl

/-- A load of the whole of a two-axis scratch buffer reads its contents. -/
theorem readAt_whole {d e : ℕ} {ty : EltTy} (a : Memref sig .tc .vmem ⟨2, ![d, e]⟩ ty)
    (f : BufTy.Contents (Elt F) a.view.ty)
    (inb : ∀ x, (![0, 0] : Fin 2 → Nat) x + (⟨2, ![d, e]⟩ : Shape).size x ≤ (⟨2, ![d, e]⟩ : Shape).size x) :
    a.view.readAt (Elt F) (Rect.unit (s := ⟨2, ![d, e]⟩) ![0, 0] (⟨2, ![d, e]⟩ : Shape).size inb).toLoadRect f
      = a.view.read (Elt F) f := by
  rw [View.readAt_eq_ld, View.ld_unit_zero (S := ⟨2, ![d, e]⟩) hz2]

/-- What one trip leaves in the scratch is `next` of what it finds there. -/
theorem trip_state (k : Fin k0_t1_loop.trips)
    (f7 : BufTy.Contents (Elt F) a7.view.ty) (f8 : BufTy.Contents (Elt F) a8.view.ty)
    (f9 : BufTy.Contents (Elt F) a9.view.ty) :
    ((a7.view.read (Elt F) (a7.view.writes (Elt F) f7 (tripL_k0_t1 (F := F) 𝒱 c bd i a3 h3 a4 h4 a5 h5 a6 h6 a7 h7 a8 h8 a9 h9 v0 X4 X5 k f7 f8 f9).1),
      a8.view.read (Elt F) (a8.view.writes (Elt F) f8 (tripL_k0_t1 (F := F) 𝒱 c bd i a3 h3 a4 h4 a5 h5 a6 h6 a7 h7 a8 h8 a9 h9 v0 X4 X5 k f7 f8 f9).2.1),
      a9.view.read (Elt F) (a9.view.writes (Elt F) f9 (tripL_k0_t1 (F := F) 𝒱 c bd i a3 h3 a4 h4 a5 h5 a6 h6 a7 h7 a8 h8 a9 h9 v0 X4 X5 k f7 f8 f9).2.2)) : State F)
      = next v0 (keyRows (a4.view.read (Elt F) X4) k) (valRows (a5.view.read (Elt F) X5) k) (a7.view.read (Elt F) f7, a8.view.read (Elt F) f8, a9.view.read (Elt F) f9) := by
  unfold tripL_k0_t1 trip_k0_t1
  dsimp only
  sl_unfold_words
  rw [View.read_writes_full, View.read_writes_full, View.read_writes_full, readAt_whole, readAt_whole, readAt_whole]
  unfold keyRows valRows
  rw [← View.readAt_eq_ld, ← View.readAt_eq_ld]
  rfl

/-- After `n` trips the scratch holds the `n`th state from what it held at entry. -/
theorem loop_state (G7 : BufTy.Contents (Elt F) a7.view.ty) (G8 : BufTy.Contents (Elt F) a8.view.ty)
    (G9 : BufTy.Contents (Elt F) a9.view.ty) : ∀ n : ℕ, n ≤ k0_t1_loop.trips →
    ((a7.view.read (Elt F) (a7.view.writes (Elt F) G7 (pb_k0_t1 (F := F) 𝒱 c bd i a3 h3 a4 h4 a5 h5 a6 h6 a7 h7 a8 h8 a9 h9 v0 X4 X5 G7 G8 G9 n).1),
      a8.view.read (Elt F) (a8.view.writes (Elt F) G8 (pb_k0_t1 (F := F) 𝒱 c bd i a3 h3 a4 h4 a5 h5 a6 h6 a7 h7 a8 h8 a9 h9 v0 X4 X5 G7 G8 G9 n).2.1),
      a9.view.read (Elt F) (a9.view.writes (Elt F) G9 (pb_k0_t1 (F := F) 𝒱 c bd i a3 h3 a4 h4 a5 h5 a6 h6 a7 h7 a8 h8 a9 h9 v0 X4 X5 G7 G8 G9 n).2.2)) : State F)
      = states v0 (keyRows (a4.view.read (Elt F) X4)) (valRows (a5.view.read (Elt F) X5)) (a7.view.read (Elt F) G7, a8.view.read (Elt F) G8, a9.view.read (Elt F) G9) n
  | 0, _ => rfl
  | n + 1, hn => by
    have hs := pb_k0_t1_succ (F := F) 𝒱 c bd i a3 h3 a4 h4 a5 h5 a6 h6 a7 h7 a8 h8 a9 h9 v0 X4 X5 G7 G8 G9 ⟨n, hn⟩
    dsimp only at hs
    rw [hs]
    dsimp only
    rw [View.writes_append, View.writes_append, View.writes_append, trip_state, loop_state G7 G8 G9 n (by omega)]
    conv_rhs => unfold states
    rw [dif_pos (show n < k0_t1_loop.trips from hn)]

/-- A state after the loop, starting from the reset scratch. -/
abbrev final (x0 : Vec F S1x512x192 .bf16) (x1 : Vec F S1x16384x192 .bf16) (x2 : Vec F S16384x128 .bf16) : State F :=
  states x0 (keyRows x1) (valRows x2) (k0_pay2, k0_pay3, k0_pay4) k0_t1_loop.trips

/-- What one grid point stores is the running numerator over the running denominator after the loop. -/
theorem out_block (x0 : Vec F S1x512x192 .bf16) (x1 : Vec F S1x16384x192 .bf16) (x2 : Vec F S16384x128 .bf16) :
    out0_A_3 c i a3 h3 a4 h4 a5 h5 a6 h6 a7 h7 a8 h8 a9 h9 x0 x1 x2 = k0_pay6 (final x0 x1 x2).2.2 (final x0 x1 x2).2.1 := by
  unfold out0_A_3
  rw [View.read_writes_eq_canon _ _ _ (cover0_A_3 c i a3 h3 a4 h4 a5 h5 a6 h6 a7 h7 a8 h8 a9 h9 x0 x1 x2)]
  unfold kernelRun0_A
  dsimp only
  sl_unfold_words
  rw [View.canon_unit_zero hz2]
  have hl := loop_state Variants.none c none i a3 h3 a4 h4 a5 h5 a6 h6 a7 h7 a8 h8 a9 h9
    (View.readAt (Elt F) a3.view (Rect.unit ![0, 0, 0] S1x512x192.size inb_S1x512x192_S1x512x192_0_0_0).toLoadRect (h3.unread x0))
    (h4.unread x1) (h5.unread x2)
    (a7.view.writes (Elt F) a7.view.junk [⟨Rect.unit ![0, 0] S512x1.size inb_S512x1_S512x1_0_0, k0_pay2⟩])
    (a8.view.writes (Elt F) a8.view.junk [⟨Rect.unit ![0, 0] S512x1.size inb_S512x1_S512x1_0_0, k0_pay3⟩])
    (a9.view.writes (Elt F) a9.view.junk [⟨Rect.unit ![0, 0] S512x128.size inb_S512x128_S512x128_0_0, k0_pay4⟩])
    k0_t1_loop.trips le_rfl
  rw [View.read_writes_full, View.read_writes_full, View.read_writes_full] at hl
  rw [h4.read_unread, h5.read_unread, View.readAt_eq_ld, h3.read_unread, View.ld_unit_zero (S := S1x512x192) hz3] at hl
  unfold View.readCov
  rw [readAt_whole, readAt_whole, View.writes_append, View.writes_append]
  unfold final
  rw [← hl]
  dsimp only
  rw [View.readAt_eq_ld, h3.read_unread, View.ld_unit_zero (S := S1x512x192) hz3]

end Cert.KernelIdeal.Attention

end
-- ==== Proof.OnlineSoftmax.lean ====
/-
  The softmax-weighted sum of a row, computed block by block with a running maximum, a running denominator and a running
  numerator that are rescaled whenever the maximum grows, over the extended reals. For real scores the quotient at the
  end is the sum of the values weighted by the softmax of all the scores, whatever the values are.
-/
module

public import Idealize.ShloMosaic.PureOps.Ideal.Laws

@[expose] public section

noncomputable section

open Idealize.ShloMosaic
open scoped BigOperators

namespace Cert.Proof.OnlineSoftmax

/-- The largest of the first `n` scores. -/
def top (s : ℕ → ℝ) (n : ℕ) : EReal := (Finset.range n).sup fun k => (s k : EReal)

/-- The first `n` scores' weights, relative to `m`, added up. -/
def denom (s : ℕ → ℝ) (m : EReal) (n : ℕ) : EReal := ∑ k ∈ Finset.range n, Ideal.exp ((s k : EReal) - m)

/-- The first `n` values, weighted relative to `m`, added up. -/
def numer (s : ℕ → ℝ) (v : ℕ → EReal) (m : EReal) (n : ℕ) : EReal :=
  ∑ k ∈ Finset.range n, Ideal.exp ((s k : EReal) - m) * v k

/-- The exponential of a real. -/
theorem exp_real (x : ℝ) : Ideal.exp (x : EReal) = (Real.exp x : EReal) := rfl

/-- The exponential of a difference of reals. -/
theorem exp_sub_real (x y : ℝ) : Ideal.exp ((x : EReal) - (y : EReal)) = (Real.exp (x - y) : EReal) := by
  rw [← EReal.coe_sub, exp_real]

/-- Of at least one real score the largest is real. -/
theorem top_real (s : ℕ → ℝ) {n : ℕ} (hn : 0 < n) : ∃ r : ℝ, top s n = (r : EReal) := by
  obtain ⟨i, _, hi⟩ := Finset.exists_mem_eq_sup (Finset.range n) ⟨0, Finset.mem_range.mpr hn⟩ fun k => (s k : EReal)
  exact ⟨s i, hi⟩

/-- The largest of `n + b` scores is the larger of the first `n`'s and the following `b`'s. -/
theorem top_append (s : ℕ → ℝ) (n b : ℕ) :
    top s (n + b) = max (top s n) ((Finset.univ : Finset (Fin b)).sup fun c => (s (n + c.val) : EReal)) := by
  unfold top
  apply le_antisymm
  · refine Finset.sup_le fun k hk => ?_
    by_cases h : k < n
    · exact le_max_of_le_left (Finset.le_sup (f := fun k => (s k : EReal)) (Finset.mem_range.mpr h))
    · have hb : k - n < b := by have := Finset.mem_range.mp hk; omega
      refine le_max_of_le_right ?_
      have := Finset.le_sup (f := fun c : Fin b => (s (n + c.val) : EReal)) (Finset.mem_univ (⟨k - n, hb⟩ : Fin b))
      rwa [show n + (⟨k - n, hb⟩ : Fin b).val = k by show n + (k - n) = k; omega] at this
  · refine max_le (Finset.sup_mono (Finset.range_mono (Nat.le_add_right _ _))) (Finset.sup_le fun c _ => ?_)
    exact Finset.le_sup (f := fun k => (s k : EReal)) (Finset.mem_range.mpr (by have := c.isLt; omega))

/-- The largest of the first `n` scores, over the `n` positions. -/
theorem top_univ (s : ℕ → ℝ) (n : ℕ) : top s n = (Finset.univ : Finset (Fin n)).sup fun c => (s c.val : EReal) := by
  have h := top_append s 0 n
  rw [show top s 0 = ⊥ from rfl, max_eq_right bot_le] at h
  simpa only [Nat.zero_add] using h

/-- Rescaling by a nonnegative real goes through a finite sum of any extended reals. -/
theorem real_mul_sum (a : ℝ) (ha : 0 ≤ a) (f : ℕ → EReal) (n : ℕ) :
    (a : EReal) * ∑ k ∈ Finset.range n, f k = ∑ k ∈ Finset.range n, (a : EReal) * f k := by
  induction n with
  | zero => simp
  | succ n ih =>
    rw [Finset.sum_range_succ, Finset.sum_range_succ,
      EReal.left_distrib_of_nonneg_of_ne_top (by exact_mod_cast ha) (EReal.coe_ne_top _), ih]

/-- Moving the weights from one real reference maximum to another rescales each of them. -/
theorem rescale (x p q : ℝ) :
    Ideal.exp ((p : EReal) - (q : EReal)) * Ideal.exp ((x : EReal) - (p : EReal)) = Ideal.exp ((x : EReal) - (q : EReal)) := by
  rw [exp_sub_real, exp_sub_real, exp_sub_real, ← EReal.coe_mul, ← Real.exp_add]
  congr 2
  ring

/-- A numerator taken against one maximum, rescaled to another. -/
theorem rescale_numer (s : ℕ → ℝ) (v : ℕ → EReal) (p q : ℝ) (n : ℕ) :
    Ideal.exp ((p : EReal) - (q : EReal)) * numer s v p n = numer s v q n := by
  unfold numer
  have h := real_mul_sum (Real.exp (p - q)) (Real.exp_pos _).le (fun k => Ideal.exp ((s k : EReal) - (p : EReal)) * v k) n
  rw [← exp_sub_real] at h
  rw [h]
  refine Finset.sum_congr rfl fun k _ => ?_
  rw [← mul_assoc, rescale]

/-- A denominator taken against one maximum, rescaled to another. -/
theorem rescale_denom (s : ℕ → ℝ) (p q : ℝ) (n : ℕ) :
    Ideal.exp ((p : EReal) - (q : EReal)) * denom s p n = denom s q n := by
  have h := rescale_numer s (fun _ => 1) p q n
  simpa [numer, denom] using h

/-- One block of the numerator: the old one rescaled to the new maximum, plus the block's weighted values. -/
theorem numer_add (s : ℕ → ℝ) (v : ℕ → EReal) (n b : ℕ) (hb : 0 < b) :
    numer s v (top s (n + b)) (n + b)
      = Ideal.exp (top s n - top s (n + b)) * numer s v (top s n) n
        + ∑ c : Fin b, Ideal.exp ((s (n + c.val) : EReal) - top s (n + b)) * v (n + c.val) := by
  obtain ⟨q, hq⟩ := top_real s (n := n + b) (by omega)
  have h1 : Ideal.exp (top s n - top s (n + b)) * numer s v (top s n) n = numer s v (top s (n + b)) n := by
    rcases Nat.eq_zero_or_pos n with rfl | hn
    · simp [numer]
    · obtain ⟨p, hp⟩ := top_real s hn
      rw [hp, hq, rescale_numer]
  rw [h1, Fin.sum_univ_eq_sum_range (fun c => Ideal.exp ((s (n + c) : EReal) - top s (n + b)) * v (n + c)) b]
  unfold numer
  rw [Finset.sum_range_add]

/-- One block of the denominator. -/
theorem denom_add (s : ℕ → ℝ) (n b : ℕ) (hb : 0 < b) :
    denom s (top s (n + b)) (n + b)
      = Ideal.exp (top s n - top s (n + b)) * denom s (top s n) n
        + ∑ c : Fin b, Ideal.exp ((s (n + c.val) : EReal) - top s (n + b)) := by
  have h := numer_add s (fun _ => 1) n b hb
  simpa [numer, denom] using h

/-- The denominator of at least one real score is a positive real. -/
theorem denom_real (s : ℕ → ℝ) {n : ℕ} (hn : 0 < n) : ∃ r : ℝ, 0 < r ∧ denom s (top s n) n = (r : EReal) := by
  obtain ⟨q, hq⟩ := top_real s hn
  refine ⟨∑ k ∈ Finset.range n, Real.exp (s k - q),
    Finset.sum_pos (fun k _ => Real.exp_pos _) ⟨0, Finset.mem_range.mpr hn⟩, ?_⟩
  rw [hq]
  unfold denom
  simp only [exp_sub_real]
  exact (map_sum (⟨⟨Real.toEReal, EReal.coe_zero⟩, EReal.coe_add⟩ : ℝ →+ EReal) _ _).symm

/-- Division by a positive real. -/
theorem div_real (x : EReal) {r : ℝ} (hr : 0 < r) : Ideal.div x (r : EReal) = ((r⁻¹ : ℝ) : EReal) * x := by
  unfold Ideal.div
  rw [if_neg (by exact_mod_cast hr.ne'), mul_comm, EReal.coe_inv]

/-- The quotient at the end is the sum of the values weighted by the normalised weights. -/
theorem numer_div (s : ℕ → ℝ) (v : ℕ → EReal) {n : ℕ} (hn : 0 < n) :
    Ideal.div (numer s v (top s n) n) (denom s (top s n) n)
      = ∑ k ∈ Finset.range n, Ideal.div (Ideal.exp ((s k : EReal) - top s n)) (denom s (top s n) n) * v k := by
  obtain ⟨r, hr, he⟩ := denom_real s hn
  rw [he, div_real _ hr]
  unfold numer
  rw [real_mul_sum _ (inv_nonneg.mpr hr.le)]
  refine Finset.sum_congr rfl fun k _ => ?_
  rw [div_real _ hr, mul_assoc]

end Cert.Proof.OnlineSoftmax

end
-- ==== Proof.AttentionStep.lean ====
/-
  The attention kernel's loop over the extended reals: each trip opened at a row, the scratch after `n` trips as the
  running softmax of the scores seen so far, and the stored block as the softmax-weighted sum of the values.
-/
module

public import proofs.«01_k».proof.Proof.AttentionLoop
public import proofs.«01_k».proof.Proof.OnlineSoftmax
public import Idealize.ShloMosaic.Lib.Pointwise

@[expose] public section

set_option maxRecDepth 16384

noncomputable section

open Idealize.ShloMosaic Idealize.ShloMosaic.TcCoe Idealize.SL.Sem
open scoped BigOperators

namespace Cert.KernelIdeal.Attention

open Cert.KernelIdeal Cert.KernelIdeal.Gen Cert.Proof.OnlineSoftmax

/-- The constant minus infinity. -/
theorem ofBits_neg_inf : Ideal.ofBits .f32 0xFF800000#32 = ⊥ := by simp [Ideal.ofBits, Ideal.ieee]

/-- The score of a query row against a key row of a block. -/
def score (q : S1x512x192.Idx → EReal) (k : S1x512x192.Idx → EReal) (r c : Fin 512) : EReal :=
  ∑ d : Fin 192, q (ix3 0 r d) * k (ix3 0 c d)

/-- A trip's scores. -/
theorem pay7_apply (q k : S1x512x192.Idx → EReal) (r c : Fin 512) :
    k0_pay7 (F := Ideal) (k0_pay1 (F := Ideal) q) k (ix2 r c) = score q k r c := by
  pointwise [k0_pay7, k0_pay1, score]

/-- The new running maximum of a row. -/
theorem pay8_apply (q k : S1x512x192.Idx → EReal) (M : S512x1.Idx → EReal) (r : Fin 512) (z : Fin 1) :
    k0_pay8 (F := Ideal) (k0_pay1 (F := Ideal) q) k M (ix2 r z)
      = max (M (ix2 r 0)) ((Finset.univ : Finset (Fin 512)).sup (score q k r)) := by
  obtain rfl : z = 0 := Subsingleton.elim _ _
  pointwise [k0_pay8, pay7_apply]
  rw [ofBits_neg_inf]
  rfl

/-- The factor the old sums are rescaled by. -/
theorem pay9_apply (q k : S1x512x192.Idx → EReal) (M : S512x1.Idx → EReal) (r : Fin 512) (z : Fin 1) :
    k0_pay9 (F := Ideal) (k0_pay1 (F := Ideal) q) k M (ix2 r z)
      = Ideal.exp (M (ix2 r 0) - max (M (ix2 r 0)) ((Finset.univ : Finset (Fin 512)).sup (score q k r))) := by
  obtain rfl : z = 0 := Subsingleton.elim _ _
  pointwise [k0_pay9, pay8_apply]

/-- The weights of a trip's keys. -/
theorem pay10_apply (q k : S1x512x192.Idx → EReal) (M : S512x1.Idx → EReal) (r c : Fin 512) :
    k0_pay10 (F := Ideal) (k0_pay1 (F := Ideal) q) k M (ix2 r c)
      = Ideal.exp (score q k r c - max (M (ix2 r 0)) ((Finset.univ : Finset (Fin 512)).sup (score q k r))) := by
  pointwise [k0_pay10, pay8_apply, pay7_apply]

/-- The new running denominator. -/
theorem pay11_apply (q k : S1x512x192.Idx → EReal) (M L : S512x1.Idx → EReal) (r : Fin 512) (z : Fin 1) :
    k0_pay11 (F := Ideal) (k0_pay1 (F := Ideal) q) k M L (ix2 r z)
      = Ideal.exp (M (ix2 r 0) - max (M (ix2 r 0)) ((Finset.univ : Finset (Fin 512)).sup (score q k r))) * L (ix2 r 0)
        + ∑ c : Fin 512, Ideal.exp (score q k r c - max (M (ix2 r 0)) ((Finset.univ : Finset (Fin 512)).sup (score q k r))) := by
  obtain rfl : z = 0 := Subsingleton.elim _ _
  pointwise [k0_pay11, pay9_apply, pay10_apply]

/-- The new running numerator. -/
theorem pay12_apply (q k : S1x512x192.Idx → EReal) (v : S512x128.Idx → EReal) (M : S512x1.Idx → EReal) (A : S512x128.Idx → EReal) (r : Fin 512) (e : Fin 128) :
    k0_pay12 (F := Ideal) (k0_pay1 (F := Ideal) q) k v M A (ix2 r e)
      = Ideal.exp (M (ix2 r 0) - max (M (ix2 r 0)) ((Finset.univ : Finset (Fin 512)).sup (score q k r))) * A (ix2 r e)
        + ∑ c : Fin 512, Ideal.exp (score q k r c - max (M (ix2 r 0)) ((Finset.univ : Finset (Fin 512)).sup (score q k r))) * v (ix2 c e) := by
  pointwise [k0_pay12, pay9_apply, pay10_apply]

/-- The stored block: numerator over denominator. -/
theorem pay6_apply (A : S512x128.Idx → EReal) (L : S512x1.Idx → EReal) (r : Fin 512) (e : Fin 128) :
    k0_pay6 (F := Ideal) A L (ix2 r e) = Ideal.div (A (ix2 r e)) (L (ix2 r 0)) := by
  pointwise [k0_pay6]

/-- The maximum starts at minus infinity. -/
theorem pay2_apply (j : S512x1.Idx) : k0_pay2 (F := Ideal) j = ⊥ := by
  idx_vars j
  pointwise [k0_pay2]
  exact ofBits_neg_inf

/-- The denominator starts at zero. -/
theorem pay3_apply (j : S512x1.Idx) : k0_pay3 (F := Ideal) j = 0 := by
  idx_vars j
  pointwise [k0_pay3]

/-- The numerator starts at zero. -/
theorem pay4_apply (j : S512x128.Idx) : k0_pay4 (F := Ideal) j = 0 := by
  idx_vars j
  pointwise [k0_pay4]

/-- The maximum is stored as it is. -/
theorem pay5_eq (M : S512x1.Idx → EReal) : k0_pay5 (F := Ideal) M = M := shapeCast_self _ _

/-- The scratch after `n` trips, in one row: the running maximum, denominator and numerator of the scores seen so far. -/
theorem states_row (q : S1x512x192.Idx → EReal) (kb : Fin k0_t1_loop.trips → S1x512x192.Idx → EReal)
    (vb : Fin k0_t1_loop.trips → S512x128.Idx → EReal) (r : Fin 512) (e : Fin 128) (s : ℕ → ℝ) (v : ℕ → EReal)
    (hs : ∀ n c, score q (kb n) r c = (s (512 * n.val + c.val) : EReal)) (hv : ∀ n c, vb n (ix2 c e) = v (512 * n.val + c.val)) :
    ∀ n : ℕ, n ≤ k0_t1_loop.trips →
      (states (F := Ideal) q kb vb (k0_pay2 (F := Ideal), k0_pay3 (F := Ideal), k0_pay4 (F := Ideal)) n).1 (ix2 r 0) = top s (512 * n)
      ∧ (states (F := Ideal) q kb vb (k0_pay2 (F := Ideal), k0_pay3 (F := Ideal), k0_pay4 (F := Ideal)) n).2.1 (ix2 r 0) = denom s (top s (512 * n)) (512 * n)
      ∧ (states (F := Ideal) q kb vb (k0_pay2 (F := Ideal), k0_pay3 (F := Ideal), k0_pay4 (F := Ideal)) n).2.2 (ix2 r e) = numer s v (top s (512 * n)) (512 * n)
  | 0, _ => by
    refine ⟨?_, ?_, ?_⟩
    · exact (pay2_apply (ix2 r 0)).trans rfl
    · exact (pay3_apply (ix2 r 0)).trans rfl
    · exact (pay4_apply (ix2 r e)).trans rfl
  | n + 1, hn => by
    obtain ⟨h1, h2, h3⟩ := states_row q kb vb r e s v hs hv n (by omega)
    have hlt : n < k0_t1_loop.trips := hn
    have hmax : max (top s (512 * n)) ((Finset.univ : Finset (Fin 512)).sup (score q (kb ⟨n, hlt⟩) r)) = top s (512 * n + 512) := by
      rw [top_append]
      congr 2
      funext c
      exact hs ⟨n, hlt⟩ c
    unfold states
    rw [dif_pos hlt, Nat.mul_succ]
    unfold next
    dsimp only
    refine ⟨?_, ?_, ?_⟩
    · rw [pay5_eq, pay8_apply, h1, hmax]
    · rw [pay11_apply, h1, h2, hmax, denom_add s (512 * n) 512 (by norm_num)]
      congr 1
      exact Finset.sum_congr rfl fun c _ => by rw [hs ⟨n, hlt⟩ c]
    · rw [pay12_apply, h1, h3, hmax, numer_add s v (512 * n) 512 (by norm_num)]
      congr 1
      exact Finset.sum_congr rfl fun c _ => by rw [hs ⟨n, hlt⟩ c, hv ⟨n, hlt⟩ c]

/-- The loop has 32 trips. -/
theorem trips_eq : k0_t1_loop.trips = 32 := by decide +kernel

/-- The rows of a trip lie in the sequence. -/
theorem pos_lt (n : Fin k0_t1_loop.trips) (c : Fin 512) : 512 * n.val + c.val < 16384 := by
  have := n.isLt; have ht := trips_eq; omega

/-- The keys of a trip, read at an entry. -/
theorem keyRows_apply (x1 : S1x16384x192.Idx → EReal) (n : Fin k0_t1_loop.trips) (c : Fin 512) (d : Fin 192) :
    (keyRows (F := Ideal) x1 n : S1x512x192.Idx → EReal) (ix3 0 c d) = x1 (ix3 0 ⟨_, pos_lt n c⟩ d) := by
  show x1 _ = x1 _
  congr 1
  funext a
  apply Fin.ext
  match a with
  | ⟨0, _⟩ => show k0_off1 n 0 + 1 * 0 = 0; rw [k0_off1_eq]; rfl
  | ⟨1, _⟩ => show k0_off1 n 1 + 1 * c.val = 512 * n.val + c.val; rw [k0_off1_eq]; show 512 * n.val + 1 * c.val = _; omega
  | ⟨2, _⟩ => show k0_off1 n 2 + 1 * d.val = d.val; rw [k0_off1_eq]; show 0 + 1 * d.val = _; omega

/-- The values of a trip, read at an entry. -/
theorem valRows_apply (x2 : S16384x128.Idx → EReal) (n : Fin k0_t1_loop.trips) (c : Fin 512) (e : Fin 128) :
    (valRows (F := Ideal) x2 n : S512x128.Idx → EReal) (ix2 c e) = x2 (ix2 ⟨_, pos_lt n c⟩ e) := by
  show x2 _ = x2 _
  congr 1
  funext a
  apply Fin.ext
  match a with
  | ⟨0, _⟩ => show k0_off2 n 0 + 1 * c.val = 512 * n.val + c.val; rw [k0_off2_eq]; show 512 * n.val + 1 * c.val = _; omega
  | ⟨1, _⟩ => show k0_off2 n 1 + 1 * e.val = e.val; rw [k0_off2_eq]; show 0 + 1 * e.val = _; omega

/-- The scores of trip `n` are those of the 512 keys from `512 n` on. -/
theorem score_keyRows (x0 : S1x512x192.Idx → EReal) (x1 : S1x16384x192.Idx → EReal) (n : Fin k0_t1_loop.trips) (r c : Fin 512) :
    score x0 (keyRows (F := Ideal) x1 n) r c = ∑ d : Fin 192, x0 (ix3 0 r d) * x1 (ix3 0 ⟨_, pos_lt n c⟩ d) := by
  unfold score
  exact Finset.sum_congr rfl fun d _ => by rw [keyRows_apply]

/-- A point's result, in one row and one column: the values weighted by the softmax of the row's 16384 scores. -/
theorem final_div (x0 : S1x512x192.Idx → EReal) (x1 : S1x16384x192.Idx → EReal) (x2 : S16384x128.Idx → EReal)
    (r : Fin 512) (e : Fin 128) (s : ℕ → ℝ) (v : ℕ → EReal)
    (hs : ∀ k : Fin 16384, ∑ d : Fin 192, x0 (ix3 0 r d) * x1 (ix3 0 k d) = (s k.val : EReal))
    (hv : ∀ k : Fin 16384, x2 (ix2 k e) = v k.val) :
    k0_pay6 (F := Ideal) (final (F := Ideal) x0 x1 x2).2.2 (final (F := Ideal) x0 x1 x2).2.1 (ix2 r e)
      = ∑ k ∈ Finset.range 16384, Ideal.div (Ideal.exp ((s k : EReal) - top s 16384)) (denom s (top s 16384) 16384) * v k := by
  have h := states_row x0 (keyRows (F := Ideal) x1) (valRows (F := Ideal) x2) r e s v
    (fun n c => (score_keyRows x0 x1 n r c).trans (hs ⟨_, pos_lt n c⟩)) (fun n c => (valRows_apply x2 n c e).trans (hv ⟨_, pos_lt n c⟩))
    k0_t1_loop.trips le_rfl
  rw [show 512 * k0_t1_loop.trips = 16384 by rw [trips_eq]] at h
  rw [pay6_apply, ← numer_div s v (by norm_num : 0 < 16384), ← h.2.1, ← h.2.2]

end Cert.KernelIdeal.Attention

end
-- ==== Proof.AttentionSpec.lean ====
/-
  Latent attention over one sequence of 16384 tokens with 8 heads, as a function of the queries, the packed keys and
  values, and the shared rotary key, over the extended reals: what both the tiled kernel and the plain reference compute
  when the queries and keys are finite.
-/
module

public import proofs.«01_k».proof.Proof.OnlineSoftmax
public import Idealize.ShloMosaic.Lib.Pointwise

@[expose] public section

noncomputable section

open Idealize.ShloMosaic
open scoped BigOperators

namespace Cert.Proof.Attention

open Cert.Proof.OnlineSoftmax

/-- The rotary frequency of a pair of coordinates: `10000 ^ (-2 j / 64)`. -/
def freq (j : Fin 32) : EReal :=
  Ideal.pow (Ideal.ofBits .f32 0x461C4000#32)
    (Ideal.div (-(Ideal.ofBits .f32 0x40000000#32 * FloatOps.sitofp (F := Ideal) .f32 (BitVec.ofNat 32 j.val))) (Ideal.ofBits .f32 0x42800000#32))

/-- The rotary angle of position `i`. -/
def angle (i : ℕ) (j : Fin 32) : EReal := FloatOps.sitofp (F := Ideal) .f32 (BitVec.ofNat 32 i) * freq j

/-- A vector of 64 rotated by its position's angles, its two halves being the two coordinates of 32 pairs. -/
def rope (x : Fin 64 → EReal) (i : ℕ) (e : Fin 64) : EReal :=
  if h : e.val < 32 then
    x ⟨e.val, e.isLt⟩ * Ideal.cos (angle i ⟨e.val, h⟩) - x ⟨32 + e.val, by omega⟩ * Ideal.sin (angle i ⟨e.val, h⟩)
  else
    x ⟨32 + (e.val - 32), by omega⟩ * Ideal.cos (angle i ⟨e.val - 32, by omega⟩)
      + x ⟨e.val - 32, by omega⟩ * Ideal.sin (angle i ⟨e.val - 32, by omega⟩)

variable (q : (⟨2, ![24576, 1536]⟩ : Shape).Idx → EReal) (kv : (⟨2, ![24576, 2048]⟩ : Shape).Idx → EReal)
  (kr : (⟨2, ![24576, 64]⟩ : Shape).Idx → EReal)

/-- A token of the first sequence, as a row of the arguments. -/
def tok (i : Fin 16384) : Fin 24576 := ⟨i.val, by have := i.isLt; omega⟩

/-- The plain part of a query. -/
def qNope (h : Fin 8) (i : Fin 16384) (d : Fin 128) : EReal := q (ix2 (tok i) ⟨h.val * 192 + d.val, by omega⟩)

/-- The rotary part of a query. -/
def qRope (h : Fin 8) (i : Fin 16384) (e : Fin 64) : EReal :=
  rope (fun e => q (ix2 (tok i) ⟨h.val * 192 + (128 + e.val), by omega⟩)) i.val e

/-- The plain part of a key. -/
def kNope (h : Fin 8) (i : Fin 16384) (d : Fin 128) : EReal := kv (ix2 (tok i) ⟨h.val * 256 + d.val, by omega⟩)

/-- The rotary part of a key, shared by the heads. -/
def kRope (i : Fin 16384) (e : Fin 64) : EReal := rope (fun e => kr (ix2 (tok i) e)) i.val e

/-- A value. -/
def val (h : Fin 8) (i : Fin 16384) (e : Fin 128) : EReal := kv (ix2 (tok i) ⟨h.val * 256 + (128 + e.val), by omega⟩)

/-- The scale of the scores, `192 ^ (-1/2)` as the constant both programs hold. -/
def scale : EReal := Ideal.ofBits .f32 0x3D93CD3A#32

/-- The score of token `i` against token `k` in head `h`. -/
def score (h : Fin 8) (i k : Fin 16384) : EReal :=
  (∑ d : Fin 128, qNope q h i d * kNope kv h k d + ∑ e : Fin 64, qRope q h i e * kRope kr k e) * scale

/-- The largest score of token `i` in head `h`. -/
def best (h : Fin 8) (i : Fin 16384) : EReal := (Finset.univ : Finset (Fin 16384)).sup (score q kv kr h i)

/-- The attention weights' common denominator. -/
def total (h : Fin 8) (i : Fin 16384) : EReal := ∑ k : Fin 16384, Ideal.exp (score q kv kr h i k - best q kv kr h i)

/-- The result: in head `h`, the values weighted by the softmax of the scores. -/
def attend (h : Fin 8) (i : Fin 16384) (e : Fin 128) : EReal :=
  ∑ k : Fin 16384, Ideal.div (Ideal.exp (score q kv kr h i k - best q kv kr h i)) (total q kv kr h i) * val kv h k e

/-- The result as an array: the heads side by side. -/
def out (j : (⟨2, ![16384, 1024]⟩ : Shape).Idx) : EReal :=
  attend q kv kr ⟨(j 1).val / 128, by have : (j 1).val < 1024 := (j 1).isLt; omega⟩ (j 0) ⟨(j 1).val % 128, by omega⟩

/-- The constant minus infinity. -/
theorem ofBits_neg_inf : Ideal.ofBits .f32 0xFF800000#32 = ⊥ := by simp [Ideal.ofBits, Ideal.ieee]

/-! ## Finite numbers -/

/-- A finite extended real. -/
def IsReal (x : EReal) : Prop := ∃ r : ℝ, x = (r : EReal)

/-- Sums, differences, products, negations and finite sums of finite numbers, their cosines and sines, are finite. -/
theorem IsReal.add {x y : EReal} : IsReal x → IsReal y → IsReal (x + y) := fun ⟨a, ha⟩ ⟨b, hb⟩ => ⟨a + b, by rw [ha, hb, EReal.coe_add]⟩
theorem IsReal.sub {x y : EReal} : IsReal x → IsReal y → IsReal (x - y) := fun ⟨a, ha⟩ ⟨b, hb⟩ => ⟨a - b, by rw [ha, hb, EReal.coe_sub]⟩
theorem IsReal.mul {x y : EReal} : IsReal x → IsReal y → IsReal (x * y) := fun ⟨a, ha⟩ ⟨b, hb⟩ => ⟨a * b, by rw [ha, hb, EReal.coe_mul]⟩
theorem IsReal.neg {x : EReal} : IsReal x → IsReal (-x) := fun ⟨a, ha⟩ => ⟨-a, by rw [ha, EReal.coe_neg]⟩
theorem IsReal.sum {n : ℕ} {f : Fin n → EReal} (h : ∀ k, IsReal (f k)) : IsReal (∑ k, f k) :=
  Finset.sum_induction f IsReal (fun _ _ => IsReal.add) ⟨0, rfl⟩ fun k _ => h k
theorem IsReal.cos {x : EReal} : IsReal x → IsReal (Ideal.cos x) := fun ⟨a, ha⟩ => ⟨Real.cos a, by rw [ha]; rfl⟩
theorem IsReal.sin {x : EReal} : IsReal x → IsReal (Ideal.sin x) := fun ⟨a, ha⟩ => ⟨Real.sin a, by rw [ha]; rfl⟩

/-- The scale is a real number, not negative. -/
theorem scale_real : ∃ r : ℝ, 0 ≤ r ∧ scale = (r : EReal) := by
  refine ⟨(9686330 : ℝ) * 2 ^ (-27 : ℤ), by positivity, ?_⟩
  simp [scale, Ideal.ofBits, Ideal.ieee]

/-- The frequencies are finite. -/
theorem finite_freq (j : Fin 32) : IsReal (freq j) := by
  have h1 : IsReal (Ideal.ofBits .f32 0x461C4000#32) := ⟨10000, by simp [Ideal.ofBits, Ideal.ieee]; rw [← EReal.coe_mul]; norm_num⟩
  have h2 : IsReal (Ideal.ofBits .f32 0x40000000#32) := ⟨2, by simp [Ideal.ofBits, Ideal.ieee]; rw [← EReal.coe_mul]; norm_num⟩
  have h3 : Ideal.ofBits .f32 0x42800000#32 = ((64 : ℝ) : EReal) := by simp [Ideal.ofBits, Ideal.ieee]; rw [← EReal.coe_mul]; norm_num
  have h4 : IsReal (FloatOps.sitofp (F := Ideal) .f32 (BitVec.ofNat 32 j.val)) := ⟨_, rfl⟩
  unfold freq
  rw [h3]
  obtain ⟨a, ha⟩ := h1
  obtain ⟨b, hb⟩ := (h2.mul h4).neg
  rw [ha, hb, div_real _ (by norm_num : (0 : ℝ) < 64), ← EReal.coe_mul]
  exact ⟨_, Ideal.pow_coe_coe _ _⟩

/-- The angles are finite. -/
theorem finite_angle (i : ℕ) (j : Fin 32) : IsReal (angle i j) := IsReal.mul ⟨_, rfl⟩ (finite_freq j)

/-- A finite vector rotated is finite. -/
theorem finite_rope (x : Fin 64 → EReal) (h : ∀ e, IsReal (x e)) (i : ℕ) (e : Fin 64) : IsReal (rope x i e) := by
  unfold rope
  split
  · exact ((h _).mul (finite_angle _ _).cos).sub ((h _).mul (finite_angle _ _).sin)
  · exact ((h _).mul (finite_angle _ _).cos).add ((h _).mul (finite_angle _ _).sin)

/-- The queries and keys of the first sequence are finite. -/
structure Finite : Prop where
  q : ∀ (i : Fin 16384) (c : Fin 1536), IsReal (q (ix2 (tok i) c))
  k : ∀ (i : Fin 16384) (h : Fin 8) (d : Fin 128), IsReal (kNope kv h i d)
  kr : ∀ (i : Fin 16384) (e : Fin 64), IsReal (kr (ix2 (tok i) e))

variable {q kv kr}

/-- With finite queries and keys every score is finite. -/
theorem finite_score (hf : Finite q kv kr) (h : Fin 8) (i k : Fin 16384) : IsReal (score q kv kr h i k) := by
  obtain ⟨s, _, hs⟩ := scale_real
  refine IsReal.mul (IsReal.add (IsReal.sum fun d => ?_) (IsReal.sum fun e => ?_)) ⟨s, hs⟩
  · exact (hf.q i _).mul (hf.k k h d)
  · exact (finite_rope _ (fun e => hf.q i _) _ _).mul (finite_rope _ (fun e => hf.kr k e) _ _)

/-- `attend` in the form the running computation ends in: the scores as a sequence of reals. -/
theorem attend_eq (h : Fin 8) (i : Fin 16384) (e : Fin 128) (s : ℕ → ℝ) (v : ℕ → EReal)
    (hs : ∀ k : Fin 16384, score q kv kr h i k = (s k.val : EReal)) (hv : ∀ k : Fin 16384, val kv h k e = v k.val) :
    attend q kv kr h i e
      = ∑ k ∈ Finset.range 16384, Ideal.div (Ideal.exp ((s k : EReal) - top s 16384)) (denom s (top s 16384) 16384) * v k := by
  have ht : best q kv kr h i = top s 16384 := by
    rw [top_univ]
    unfold best
    congr 1
    funext k
    exact hs k
  have hd : total q kv kr h i = denom s (top s 16384) 16384 := by
    unfold total denom
    rw [← Fin.sum_univ_eq_sum_range (fun k => Ideal.exp ((s k : EReal) - top s 16384)) 16384, ht]
    exact Finset.sum_congr rfl fun k _ => by rw [hs k]
  unfold attend
  rw [← Fin.sum_univ_eq_sum_range (fun k => Ideal.div (Ideal.exp ((s k : EReal) - top s 16384)) (denom s (top s 16384) 16384) * v k) 16384, ht, hd]
  exact Finset.sum_congr rfl fun k _ => by rw [hs k, hv k]

/-- The score as one sum over the 192 coordinates of a scaled query and a key. -/
theorem score_eq (h : Fin 8) (i k : Fin 16384) (x y : Fin 192 → EReal)
    (hx : ∀ d : Fin 128, x ⟨d.val, by omega⟩ = qNope q h i d * scale) (hx' : ∀ e : Fin 64, x ⟨128 + e.val, by omega⟩ = qRope q h i e * scale)
    (hy : ∀ d : Fin 128, y ⟨d.val, by omega⟩ = kNope kv h k d) (hy' : ∀ e : Fin 64, y ⟨128 + e.val, by omega⟩ = kRope kr k e) :
    ∑ d : Fin 192, x d * y d = score q kv kr h i k := by
  obtain ⟨s, h0, hs⟩ := scale_real
  have hsum : ∀ {n : ℕ} (f : Fin n → EReal), (∑ d, f d) * scale = ∑ d, f d * scale := fun {n} f => by
    have := real_mul_sum s h0 (fun k => if hk : k < n then f ⟨k, hk⟩ else 0) n
    rw [← Fin.sum_univ_eq_sum_range (fun k => if hk : k < n then f ⟨k, hk⟩ else 0) n,
      ← Fin.sum_univ_eq_sum_range (fun k => (s : EReal) * if hk : k < n then f ⟨k, hk⟩ else 0) n] at this
    simp only [Fin.is_lt, dif_pos, Fin.eta] at this
    rw [hs, mul_comm, this]
    exact Finset.sum_congr rfl fun d _ => mul_comm _ _
  unfold score
  rw [hs, EReal.right_distrib_of_nonneg_of_ne_top (by exact_mod_cast h0) (EReal.coe_ne_top s), ← hs, hsum, hsum]
  refine (Fin.sum_univ_add (a := 128) (b := 64) fun d => x d * y d).trans ?_
  congr 1
  · refine Finset.sum_congr rfl fun d _ => ?_
    rw [show (Fin.castAdd 64 d : Fin 192) = ⟨d.val, by omega⟩ from rfl, hx, hy, mul_right_comm]
  · refine Finset.sum_congr rfl fun e _ => ?_
    rw [show (Fin.natAdd 128 e : Fin 192) = ⟨128 + e.val, by omega⟩ from rfl, hx', hy', mul_right_comm]

end Cert.Proof.Attention

end
-- ==== Proof.AttentionHost.lean ====
/-
  The arrays the attention launch reads, as the host code before it leaves them: queries rotated and scaled, keys
  rotated, values; each opened at an entry of the first sequence.
-/
module

public import proofs.«01_k».proof.Defs
public import proofs.«01_k».proof.Proof.AttentionSpec
public import proofs.«01_k».proof.Proof.Gen.KernelIdeal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open scoped BigOperators

namespace Cert.KernelIdeal.Attention

open Cert.KernelIdeal Cert.KernelIdeal.Gen Cert.Proof.Attention

/-- The position of a token in its sequence: three sequences, of 16384, 4096 and 4096 tokens. -/
def pos : IVec S24576 32 :=
  concatenate S24576 0 [⟨S16384, shapeCast S16384 (broadcastInDim S1x16384 ![0, 1] bcast_S1x16384_S1x16384_0_1 (shapeCast S1x16384 (iotaInDim S16384 32 0) shapeCasts_S16384_S1x16384)) shapeCasts_S1x16384_S16384⟩,
    ⟨S8192, shapeCast S8192 (broadcastInDim S2x4096 ![0, 1] bcast_S1x4096_S2x4096_0_1 (shapeCast S1x4096 (iotaInDim S4096 32 0) shapeCasts_S4096_S1x4096)) shapeCasts_S2x4096_S8192⟩] concatenates_S16384_S8192_S24576_d0

/-- The 32 rotary frequencies. -/
def freqs : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
      (broadcastInDim S32 ![] bcast_S_S32 (constant S_ .f32 0x42800000#32)))

/-- The angle of a token at a frequency. -/
def angles : FVec Ideal S24576x32 .f32 :=
  mulf (broadcastInDim S24576x32 ![0, 1] bcast_S24576x1_S24576x32_0_1 (broadcastInDim S24576x1 ![0] bcast_S24576_S24576x1_0 (sitofp .f32 pos)))
    (broadcastInDim S24576x32 ![0, 1] bcast_S1x32_S24576x32_0_1 (broadcastInDim S1x32 ![1] bcast_S32_S1x32_1 freqs))

/-- The rotary part of the queries, rotated. -/
def ropeQ (q : FVec Ideal S24576x8x64 .f32) : FVec Ideal S24576x8x64 .f32 :=
  concatenate S24576x8x64 2 [⟨S24576x8x32,
      subf (mulf (extractStridedSlice S24576x8x32 ![0, 0, 0] q slices_S24576x8x64_S24576x8x32_0_0_0)
          (broadcastInDim S24576x8x32 ![0, 1, 2] bcast_S24576x1x32_S24576x8x32_0_1_2 (broadcastInDim S24576x1x32 ![0, 2] bcast_S24576x32_S24576x1x32_0_2 (Host.cos angles))))
        (mulf (extractStridedSlice S24576x8x32 ![0, 0, 32] q slices_S24576x8x64_S24576x8x32_0_0_32)
          (broadcastInDim S24576x8x32 ![0, 1, 2] bcast_S24576x1x32_S24576x8x32_0_1_2 (broadcastInDim S24576x1x32 ![0, 2] bcast_S24576x32_S24576x1x32_0_2 (Host.sin angles))))⟩,
    ⟨S24576x8x32,
      addf (mulf (extractStridedSlice S24576x8x32 ![0, 0, 32] q slices_S24576x8x64_S24576x8x32_0_0_32)
          (broadcastInDim S24576x8x32 ![0, 1, 2] bcast_S24576x1x32_S24576x8x32_0_1_2 (broadcastInDim S24576x1x32 ![0, 2] bcast_S24576x32_S24576x1x32_0_2 (Host.cos angles))))
        (mulf (extractStridedSlice S24576x8x32 ![0, 0, 0] q slices_S24576x8x64_S24576x8x32_0_0_0)
          (broadcastInDim S24576x8x32 ![0, 1, 2] bcast_S24576x1x32_S24576x8x32_0_1_2 (broadcastInDim S24576x1x32 ![0, 2] bcast_S24576x32_S24576x1x32_0_2 (Host.sin angles))))⟩]
    concatenates_S24576x8x32_S24576x8x32_S24576x8x64_d2

/-- The queries the launch reads, head first. -/
def queries (q : FVec Ideal S24576x1536 .f32) : FVec Ideal S8x24576x192 .bf16 :=
  transpose S8x24576x192 [1, 0, 2] (truncf .bf16 (mulf
      (concatenate S24576x8x192 2 [⟨S24576x8x128, extractStridedSlice S24576x8x128 ![0, 0, 0] (shapeCast S24576x8x192 q shapeCasts_S24576x1536_S24576x8x192) slices_S24576x8x192_S24576x8x128_0_0_0⟩,
        ⟨S24576x8x64, ropeQ (extractStridedSlice S24576x8x64 ![0, 0, 128] (shapeCast S24576x8x192 q shapeCasts_S24576x1536_S24576x8x192) slices_S24576x8x192_S24576x8x64_0_0_128)⟩]
        concatenates_S24576x8x128_S24576x8x64_S24576x8x192_d2)
      (broadcastInDim S24576x8x192 ![] bcast_S_S24576x8x192 (constant S_ .f32 0x3D93CD3A#32))) bitsLt_bf16_f32)
    transposes_S24576x8x192_S8x24576x192_1_0_2

/-- The rotary part of the keys, rotated. -/
def ropeK (k : FVec Ideal S24576x64 .f32) : FVec Ideal S24576x64 .f32 :=
  concatenate S24576x64 1 [⟨S24576x32,
      subf (mulf (extractStridedSlice S24576x32 ![0, 0] k slices_S24576x64_S24576x32_0_0) (Host.cos angles))
        (mulf (extractStridedSlice S24576x32 ![0, 32] k slices_S24576x64_S24576x32_0_32) (Host.sin angles))⟩,
    ⟨S24576x32,
      addf (mulf (extractStridedSlice S24576x32 ![0, 32] k slices_S24576x64_S24576x32_0_32) (Host.cos angles))
        (mulf (extractStridedSlice S24576x32 ![0, 0] k slices_S24576x64_S24576x32_0_0) (Host.sin angles))⟩]
    concatenates_S24576x32_S24576x32_S24576x64_d1

/-- The keys the launch reads, head first. -/
def keys (kv : FVec Ideal S24576x2048 .f32) (kr : FVec Ideal S24576x64 .f32) : FVec Ideal S8x24576x192 .bf16 :=
  transpose S8x24576x192 [1, 0, 2] (truncf .bf16
      (concatenate S24576x8x192 2 [⟨S24576x8x128, extractStridedSlice S24576x8x128 ![0, 0, 0] (shapeCast S24576x8x256 kv shapeCasts_S24576x2048_S24576x8x256) slices_S24576x8x256_S24576x8x128_0_0_0⟩,
        ⟨S24576x8x64, broadcastInDim S24576x8x64 ![0, 1, 2] bcast_S24576x1x64_S24576x8x64_0_1_2 (broadcastInDim S24576x1x64 ![0, 2] bcast_S24576x64_S24576x1x64_0_2 (ropeK kr))⟩]
        concatenates_S24576x8x128_S24576x8x64_S24576x8x192_d2) bitsLt_bf16_f32)
    transposes_S24576x8x192_S8x24576x192_1_0_2

/-- The values the launch reads. -/
def vals (kv : FVec Ideal S24576x2048 .f32) : FVec Ideal S24576x1024 .bf16 :=
  shapeCast S24576x1024 (truncf .bf16 (extractStridedSlice S24576x8x128 ![0, 0, 128] (shapeCast S24576x8x256 kv shapeCasts_S24576x2048_S24576x8x256) slices_S24576x8x256_S24576x8x128_0_0_128) bitsLt_bf16_f32)
    shapeCasts_S24576x8x128_S24576x1024

variable (m : (ℓ : Loc nD τ sig) → Buf (Elt Ideal) ℓ) (ρ : Dev nD → PrngReg)

/-- The values' array. -/
theorem V_vals (c : Dev nD) : V m c main_v66 = vals (m ((c : Thread nD τ).loc main_arg1)) := by
  unfold V
  after_results
  rfl

/-- The queries' array. -/
theorem V_queries (c : Dev nD) : V m c main_v67 = queries (m ((c : Thread nD τ).loc main_arg0)) := by
  unfold V
  after_results
  rfl

/-- The keys' array. -/
theorem V_keys (c : Dev nD) : V m c main_v68 = keys (m ((c : Thread nD τ).loc main_arg1)) (m ((c : Thread nD τ).loc main_arg2)) := by
  unfold V
  after_results
  rfl

/-- A frequency. -/
theorem freqs_apply (j : Fin 32) : freqs (ix1 j) = freq j := by
  pointwise [freqs, freq]

/-- The positions of the first sequence count up from zero. -/
theorem pos_first (i : Fin 16384) :
    shapeCast S16384 (broadcastInDim S1x16384 ![0, 1] bcast_S1x16384_S1x16384_0_1 (shapeCast S1x16384 (iotaInDim S16384 32 0) shapeCasts_S16384_S1x16384)) shapeCasts_S1x16384_S16384 (ix1 i)
      = BitVec.ofNat 32 i.val := by
  pointwise []

/-- The first part of two joined position arrays. -/
theorem concat_first (a : IVec S16384 32) (b : IVec S8192 32) (i : Fin 16384) :
    concatenate S24576 0 [⟨S16384, a⟩, ⟨S8192, b⟩] concatenates_S16384_S8192_S24576_d0 (ix1 (tok i)) = a (ix1 i) := by
  pointwise []
  exact dif_pos (show (tok i).val < 16384 from i.isLt)

/-- A token of the first sequence is at its own index. -/
theorem pos_apply (i : Fin 16384) : pos (ix1 (tok i)) = BitVec.ofNat 32 i.val := by
  unfold pos
  rw [concat_first, pos_first]

/-- An angle. -/
theorem angles_apply (i : Fin 16384) (j : Fin 32): angles (ix2 (tok i) j) = angle i.val j := by
  pointwise [angles, pos_apply, freqs_apply, angle]

/-- A rotated query is `rope` of the plain one. -/
theorem ropeQ_apply (q : S24576x8x64.Idx → EReal) (i : Fin 16384) (h : Fin 8) (e : Fin 64) :
    ropeQ q (ix3 (tok i) h e) = rope (fun e => q (ix3 (tok i) h e)) i.val e := by
  pointwise [ropeQ, angles_apply, rope]

/-- A rotated key is `rope` of the plain one. -/
theorem ropeK_apply (k : S24576x64.Idx → EReal) (i : Fin 16384) (e : Fin 64) :
    ropeK k (ix2 (tok i) e) = rope (fun e => k (ix2 (tok i) e)) i.val e := by
  pointwise [ropeK, angles_apply, rope]

/-- The first 128 coordinates of a query, scaled. -/
theorem queries_nope (q : S24576x1536.Idx → EReal) (i : Fin 16384) (h : Fin 8) (d : Fin 128) :
    queries q (ix3 h (tok i) ⟨d.val, by omega⟩) = qNope q h i d * scale := by
  pointwise [queries, qNope, scale]

/-- The last 64 coordinates of a query, rotated and scaled. -/
theorem queries_rope (q : S24576x1536.Idx → EReal) (i : Fin 16384) (h : Fin 8) (e : Fin 64) :
    queries q (ix3 h (tok i) ⟨128 + e.val, by omega⟩) = qRope q h i e * scale := by
  pointwise [queries, qRope, scale, ropeQ_apply]

/-- The first 128 coordinates of a key. -/
theorem keys_nope (kv : S24576x2048.Idx → EReal) (kr : S24576x64.Idx → EReal) (i : Fin 16384) (h : Fin 8) (d : Fin 128) :
    keys kv kr (ix3 h (tok i) ⟨d.val, by omega⟩) = kNope kv h i d := by
  pointwise [keys, kNope]

/-- The last 64 coordinates of a key, rotated. -/
theorem keys_rope (kv : S24576x2048.Idx → EReal) (kr : S24576x64.Idx → EReal) (i : Fin 16384) (h : Fin 8) (e : Fin 64) :
    keys kv kr (ix3 h (tok i) ⟨128 + e.val, by omega⟩) = kRope kr i e := by
  pointwise [keys, kRope, ropeK_apply]

/-- A value. -/
theorem vals_apply (kv : S24576x2048.Idx → EReal) (i : Fin 16384) (h : Fin 8) (e : Fin 128) :
    vals kv (ix2 (tok i) ⟨128 * h.val + e.val, by omega⟩) = val kv h i e := by
  pointwise [vals, val]

end Cert.KernelIdeal.Attention

end
-- ==== Proof.AttentionReference.lean ====
/-
  The plain attention reference: its result term opened, and shown to be `out` of its arguments.
-/
module

public import proofs.«01_k».proof.Defs
public import proofs.«01_k».proof.Proof.AttentionSpec
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem
open scoped BigOperators

namespace Cert.ReferenceIdeal.Attention

open Cert.ReferenceIdeal Cert.ReferenceIdeal.Gen Cert.Proof.Attention

/-- The 32 rotary frequencies. -/
def freqs : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
      (broadcastInDim S32 ![] bcast_S_S32 (constant S_ .f32 0x42800000#32)))

/-- The angle of a token at a frequency. -/
def angles : FVec Ideal S16384x32 .f32 :=
  mulf (broadcastInDim S16384x32 ![0, 1] bcast_S16384x1_S16384x32_0_1 (broadcastInDim S16384x1 ![0] bcast_S16384_S16384x1_0 (sitofp .f32 (iotaInDim S16384 32 0))))
    (broadcastInDim S16384x32 ![0, 1] bcast_S1x32_S16384x32_0_1 (broadcastInDim S1x32 ![1] bcast_S32_S1x32_1 freqs))

/-- The rotary part of the queries, rotated. -/
def ropeQ (q : FVec Ideal S16384x8x64 .f32) : FVec Ideal S16384x8x64 .f32 :=
  concatenate S16384x8x64 2 [⟨S16384x8x32,
      subf (mulf (extractStridedSlice S16384x8x32 ![0, 0, 0] q slices_S16384x8x64_S16384x8x32_0_0_0)
          (broadcastInDim S16384x8x32 ![0, 1, 2] bcast_S16384x1x32_S16384x8x32_0_1_2 (broadcastInDim S16384x1x32 ![0, 2] bcast_S16384x32_S16384x1x32_0_2 (Host.cos angles))))
        (mulf (extractStridedSlice S16384x8x32 ![0, 0, 32] q slices_S16384x8x64_S16384x8x32_0_0_32)
          (broadcastInDim S16384x8x32 ![0, 1, 2] bcast_S16384x1x32_S16384x8x32_0_1_2 (broadcastInDim S16384x1x32 ![0, 2] bcast_S16384x32_S16384x1x32_0_2 (Host.sin angles))))⟩,
    ⟨S16384x8x32,
      addf (mulf (extractStridedSlice S16384x8x32 ![0, 0, 32] q slices_S16384x8x64_S16384x8x32_0_0_32)
          (broadcastInDim S16384x8x32 ![0, 1, 2] bcast_S16384x1x32_S16384x8x32_0_1_2 (broadcastInDim S16384x1x32 ![0, 2] bcast_S16384x32_S16384x1x32_0_2 (Host.cos angles))))
        (mulf (extractStridedSlice S16384x8x32 ![0, 0, 0] q slices_S16384x8x64_S16384x8x32_0_0_0)
          (broadcastInDim S16384x8x32 ![0, 1, 2] bcast_S16384x1x32_S16384x8x32_0_1_2 (broadcastInDim S16384x1x32 ![0, 2] bcast_S16384x32_S16384x1x32_0_2 (Host.sin angles))))⟩]
    concatenates_S16384x8x32_S16384x8x32_S16384x8x64_d2

/-- The rotary part of the keys, rotated. -/
def ropeK (k : FVec Ideal S16384x64 .f32) : FVec Ideal S16384x64 .f32 :=
  concatenate S16384x64 1 [⟨S16384x32,
      subf (mulf (extractStridedSlice S16384x32 ![0, 0] k slices_S16384x64_S16384x32_0_0) (Host.cos angles))
        (mulf (extractStridedSlice S16384x32 ![0, 32] k slices_S16384x64_S16384x32_0_32) (Host.sin angles))⟩,
    ⟨S16384x32,
      addf (mulf (extractStridedSlice S16384x32 ![0, 32] k slices_S16384x64_S16384x32_0_32) (Host.cos angles))
        (mulf (extractStridedSlice S16384x32 ![0, 0] k slices_S16384x64_S16384x32_0_0) (Host.sin angles))⟩]
    concatenates_S16384x32_S16384x32_S16384x64_d1

/-- The first sequence's queries, by head. -/
def rowsQ (q : FVec Ideal S24576x1536 .f32) : FVec Ideal S16384x8x192 .f32 :=
  shapeCast S16384x8x192 (extractStridedSlice S16384x1536 ![0, 0] q slices_S24576x1536_S16384x1536_0_0) shapeCasts_S16384x1536_S16384x8x192

/-- The first sequence's plain keys and values, by head. -/
def rowsKV (kv : FVec Ideal S24576x2048 .f32) : FVec Ideal S16384x8x256 .f32 :=
  shapeCast S16384x8x256 (extractStridedSlice S16384x2048 ![0, 0] kv slices_S24576x2048_S16384x2048_0_0) shapeCasts_S16384x2048_S16384x8x256

/-- The scores of every head. -/
def scores (q : FVec Ideal S24576x1536 .f32) (kv : FVec Ideal S24576x2048 .f32) (kr : FVec Ideal S24576x64 .f32) : FVec Ideal S8x16384x16384 .f32 :=
  mulf (addf
      (Host.dotGeneral (F := Ideal) (φ₁ := .f32) (φ₂ := .f32) dot_S16384x8x128_S16384x8x128_S8x16384x16384_2_2_0_0_1_1 none
        (extractStridedSlice S16384x8x128 ![0, 0, 0] (rowsQ q) slices_S16384x8x192_S16384x8x128_0_0_0)
        (extractStridedSlice S16384x8x128 ![0, 0, 0] (rowsKV kv) slices_S16384x8x256_S16384x8x128_0_0_0))
      (transpose S8x16384x16384 [2, 1, 0]
        (Host.dotGeneral (F := Ideal) (φ₁ := .f32) (φ₂ := .f32) dot_S16384x64_S16384x8x64_S16384x16384x8_1_2_0_01_n_n none
          (ropeK (extractStridedSlice S16384x64 ![0, 0] kr slices_S24576x64_S16384x64_0_0))
          (ropeQ (extractStridedSlice S16384x8x64 ![0, 0, 128] (rowsQ q) slices_S16384x8x192_S16384x8x64_0_0_128)))
        transposes_S16384x16384x8_S8x16384x16384_2_1_0))
    (broadcastInDim S8x16384x16384 ![] bcast_S_S8x16384x16384 (constant S_ .f32 0x3D93CD3A#32))

/-- The maximum along the last axis, started from minus infinity. -/
theorem reduceMax_apply {n0 n1 n2 : ℕ} (s : (⟨3, ![n0, n1, n2]⟩ : Shape).Idx → EReal)
    (hr : (⟨3, ![n0, n1, n2]⟩ : Shape).ReducesTo [2] ⟨2, ![n0, n1]⟩) (h : Fin n0) (i : Fin n1) :
    Host.reduce (FloatOps.maximumf (F := Ideal) (φ := .f32)) s (constant (F := Ideal) S_ .f32 0xFF800000#32) hr h_S_ (ix2 h i)
      = (Finset.univ : Finset (Fin n2)).sup fun k => s (ix3 h i k) := by
  pointwise []
  rw [ofBits_neg_inf]
  rfl

/-- The maximum with minus infinity. -/
theorem max_negInf {S : Shape} (hb : S_.BroadcastsInDim S (![] : Fin 0 → Fin S.rank)) (X : FVec Ideal S .f32) (j : S.Idx) :
    maximumf (broadcastInDim S ![] hb (constant S_ .f32 0xFF800000#32)) X j = X j := by
  show max (Ideal.ofBits .f32 0xFF800000#32) (X j) = _
  rw [ofBits_neg_inf, max_eq_right bot_le]

/-- Each row's largest score. -/
def rowMax (s : FVec Ideal S8x16384x16384 .f32) : FVec Ideal S8x16384 .f32 :=
  maximumf (broadcastInDim S8x16384 ![] bcast_S_S8x16384 (constant S_ .f32 0xFF800000#32))
    (Host.reduce FloatOps.maximumf s (constant (F := Ideal) S_ .f32 0xFF800000#32) reducesTo_S8x16384x16384_S8x16384_d2 h_S_)

/-- Each row's weights before they are normalised. -/
def weights (s : FVec Ideal S8x16384x16384 .f32) : FVec Ideal S8x16384x16384 .f32 :=
  Host.exp (subf s (broadcastInDim S8x16384x16384 ![0, 1, 2] bcast_S8x16384x1_S8x16384x16384_0_1_2
    (broadcastInDim S8x16384x1 ![0, 1] bcast_S8x16384_S8x16384x1_0_1 (rowMax s))))

/-- Each row's weights, normalised. -/
def normal (w : FVec Ideal S8x16384x16384 .f32) : FVec Ideal S8x16384x16384 .f32 :=
  Host.divf w (broadcastInDim S8x16384x16384 ![0, 1, 2] bcast_S8x16384x1_S8x16384x16384_0_1_2
    (broadcastInDim S8x16384x1 ![0, 1] bcast_S8x16384_S8x16384x1_0_1
      (Host.reduceAdd w (constant (F := Ideal) S_ .f32 0x00000000#32) reducesTo_S8x16384x16384_S8x16384_d2 h_S_)))

/-- The values weighted. -/
def result (w : FVec Ideal S8x16384x16384 .f32) (kv : FVec Ideal S24576x2048 .f32) : FVec Ideal S16384x1024 .bf16 :=
  truncf .bf16 (shapeCast S16384x1024 (transpose S16384x8x128 [2, 0, 1]
    (Host.dotGeneral (F := Ideal) (φ₁ := .f32) (φ₂ := .f32) dot_S16384x8x128_S8x16384x16384_S8x128x16384_0_2_2_1_1_0 none
      (extractStridedSlice S16384x8x128 ![0, 0, 128] (rowsKV kv) slices_S16384x8x256_S16384x8x128_0_0_128) w)
    transposes_S8x128x16384_S16384x8x128_2_0_1) shapeCasts_S16384x8x128_S16384x1024) bitsLt_bf16_f32

/-- The reference's result is the staged computation of its arguments. -/
theorem res_eq (m : (ℓ : Loc nD τ sig) → Buf (Elt Ideal) ℓ) (c : Dev nD) :
    Value.res_main_v72 m c = result (normal (weights (scores (m ((c.tc : Thread nD τ).loc main_arg0)) (m ((c.tc : Thread nD τ).loc main_arg1))
      (m ((c.tc : Thread nD τ).loc main_arg2))))) (m ((c.tc : Thread nD τ).loc main_arg1)) := by
  unfold Value.res_main_v72
  rfl

/-- A frequency. -/
theorem freqs_apply (j : Fin 32) : freqs (ix1 j) = freq j := by
  pointwise [freqs, freq]

/-- An angle. -/
theorem angles_apply (i : Fin 16384) (j : Fin 32): angles (ix2 i j) = angle i.val j := by
  pointwise [angles, freqs_apply, angle]

/-- A rotated query is `rope` of the plain one. -/
theorem ropeQ_apply (q : S16384x8x64.Idx → EReal) (i : Fin 16384) (h : Fin 8) (e : Fin 64) :
    ropeQ q (ix3 i h e) = rope (fun e => q (ix3 i h e)) i.val e := by
  pointwise [ropeQ, angles_apply, rope]

/-- A rotated key is `rope` of the plain one. -/
theorem ropeK_apply (k : S16384x64.Idx → EReal) (i : Fin 16384) (e : Fin 64) :
    ropeK k (ix2 i e) = rope (fun e => k (ix2 i e)) i.val e := by
  pointwise [ropeK, angles_apply, rope]

/-- A query entry, read from the argument. -/
theorem rowsQ_apply (q : S24576x1536.Idx → EReal) (i : Fin 16384) (h : Fin 8) (d : Fin 192) :
    rowsQ q (ix3 i h d) = q (ix2 (tok i) ⟨h.val * 192 + d.val, by omega⟩) := by
  pointwise [rowsQ, tok]

/-- A packed key or value entry, read from the argument. -/
theorem rowsKV_apply (kv : S24576x2048.Idx → EReal) (i : Fin 16384) (h : Fin 8) (d : Fin 256) :
    rowsKV kv (ix3 i h d) = kv (ix2 (tok i) ⟨h.val * 256 + d.val, by omega⟩) := by
  pointwise [rowsKV, tok]

/-- An entry of the score array is `score`. -/
theorem scores_apply (q : S24576x1536.Idx → EReal) (kv : S24576x2048.Idx → EReal) (kr : S24576x64.Idx → EReal)
    (h : Fin 8) (i k : Fin 16384) : scores q kv kr (ix3 h i k) = score q kv kr h i k := by
  pointwise [scores, score, rowsQ_apply, rowsKV_apply, ropeQ_apply, ropeK_apply, qNope, kNope, qRope, kRope, tok, scale]
  congr 2
  exact Finset.sum_congr rfl fun e _ => mul_comm _ _

/-- The row maximum is the largest entry of the row. -/
theorem rowMax_apply (s : S8x16384x16384.Idx → EReal) (h : Fin 8) (i : Fin 16384) :
    rowMax s (ix2 h i) = (Finset.univ : Finset (Fin 16384)).sup fun k => s (ix3 h i k) := by
  unfold rowMax
  rw [max_negInf]
  exact reduceMax_apply s reducesTo_S8x16384x16384_S8x16384_d2 h i

/-- An unnormalized weight. -/
theorem weights_apply (s : S8x16384x16384.Idx → EReal) (h : Fin 8) (i k : Fin 16384) :
    weights s (ix3 h i k) = Ideal.exp (s (ix3 h i k) - (Finset.univ : Finset (Fin 16384)).sup fun k => s (ix3 h i k)) := by
  pointwise [weights, rowMax_apply]

/-- A weight divided by its row's total. -/
theorem normal_apply (w : S8x16384x16384.Idx → EReal) (h : Fin 8) (i k : Fin 16384) :
    normal w (ix3 h i k) = Ideal.div (w (ix3 h i k)) (∑ k : Fin 16384, w (ix3 h i k)) := by
  pointwise [normal]

/-- An entry of the result: the values summed with the row's weights. -/
theorem result_apply (w : S8x16384x16384.Idx → EReal) (kv : S24576x2048.Idx → EReal) (i : Fin 16384) (j : Fin 1024) :
    result w kv (ix2 i j) = ∑ k : Fin 16384, val kv ⟨j.val / 128, by omega⟩ k ⟨j.val % 128, by omega⟩ * w (ix3 ⟨j.val / 128, by omega⟩ i k) := by
  pointwise [result, rowsKV_apply, val]

/-- The staged computation gives `out`. -/
theorem result_eq (q : S24576x1536.Idx → EReal) (kv : S24576x2048.Idx → EReal) (kr : S24576x64.Idx → EReal) :
    result (normal (weights (scores q kv kr))) kv = out q kv kr := by
  funext j
  idx_vars j
  rw [result_apply]
  unfold out attend
  refine Finset.sum_congr rfl fun k _ => ?_
  rw [normal_apply, mul_comm]
  simp only [weights_apply, scores_apply]
  rfl

end Cert.ReferenceIdeal.Attention

end
-- ==== Proof.AttentionPre.lean ====
/-
  The precondition read: where it holds, the queries and keys of the first sequence are finite.
-/
module

public import proofs.«01_k».proof.Defs
public import proofs.«01_k».proof.Proof.AttentionSpec
public import Idealize.ShloMosaic.Lib.Pointwise

@[expose] public section

set_option maxRecDepth 16384

noncomputable section

open Idealize.ShloMosaic Idealize.ShloMosaic.TcCoe Idealize.SL.Sem
open scoped BigOperators

namespace Cert.Pre_finite_qk

open Cert.Proof.Attention

/-- The shape conditions of the precondition's operations. -/
instance holds : Facts :=
  ⟨by decide, by decide, by decide, by decide, by decide, by decide, by decide, by decide⟩

/-- A number whose absolute value is below infinity is finite. -/
theorem real_of_abs (x : EReal) (h : FloatOps.cmpf (F := Ideal) (φ := .f32) .olt (max x (-x)) (Ideal.ofBits .f32 0x7F800000#32) = 1#1) :
    IsReal x := by
  have ht : Ideal.ofBits .f32 0x7F800000#32 = ⊤ := by simp [Ideal.ofBits, Ideal.ieee]
  rw [ht] at h
  induction x with
  | coe r => exact ⟨r, rfl⟩
  | top => simp [FloatOps.cmpf, Ideal.cmp] at h
  | bot => simp [FloatOps.cmpf, Ideal.cmp] at h

variable (q : S24576x1536.Idx → EReal) (kv : S24576x2048.Idx → EReal) (kr : S24576x64.Idx → EReal)

/-- The precondition at a query entry. -/
theorem q_apply (i : Fin 16384) (c : Fin 1536) :
    (fn (F := Ideal) q kv kr).1 (ix2 i c)
      = FloatOps.cmpf (F := Ideal) (φ := .f32) .olt (max (q (ix2 (tok i) c)) (-(q (ix2 (tok i) c)))) (Ideal.ofBits .f32 0x7F800000#32) := by
  pointwise [fn]
  rfl

/-- The precondition at a key entry. -/
theorem k_apply (i : Fin 16384) (h : Fin 8) (d : Fin 128) :
    (fn (F := Ideal) q kv kr).2.1 (ix3 i h d)
      = FloatOps.cmpf (F := Ideal) (φ := .f32) .olt (max (kNope kv h i d) (-(kNope kv h i d))) (Ideal.ofBits .f32 0x7F800000#32) := by
  pointwise [fn, kNope]
  rfl

/-- The precondition at an entry of the shared rotary key. -/
theorem kr_apply (i : Fin 16384) (e : Fin 64) :
    (fn (F := Ideal) q kv kr).2.2 (ix2 i e)
      = FloatOps.cmpf (F := Ideal) (φ := .f32) .olt (max (kr (ix2 (tok i) e)) (-(kr (ix2 (tok i) e)))) (Ideal.ofBits .f32 0x7F800000#32) := by
  pointwise [fn]
  rfl

/-- If the precondition's three arrays are all ones, the queries and keys are finite. -/
theorem finite (h : (fn (F := Ideal) q kv kr).1 = (fun _ => 1#1) ∧ (fn (F := Ideal) q kv kr).2.1 = (fun _ => 1#1)
    ∧ (fn (F := Ideal) q kv kr).2.2 = (fun _ => 1#1)) : Finite q kv kr where
  q i c := real_of_abs _ ((q_apply q kv kr i c).symm.trans (congrFun h.1 _))
  k i hd d := real_of_abs _ ((k_apply q kv kr i hd d).symm.trans (congrFun h.2.1 _))
  kr i e := real_of_abs _ ((kr_apply q kv kr i e).symm.trans (congrFun h.2.2 _))

end Cert.Pre_finite_qk

end
-- ==== Proof.Attention.lean ====
/-
  The attention call: the tiled kernel (512 queries of one head per grid point, the keys in a running softmax) against
  the plain reference, over the extended reals. With finite queries and keys both compute `out`.
-/
module

public import proofs.«01_k».proof.Defs
public import proofs.«01_k».proof.Proof.AttentionLoop
public import proofs.«01_k».proof.Proof.AttentionStep
public import proofs.«01_k».proof.Proof.AttentionHost
public import proofs.«01_k».proof.Proof.AttentionReference
public import proofs.«01_k».proof.Proof.AttentionPre
public import proofs.«01_k».proof.Proof.Gen.Kernel.Frame
public import proofs.«01_k».proof.Proof.Gen.KernelIdeal.Value
public import proofs.«01_k».proof.Proof.Gen.ReferenceIdeal.Run
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.KernelIdeal.Attention

open Cert.KernelIdeal Cert.KernelIdeal.Gen Cert.Proof.OnlineSoftmax
open Cert.Proof.Attention (tok qNope qRope kNope kRope scale attend out Finite finite_score attend_eq score_eq)

variable (m : (ℓ : Loc nD τ sig) → Buf (Elt Ideal) ℓ) (ρ : Dev nD → PrngReg)

/-- The block indices of the four windows: point `t` is head `t / 32`, query tile `t % 32`. -/
theorem idx : ∀ t : Fin grid0.N, (win0_0.index t 0 = t.val / 32 ∧ win0_0.index t 1 = t.val % 32 ∧ win0_0.index t 2 = 0)
    ∧ (win0_1.index t 0 = t.val / 32 ∧ win0_1.index t 1 = 0 ∧ win0_1.index t 2 = 0)
    ∧ (win0_2.index t 0 = 0 ∧ win0_2.index t 1 = t.val / 32)
    ∧ (win0_3.index t 0 = t.val % 32 ∧ win0_3.index t 1 = t.val / 32) := by decide +kernel

/-- There are eight heads. -/
theorem head_lt (t : Fin grid0.N) : t.val / 32 < 8 := by
  have := t.isLt; have hN : grid0.N = 256 := N_0; omega

/-- A tile's rows lie in the first sequence. -/
theorem row_lt (t : Fin grid0.N) (r : Fin 512) : 512 * (t.val % 32) + r.val < 16384 := by omega

/-- The head of a grid point. -/
def head (t : Fin grid0.N) : Fin 8 := ⟨t.val / 32, head_lt t⟩

/-- The token of a row of a grid point's query tile. -/
def row (t : Fin grid0.N) (r : Fin 512) : Fin 16384 := ⟨512 * (t.val % 32) + r.val, row_lt t r⟩

/-- The queries' block at point `t`, read at an entry. -/
theorem blk_q (c : Dev nD) (t : Fin grid0.N) (r : Fin 512) (d : Fin 192) :
    (iblk m c 0 t : S1x512x192.Idx → EReal) (ix3 0 r d)
      = queries (m ((c : Thread nD τ).loc main_arg0)) (ix3 (head t) (tok (row t r)) d) := by
  unfold iblk
  rw [View.read_apply]
  show (V m c main_v67 : S8x24576x192.Idx → EReal) _ = _
  rw [V_queries]
  congr 1
  funext a
  apply Fin.ext
  match a with
  | ⟨0, _⟩ => show win0_0.index t 0 * 1 + 1 * 0 = t.val / 32; rw [(idx t).1.1]; omega
  | ⟨1, _⟩ => show win0_0.index t 1 * 512 + 1 * r.val = 512 * (t.val % 32) + r.val; rw [(idx t).1.2.1]; omega
  | ⟨2, _⟩ => show win0_0.index t 2 * 192 + 1 * d.val = d.val; rw [(idx t).1.2.2]; omega

/-- The keys a point reads are its head's keys of the first sequence. -/
theorem blk_k (c : Dev nD) (t : Fin grid0.N) (k : Fin 16384) (d : Fin 192) :
    (X0_1 m c t : S1x16384x192.Idx → EReal) (ix3 0 k d)
      = keys (m ((c : Thread nD τ).loc main_arg1)) (m ((c : Thread nD τ).loc main_arg2)) (ix3 (head t) (tok k) d) := by
  unfold X0_1 Pipeline.Window.fill
  rw [dif_pos (moved0_1 t _)]
  unfold iblk
  rw [View.read_apply]
  show (V m c main_v68 : S8x24576x192.Idx → EReal) _ = _
  rw [V_keys]
  congr 1
  funext a
  apply Fin.ext
  match a with
  | ⟨0, _⟩ => show win0_1.index t 0 * 1 + 1 * 0 = t.val / 32; rw [(idx t).2.1.1]; omega
  | ⟨1, _⟩ => show win0_1.index t 1 * 16384 + 1 * k.val = k.val; rw [(idx t).2.1.2.1]; omega
  | ⟨2, _⟩ => show win0_1.index t 2 * 192 + 1 * d.val = d.val; rw [(idx t).2.1.2.2]; omega

/-- The values a point reads are its head's values of the first sequence. -/
theorem blk_v (c : Dev nD) (t : Fin grid0.N) (k : Fin 16384) (e : Fin 128) :
    (X0_2 m c t : S16384x128.Idx → EReal) (ix2 k e)
      = vals (m ((c : Thread nD τ).loc main_arg1)) (ix2 (tok k) ⟨128 * (head t).val + e.val, by omega⟩) := by
  unfold X0_2 Pipeline.Window.fill
  rw [dif_pos (moved0_2 t _)]
  unfold iblk
  rw [View.read_apply]
  show (V m c main_v66 : S24576x1024.Idx → EReal) _ = _
  rw [V_vals]
  congr 1
  funext a
  apply Fin.ext
  match a with
  | ⟨0, _⟩ => show win0_2.index t 0 * 16384 + 1 * k.val = k.val; rw [(idx t).2.2.1.1]; omega
  | ⟨1, _⟩ => show win0_2.index t 1 * 128 + 1 * e.val = 128 * (t.val / 32) + e.val; rw [(idx t).2.2.1.2]; omega

/-- The whole result: `out` of the three arguments. -/
abbrev G (c : Dev nD) : Buf (Elt Ideal) ((c : Thread nD τ).loc main_v69) :=
  out (m ((c : Thread nD τ).loc main_arg0)) (m ((c : Thread nD τ).loc main_arg1)) (m ((c : Thread nD τ).loc main_arg2))

/-- The queries, keys and values of one head and tile, put through the running softmax, give that head's attention. -/
theorem tile_eq (q : S24576x1536.Idx → EReal) (kv : S24576x2048.Idx → EReal) (kr : S24576x64.Idx → EReal)
    (hf : Finite q kv kr) (h : Fin 8) (i : Fin 16384) (r : Fin 512) (e : Fin 128)
    (x0 : S1x512x192.Idx → EReal) (x1 : S1x16384x192.Idx → EReal) (x2 : S16384x128.Idx → EReal)
    (h0 : ∀ d : Fin 192, x0 (ix3 0 r d) = queries q (ix3 h (tok i) d))
    (h1 : ∀ (k : Fin 16384) (d : Fin 192), x1 (ix3 0 k d) = keys kv kr (ix3 h (tok k) d))
    (h2 : ∀ k : Fin 16384, x2 (ix2 k e) = vals kv (ix2 (tok k) ⟨128 * h.val + e.val, by omega⟩)) :
    k0_pay6 (F := Ideal) (final x0 x1 x2).2.2 (final x0 x1 x2).2.1 (ix2 r e) = attend q kv kr h i e := by
  obtain ⟨s, hs⟩ : ∃ s : ℕ → ℝ, ∀ k : Fin 16384, Cert.Proof.Attention.score q kv kr h i k = (s k.val : EReal) := by
    refine ⟨fun n => if hn : n < 16384 then (Cert.Proof.Attention.score q kv kr h i ⟨n, hn⟩).toReal else 0, fun k => ?_⟩
    obtain ⟨x, hx⟩ := finite_score hf h i k
    dsimp only
    rw [dif_pos k.isLt, hx, EReal.toReal_coe]
  obtain ⟨v, hv⟩ : ∃ v : ℕ → EReal, ∀ k : Fin 16384, Cert.Proof.Attention.val kv h k e = v k.val := by
    refine ⟨fun n => if hn : n < 16384 then Cert.Proof.Attention.val kv h ⟨n, hn⟩ e else 0, fun k => ?_⟩
    dsimp only
    rw [dif_pos k.isLt]
  rw [attend_eq h i e s v hs hv]
  refine final_div x0 x1 x2 r e s v (fun k => ?_) fun k => ?_
  · rw [← hs k]
    refine score_eq h i k (fun d => x0 (ix3 0 r d)) (fun d => x1 (ix3 0 k d)) (fun d => ?_) (fun d => ?_) (fun d => ?_) fun d => ?_
    · exact (h0 _).trans (queries_nope q i h d)
    · exact (h0 _).trans (queries_rope q i h d)
    · exact (h1 k _).trans (keys_nope kv kr k h d)
    · exact (h1 k _).trans (keys_rope kv kr k h d)
  · rw [h2 k, vals_apply, hv k]

/-- The result at a row and a head's column is that head's attention. -/
theorem out_at (q : S24576x1536.Idx → EReal) (kv : S24576x2048.Idx → EReal) (kr : S24576x64.Idx → EReal)
    (i : Fin 16384) (h : Fin 8) (e : Fin 128) :
    out q kv kr (ix2 i ⟨128 * h.val + e.val, by omega⟩) = attend q kv kr h i e := by
  have hh : (⟨(128 * h.val + e.val) / 128, by omega⟩ : Fin 8) = h := Fin.ext (by show (128 * h.val + e.val) / 128 = h.val; omega)
  have he : (⟨(128 * h.val + e.val) % 128, by omega⟩ : Fin 128) = e := Fin.ext (by show (128 * h.val + e.val) % 128 = e.val; omega)
  show attend q kv kr ⟨(128 * h.val + e.val) / 128, _⟩ i ⟨(128 * h.val + e.val) % 128, _⟩ = _
  rw [hh, he]

/-- A point's block of the result is written back whole. -/
theorem cut_apply (t : Fin cfg0.N) (f : S512x128.Idx → EReal) (j : S512x128.Idx) :
    ((cfg0.win 3).cut (grid0.coords t) f : S512x128.Idx → EReal) j = f j := rfl

/-- What point `t` writes back is its tile of the whole result. -/
theorem flushed_eq (c : Dev nD)
    (hf : Finite (m ((c : Thread nD τ).loc main_arg0)) (m ((c : Thread nD τ).loc main_arg1)) (m ((c : Thread nD τ).loc main_arg2)))
    (t : Fin cfg0.N) :
    (dats m 0 c).flushed 3 t = ((cfg0.win 3).blk t).view.read (Elt Ideal) (G m c) := by
  rw [Value.flushed3_A, out_block]
  refine funext fun (j : S512x128.Idx) => ?_
  rw [View.read_apply]
  have e : (((cfg0.win 3).blk t).view.emb j : S16384x1024.Idx)
      = ix2 (row t (j 0)) ⟨128 * (head t).val + (j 1).val, by have : (j 1).val < 128 := (j 1).isLt; omega⟩ := by
    funext a
    apply Fin.ext
    match a with
    | ⟨0, _⟩ => show win0_3.index t 0 * 512 + 1 * (j 0).val = 512 * (t.val % 32) + (j 0).val; rw [(idx t).2.2.2.1]; omega
    | ⟨1, _⟩ => show win0_3.index t 1 * 128 + 1 * (j 1).val = 128 * (t.val / 32) + (j 1).val; rw [(idx t).2.2.2.2]; omega
  rw [e]
  idx_vars j
  refine (cut_apply t _ (ix2 j0 j1)).trans ?_
  have ht := tile_eq _ _ _ hf (head t) (row t j0) j0 j1 _ _ _ (blk_q m c t j0) (blk_k m c t) (fun k => blk_v m c t k j1)
  refine ht.trans ?_
  have ho := (out_at (m ((c : Thread nD τ).loc main_arg0)) (m ((c : Thread nD τ).loc main_arg1)) (m ((c : Thread nD τ).loc main_arg2)) (row t j0) (head t) j1).symm
  exact ho.trans (cast_eq rfl _).symm

/-- Which entries point `t`'s tile holds. -/
theorem mem_blk (t : Fin cfg0.N) (i : S16384x1024.Idx) :
    i ∈ ((cfg0.win 3).blk t).view.set ↔ (512 * (t.val % 32) ≤ (i 0 : Nat) ∧ (i 0 : Nat) < 512 * (t.val % 32) + 512)
      ∧ 128 * (t.val / 32) ≤ (i 1 : Nat) ∧ (i 1 : Nat) < 128 * (t.val / 32) + 128 := by
  show i ∈ ((View.whole main_v69).slice (win0_3.rect t)).set ↔ _
  rw [View.set_slice_whole, Rect.mem_set_unit]
  refine (Fin.forall_fin_two (p := fun a => _ ≤ (i a : Nat) ∧ (i a : Nat) < _)).trans ?_
  show (win0_3.index t 0 * 512 ≤ (i 0 : Nat) ∧ (i 0 : Nat) < win0_3.index t 0 * 512 + 512)
    ∧ (win0_3.index t 1 * 128 ≤ (i 1 : Nat) ∧ (i 1 : Nat) < win0_3.index t 1 * 128 + 128) ↔ _
  rw [(idx t).2.2.2.1, (idx t).2.2.2.2]
  omega

/-- The tiles cover the result. -/
theorem cover (i : S16384x1024.Idx) :
    ∃ t : Fin cfg0.N, (cfg0.win 3).flush t = true ∧ i ∈ ((cfg0.win 3).blk t).view.set := by
  have h0 : (i 0 : Nat) < 16384 := (i 0).isLt
  have h1 : (i 1 : Nat) < 1024 := (i 1).isLt
  have hN : cfg0.N = 256 := N_0
  refine ⟨⟨(i 1 : Nat) / 128 * 32 + (i 0 : Nat) / 512, by omega⟩, flush0_3 _, ?_⟩
  rw [mem_blk]
  dsimp only
  omega

/-- The run, read: with finite queries and keys the result is `out` of the arguments, which are unchanged. -/
theorem run (hf : ∀ c : Dev nD, Finite (m ((c : Thread nD τ).loc main_arg0)) (m ((c : Thread nD τ).loc main_arg1)) (m ((c : Thread nD τ).loc main_arg2))) :
    θ_run defs (onTc (τ := τ) (main (F := Ideal))) ⟨m, fun _ => 0, ρ⟩ fun r => ∀ c : Dev nD,
      r.2.mem ((c : Thread nD τ).loc main_v69) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
      ((dats m 0 c).arrAt_eq_of_cover 3 (G m c) (fun t _ => flushed_eq m c (hf c) t) cover), (h c).2⟩)
    (Value.run_blocks m ρ)

end Cert.KernelIdeal.Attention

namespace Cert.Proof.Attention

/-- The kernel runs and leaves its arguments. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- … in particular under the precondition. -/
theorem frame_ideal_pre : Cert.quiescent_KernelIdeal_pre_finite_qk := fun m ρ _ => Cert.KernelIdeal.Gen.frame m ρ

/-- The reference leaves its arguments; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- … in particular under the precondition. -/
theorem frame_reference_pre : Cert.quiescent_ReferenceIdeal_pre_finite_qk := fun m ρ _ => frame_reference m ρ trivial

/-- Idealization rewrote nothing. -/
theorem preserves : Cert.preserves_Kernel_KernelIdeal := trivial

/-- With finite queries and keys, kernel and reference both end at `out` of the common arguments. -/
theorem algebraic : Cert.algebraic_KernelIdeal_ReferenceIdeal_pre_finite_qk := fun m ρ m' ρ' hpre hag =>
  ⟨fun c => Cert.KernelIdeal.Attention.G m c,
    Cert.KernelIdeal.Attention.run m ρ fun c => Cert.Pre_finite_qk.finite _ _ _ (hpre c),
    (θ_run Cert.ReferenceIdeal.defs _ _).mono
      (fun _ h c => ⟨(h c).1.trans ((Cert.ReferenceIdeal.Attention.res_eq m' c).trans
        ((Cert.ReferenceIdeal.Attention.result_eq _ _ _).trans
          (by rw [(hag c).1, (hag c).2.1, (hag c).2.2]))), (h c).2⟩)
      (Cert.ReferenceIdeal.Value.run (F := Ideal) m' ρ')⟩

end Cert.Proof.Attention

end
-- ==== Proof.GateUp.lean ====
/-
  The SwiGLU feed-forward call: the tiled kernel (one 512 by 512 tile of the hidden activations per grid point, the
  contraction whole) against the plain reference, over the extended reals. Both are shown to compute `swiglu`.
-/
module

public import proofs.«01_k».proof.Defs
public import proofs.«01_k».proof.Proof.Gen.Kernel2Ideal.Value
public import proofs.«01_k».proof.Proof.Gen.Reference2Ideal.Run
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Proof.GateUp

/-- The hidden activation of one token and one feature: `silu(h·gate) · (h·up)`. -/
def swiglu (h : (⟨2, ![24576, 2048]⟩ : Shape).Idx → EReal) (wg wu : (⟨2, ![2048, 5632]⟩ : Shape).Idx → EReal)
    (j : (⟨2, ![24576, 5632]⟩ : Shape).Idx) : EReal :=
  (∑ k : Fin 2048, h (ix2 (j 0) k) * wg (ix2 k (j 1)))
      * Ideal.logistic (∑ k : Fin 2048, h (ix2 (j 0) k) * wg (ix2 k (j 1)))
    * ∑ k : Fin 2048, h (ix2 (j 0) k) * wu (ix2 k (j 1))

end Cert.Proof.GateUp

namespace Cert.Reference2Ideal.Hidden

open Cert.Reference2Ideal Cert.Reference2Ideal.Gen Cert.Proof.GateUp

/-- The reference's result term is `swiglu` of its arguments. -/
theorem ref_eq (h : S24576x2048.Idx → EReal) (wg wu : S2048x5632.Idx → EReal) :
    (truncf .bf16 (mulf (mulf (Host.dotGeneral (F := Ideal) (φ₁ := .f32) (φ₂ := .f32) dot_S24576x2048_S2048x5632_S24576x5632_1_0_0_1_n_n none (extf (F := Ideal) (φ := .bf16) .f32 h bitsLt_bf16_f32) wg) (Host.divf (broadcastInDim S24576x5632 ![] bcast_S_S24576x5632 (constant S_ .f32 0x3F800000#32)) (addf (broadcastInDim S24576x5632 ![] bcast_S_S24576x5632 (constant S_ .f32 0x3F800000#32)) (Host.exp (Host.negf (Host.dotGeneral (F := Ideal) (φ₁ := .f32) (φ₂ := .f32) dot_S24576x2048_S2048x5632_S24576x5632_1_0_0_1_n_n none (extf (F := Ideal) (φ := .bf16) .f32 h bitsLt_bf16_f32) wg)))))) (Host.dotGeneral (F := Ideal) (φ₁ := .f32) (φ₂ := .f32) dot_S24576x2048_S2048x5632_S24576x5632_1_0_0_1_n_n none (extf (F := Ideal) (φ := .bf16) .f32 h bitsLt_bf16_f32) wu)) bitsLt_bf16_f32 : FVec Ideal S24576x5632 .bf16)
      = swiglu h wg wu := by
  funext j
  idx_vars j
  pointwise [swiglu, Ideal.logistic]

end Cert.Reference2Ideal.Hidden

namespace Cert.Kernel2Ideal.Hidden

open Cert.Kernel2Ideal Cert.Kernel2Ideal.Gen Cert.Proof.GateUp

/-- One tile: the body's payload at an entry. -/
theorem pay_apply (x0 : S512x2048.Idx → EReal) (x1 x2 : S2048x512.Idx → EReal) (r l : Fin 512) :
    k0_pay1 (F := Ideal) x0 x1 x2 (ix2 r l)
      = (∑ k : Fin 2048, x0 (ix2 r k) * x1 (ix2 k l)) * Ideal.logistic (∑ k : Fin 2048, x0 (ix2 r k) * x1 (ix2 k l))
        * ∑ k : Fin 2048, x0 (ix2 r k) * x2 (ix2 k l) := by
  pointwise [k0_pay1, logistic]

variable (m : (ℓ : Loc nD τ sig) → Buf (Elt Ideal) ℓ) (ρ : Dev nD → PrngReg)

/-- The zero offset. -/
theorem hz : (![0, 0] : Fin 2 → Nat) = fun _ => 0 := funext fun a => by fin_cases a <;> rfl

/-- The tile a point writes is the payload of its three blocks. -/
theorem out_eq (x0 : S512x2048.Idx → EReal) (x1 x2 : S2048x512.Idx → EReal) :
    out0_3 (F := Ideal) x0 x1 x2 = k0_pay1 (F := Ideal) x0 x1 x2 := by
  unfold out0_3
  rw [View.canon_unit_zero hz, View.ld_unit_zero hz, View.ld_unit_zero hz, View.ld_unit_zero hz]

/-- The gate weights the launch reads are the argument (the cast to bf16 changes nothing over the reals). -/
theorem V_gate (c : Dev nD) : (V m c main_v0 : S2048x5632.Idx → EReal) = m ((c : Thread nD τ).loc main_arg1) := by
  unfold V
  after_results
  rfl

/-- The up weights the launch reads are the argument. -/
theorem V_up (c : Dev nD) : (V m c main_v1 : S2048x5632.Idx → EReal) = m ((c : Thread nD τ).loc main_arg2) := by
  unfold V
  after_results
  rfl

/-- The block indices of the four windows: point `t` is row tile `t / 11`, column tile `t % 11`. -/
theorem idx : ∀ t : Fin grid0.N, (win0_0.index t 0 = t.val / 11 ∧ win0_0.index t 1 = 0)
    ∧ (win0_1.index t 0 = 0 ∧ win0_1.index t 1 = t.val % 11) ∧ (win0_2.index t 0 = 0 ∧ win0_2.index t 1 = t.val % 11)
    ∧ (win0_3.index t 0 = t.val / 11 ∧ win0_3.index t 1 = t.val % 11) := by decide +kernel

/-- A tile's rows lie in the array. -/
theorem row_lt (t : Fin grid0.N) (r : Fin 512) : 512 * (t.val / 11) + r.val < 24576 := by
  have := t.isLt; have hN : grid0.N = 528 := N_0; omega

/-- A tile's columns lie in the array. -/
theorem col_lt (t : Fin grid0.N) (l : Fin 512) : 512 * (t.val % 11) + l.val < 5632 := by omega

/-- The activations' block at point `t`, read at an entry. -/
theorem blk_h (c : Dev nD) (t : Fin grid0.N) (r : Fin 512) (k : Fin 2048) :
    (iblk m c 0 t : S512x2048.Idx → EReal) (ix2 r k)
      = (m ((c : Thread nD τ).loc main_arg0) : S24576x2048.Idx → EReal) (ix2 ⟨_, row_lt t r⟩ k) := by
  unfold iblk
  rw [View.read_apply]
  show V m c main_arg0 _ = _
  rw [V_main_arg0]
  congr 1
  funext a
  apply Fin.ext
  match a with
  | ⟨0, _⟩ => show win0_0.index t 0 * 512 + 1 * r.val = 512 * (t.val / 11) + r.val; rw [(idx t).1.1]; omega
  | ⟨1, _⟩ => show win0_0.index t 1 * 2048 + 1 * k.val = k.val; rw [(idx t).1.2]; omega

/-- The gate weights' block at point `t`. -/
theorem blk_g (c : Dev nD) (t : Fin grid0.N) (k : Fin 2048) (l : Fin 512) :
    (iblk m c 1 t : S2048x512.Idx → EReal) (ix2 k l)
      = (m ((c : Thread nD τ).loc main_arg1) : S2048x5632.Idx → EReal) (ix2 k ⟨_, col_lt t l⟩) := by
  unfold iblk
  rw [View.read_apply]
  show (V m c main_v0 : S2048x5632.Idx → EReal) _ = _
  rw [V_gate]
  congr 1
  funext a
  apply Fin.ext
  match a with
  | ⟨0, _⟩ => show win0_1.index t 0 * 2048 + 1 * k.val = k.val; rw [(idx t).2.1.1]; omega
  | ⟨1, _⟩ => show win0_1.index t 1 * 512 + 1 * l.val = 512 * (t.val % 11) + l.val; rw [(idx t).2.1.2]; omega

/-- The up weights' block at point `t`. -/
theorem blk_u (c : Dev nD) (t : Fin grid0.N) (k : Fin 2048) (l : Fin 512) :
    (iblk m c 2 t : S2048x512.Idx → EReal) (ix2 k l)
      = (m ((c : Thread nD τ).loc main_arg2) : S2048x5632.Idx → EReal) (ix2 k ⟨_, col_lt t l⟩) := by
  unfold iblk
  rw [View.read_apply]
  show (V m c main_v1 : S2048x5632.Idx → EReal) _ = _
  rw [V_up]
  congr 1
  funext a
  apply Fin.ext
  match a with
  | ⟨0, _⟩ => show win0_2.index t 0 * 2048 + 1 * k.val = k.val; rw [(idx t).2.2.1.1]; omega
  | ⟨1, _⟩ => show win0_2.index t 1 * 512 + 1 * l.val = 512 * (t.val % 11) + l.val; rw [(idx t).2.2.1.2]; omega

/-- The whole result: `swiglu` of the three arguments. -/
abbrev G (c : Dev nD) : Buf (Elt Ideal) ((c : Thread nD τ).loc main_v2) :=
  swiglu (m ((c : Thread nD τ).loc main_arg0)) (m ((c : Thread nD τ).loc main_arg1)) (m ((c : Thread nD τ).loc main_arg2))

/-- What point `t` writes back is its tile of the whole result. -/
theorem flushed_eq (c : Dev nD) (t : Fin cfg0.N) :
    (dats m 0 c).flushed 3 t = ((cfg0.win 3).blk t).view.read (Elt Ideal) (G m c) := by
  rw [Value.flushed3, out_eq]
  refine funext fun (j : S512x512.Idx) => ?_
  rw [View.read_apply]
  have e : (((cfg0.win 3).blk t).view.emb j : S24576x5632.Idx) = ix2 ⟨_, row_lt t (j 0)⟩ ⟨_, col_lt t (j 1)⟩ := by
    funext a
    apply Fin.ext
    match a with
    | ⟨0, _⟩ => show win0_3.index t 0 * 512 + 1 * (j 0).val = 512 * (t.val / 11) + (j 0).val; rw [(idx t).2.2.2.1]; omega
    | ⟨1, _⟩ => show win0_3.index t 1 * 512 + 1 * (j 1).val = 512 * (t.val % 11) + (j 1).val; rw [(idx t).2.2.2.2]; omega
  rw [e]
  idx_vars j
  show k0_pay1 (F := Ideal) (iblk m c 0 t) (iblk m c 1 t) (iblk m c 2 t) (ix2 j0 j1) = G m c (ix2 ⟨_, row_lt t j0⟩ ⟨_, col_lt t j1⟩)
  rw [pay_apply]
  simp only [blk_h, blk_g, blk_u]
  rfl

/-- Which entries point `t`'s tile holds. -/
theorem mem_blk (t : Fin cfg0.N) (i : S24576x5632.Idx) :
    i ∈ ((cfg0.win 3).blk t).view.set ↔ (512 * (t.val / 11) ≤ (i 0 : Nat) ∧ (i 0 : Nat) < 512 * (t.val / 11) + 512)
      ∧ 512 * (t.val % 11) ≤ (i 1 : Nat) ∧ (i 1 : Nat) < 512 * (t.val % 11) + 512 := by
  show i ∈ ((View.whole main_v2).slice (win0_3.rect t)).set ↔ _
  rw [View.set_slice_whole, Rect.mem_set_unit]
  refine (Fin.forall_fin_two (p := fun a => _ ≤ (i a : Nat) ∧ (i a : Nat) < _)).trans ?_
  show (win0_3.index t 0 * 512 ≤ (i 0 : Nat) ∧ (i 0 : Nat) < win0_3.index t 0 * 512 + 512)
    ∧ (win0_3.index t 1 * 512 ≤ (i 1 : Nat) ∧ (i 1 : Nat) < win0_3.index t 1 * 512 + 512) ↔ _
  rw [(idx t).2.2.2.1, (idx t).2.2.2.2]
  omega

/-- The tiles cover the result. -/
theorem cover (i : S24576x5632.Idx) :
    ∃ t : Fin cfg0.N, (cfg0.win 3).flush t = true ∧ i ∈ ((cfg0.win 3).blk t).view.set := by
  have h0 : (i 0 : Nat) < 24576 := (i 0).isLt
  have h1 : (i 1 : Nat) < 5632 := (i 1).isLt
  have hN : cfg0.N = 528 := N_0
  refine ⟨⟨(i 0 : Nat) / 512 * 11 + (i 1 : Nat) / 512, by omega⟩, flush0_3 _, ?_⟩
  rw [mem_blk]
  dsimp only
  omega

/-- The result array after the run. -/
theorem final (c : Dev nD) : (dats m 0 c).arrAt 3 cfg0.N = G m c :=
  (dats m 0 c).arrAt_eq_of_cover 3 (G m c) (fun t _ => flushed_eq m c t) cover

/-- The run, read: the result is `swiglu` of the arguments, which are unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel2Ideal.Hidden

end
-- ==== Proof.Resnorm.lean ====
/-
  The down projection with its norm and residual: the kernel accumulates eleven 512-deep partial products per row tile
  in a scratch buffer and normalizes the row at the last one; the reference contracts the whole axis at once. Over the
  extended reals both are `resnorm`.
-/
module

public import proofs.«01_k».proof.Defs
public import proofs.«01_k».proof.Proof.Gen.Kernel3Ideal.Value
public import proofs.«01_k».proof.Proof.Gen.Reference3Ideal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)
open scoped BigOperators

namespace Cert.Proof.Resnorm

/-- One row of the down projection at one feature. -/
def proj (hid : (⟨2, ![24576, 5632]⟩ : Shape).Idx → EReal) (w : (⟨2, ![5632, 2048]⟩ : Shape).Idx → EReal)
    (r : Fin 24576) (l : Fin 2048) : EReal := ∑ k : Fin 5632, hid (ix2 r k) * w (ix2 k l)

/-- A row normalized by its root mean square, scaled by the gain and added to the residual. -/
def normed (row : Fin 2048 → EReal) (x : EReal) (g : EReal) (l : Fin 2048) : EReal :=
  x + row l * Ideal.rsqrt (Ideal.div (∑ k : Fin 2048, row k * row k) (Ideal.ofBits .f32 0x45000000#32)
        + Ideal.ofBits .f32 0x358637BD#32) * g

/-- Residual plus gained, root-mean-square-normalized down projection. -/
def resnorm (hid : (⟨2, ![24576, 5632]⟩ : Shape).Idx → EReal) (w : (⟨2, ![5632, 2048]⟩ : Shape).Idx → EReal)
    (x : (⟨2, ![24576, 2048]⟩ : Shape).Idx → EReal) (g : (⟨1, ![2048]⟩ : Shape).Idx → EReal)
    (j : (⟨2, ![24576, 2048]⟩ : Shape).Idx) : EReal :=
  normed (proj hid w (j 0)) (x j) (g (ix1 (j 1))) (j 1)

end Cert.Proof.Resnorm

namespace Cert.Reference3Ideal.Resnorm

open Cert.Reference3Ideal Cert.Reference3Ideal.Gen Cert.Proof.Resnorm

/-- The reference's result term is `resnorm` of its arguments. -/
theorem ref_eq (hid : S24576x5632.Idx → EReal) (w : S5632x2048.Idx → EReal) (x : S24576x2048.Idx → EReal) (g : S2048.Idx → EReal) :
    (addf (F := Ideal) (φ := .f32) x (mulf (mulf (Host.dotGeneral (F := Ideal) (φ₁ := .f32) (φ₂ := .f32) dot_S24576x5632_S5632x2048_S24576x2048_1_0_0_1_n_n none (extf (F := Ideal) (φ := .bf16) .f32 hid bitsLt_bf16_f32) w) (broadcastInDim S24576x2048 ![0, 1] bcast_S24576x1_S24576x2048_0_1 (Host.rsqrt (addf (Host.divf (broadcastInDim S24576x1 ![0] bcast_S24576_S24576x1_0 (Host.reduceAdd (mulf (Host.dotGeneral (F := Ideal) (φ₁ := .f32) (φ₂ := .f32) dot_S24576x5632_S5632x2048_S24576x2048_1_0_0_1_n_n none (extf (F := Ideal) (φ := .bf16) .f32 hid bitsLt_bf16_f32) w) (Host.dotGeneral (F := Ideal) (φ₁ := .f32) (φ₂ := .f32) dot_S24576x5632_S5632x2048_S24576x2048_1_0_0_1_n_n none (extf (F := Ideal) (φ := .bf16) .f32 hid bitsLt_bf16_f32) w)) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 g))) : FVec Ideal S24576x2048 .f32)
      = resnorm hid w x g := by
  funext j
  idx_vars j
  pointwise [resnorm, normed, proj]

end Cert.Reference3Ideal.Resnorm

namespace Cert.Kernel3Ideal.Resnorm

open Cert.Kernel3Ideal Cert.Kernel3Ideal.Gen Cert.Proof.Resnorm

/-- The accumulator starts at zero. -/
theorem pay1_apply (r : Fin 512) (l : Fin 2048) : k0_pay1 (F := Ideal) (ix2 r l) = 0 := by
  pointwise [k0_pay1]

/-- One accumulation step at an entry. -/
theorem pay2_apply (acc : S512x2048.Idx → EReal) (a : S512x512.Idx → EReal) (b : S512x2048.Idx → EReal) (r : Fin 512) (l : Fin 2048) :
    k0_pay2 (F := Ideal) acc a b (ix2 r l) = acc (ix2 r l) + ∑ k : Fin 512, a (ix2 r k) * b (ix2 k l) := by
  pointwise [k0_pay2]

/-- The normalization at an entry. -/
theorem pay3_apply (acc x : S512x2048.Idx → EReal) (g : S1x2048.Idx → EReal) (r : Fin 512) (l : Fin 2048) :
    k0_pay3 (F := Ideal) acc x g (ix2 r l) = normed (fun k => acc (ix2 r k)) (x (ix2 r l)) (g (ix2 0 l)) l := by
  pointwise [k0_pay3, normed]

/-- The zero offset. -/
theorem hz : (![0, 0] : Fin 2 → Nat) = fun _ => 0 := funext fun a => by fin_cases a <;> rfl

variable (c : Dev nD) (i : grid0.Coords) (a2 : Memref sig .tc .vmem S512x512 .bf16) (h2 : a2.IsWhole)
  (a3 : Memref sig .tc .vmem S512x2048 .bf16) (h3 : a3.IsWhole) (a4 : Memref sig .tc .vmem S512x2048 .f32) (h4 : a4.IsWhole)
  (a5 : Memref sig .tc .vmem S1x2048 .f32) (h5 : a5.IsWhole) (a6 : Memref sig .tc .vmem S512x2048 .f32) (h6 : a6.IsWhole)
  (a7 : Memref sig .tc .vmem S512x2048 .f32) (h7 : a7.IsWhole)
  (x0 : S512x512.Idx → EReal) (x1 : S512x2048.Idx → EReal) (x2 : S512x2048.Idx → EReal) (x3 : S1x2048.Idx → EReal)
  (acc : S512x2048.Idx → EReal)

/-- First step of a row tile: the scratch is zeroed, then the first partial product is added. -/
theorem sout_A (hA hB) : sout0_A_0 (F := Ideal) c i a2 h2 a3 h3 a4 h4 a5 h5 a6 h6 a7 h7 hA hB x0 x1 x2 x3
    = k0_pay2 (F := Ideal) (k0_pay1 (F := Ideal)) x0 x1 := by
  unfold sout0_A_0
  rw [View.read_writes_eq_canon _ _ _ (scover0_A_0 (F := Ideal) c i a2 h2 a3 h3 a4 h4 a5 h5 a6 h6 a7 h7 hA hB x0 x1 x2 x3)]
  unfold kernelRun0_A
  dsimp only
  sl_unfold_words
  rw [View.canon_cons_unit_zero (S := S512x2048) hz, View.readCov_unit_zero (S := S512x2048) _ hz]
  simp only [View.readAt_eq_ld, h2.read_unread, h3.read_unread, View.ld_unit_zero (S := S512x512) hz, View.ld_unit_zero (S := S512x2048) hz]

/-- A middle step adds its partial product. -/
theorem sout_B (hA hB) : sout0_B_0 (F := Ideal) c i a2 h2 a3 h3 a4 h4 a5 h5 a6 h6 a7 h7 hA hB x0 x1 x2 x3 acc
    = k0_pay2 (F := Ideal) acc x0 x1 := by
  unfold sout0_B_0
  rw [View.read_writes_eq_canon _ _ _ (scover0_B_0 (F := Ideal) c i a2 h2 a3 h3 a4 h4 a5 h5 a6 h6 a7 h7 hA hB x0 x1 x2 x3 acc)]
  unfold kernelRun0_B
  dsimp only
  sl_unfold_words
  rw [View.canon_unit_zero (S := S512x2048) hz]
  simp only [View.readAt_eq_ld, h2.read_unread, h3.read_unread, h7.read_unread, View.ld_unit_zero (S := S512x512) hz, View.ld_unit_zero (S := S512x2048) hz]

/-- The last step adds its partial product too, -/
theorem sout_C (hA hB) : sout0_C_0 (F := Ideal) c i a2 h2 a3 h3 a4 h4 a5 h5 a6 h6 a7 h7 hA hB x0 x1 x2 x3 acc
    = k0_pay2 (F := Ideal) acc x0 x1 := by
  unfold sout0_C_0
  rw [View.read_writes_eq_canon _ _ _ (scover0_C_0 (F := Ideal) c i a2 h2 a3 h3 a4 h4 a5 h5 a6 h6 a7 h7 hA hB x0 x1 x2 x3 acc)]
  unfold kernelRun0_C
  dsimp only
  sl_unfold_words
  rw [View.canon_unit_zero (S := S512x2048) hz]
  simp only [View.readAt_eq_ld, h2.read_unread, h3.read_unread, h7.read_unread, View.ld_unit_zero (S := S512x512) hz, View.ld_unit_zero (S := S512x2048) hz]

/-- and writes the normalized tile. -/
theorem out_C (hA hB) : out0_C_4 (F := Ideal) c i a2 h2 a3 h3 a4 h4 a5 h5 a6 h6 a7 h7 hA hB x0 x1 x2 x3 acc
    = k0_pay3 (F := Ideal) (k0_pay2 (F := Ideal) acc x0 x1) x2 x3 := by
  unfold out0_C_4
  rw [View.read_writes_eq_canon _ _ _ (cover0_C_4 (F := Ideal) c i a2 h2 a3 h3 a4 h4 a5 h5 a6 h6 a7 h7 hA hB x0 x1 x2 x3 acc)]
  unfold kernelRun0_C
  dsimp only
  sl_unfold_words
  rw [View.canon_unit_zero (S := S512x2048) hz, View.readCov_unit_zero (S := S512x2048) _ hz]
  simp only [View.readAt_eq_ld, h2.read_unread, h3.read_unread, h4.read_unread, h5.read_unread, h7.read_unread, View.ld_unit_zero (S := S512x512) hz, View.ld_unit_zero (S := S512x2048) hz, View.ld_unit_zero (S := S1x2048) hz]

section Tiles

variable (m : (ℓ : Loc nD τ sig) → Buf (Elt Ideal) ℓ) (ρ : Dev nD → PrngReg)

/-- The three argument arrays the tiles are cut from, and the gain. -/
abbrev hid (c : Dev nD) : S24576x5632.Idx → EReal := m ((c : Thread nD τ).loc main_arg0)
abbrev wdown (c : Dev nD) : S5632x2048.Idx → EReal := m ((c : Thread nD τ).loc main_arg1)
abbrev resid (c : Dev nD) : S24576x2048.Idx → EReal := m ((c : Thread nD τ).loc main_arg2)
abbrev gain (c : Dev nD) : S2048.Idx → EReal := m ((c : Thread nD τ).loc main_arg3)

/-- The weights the launch reads are the argument (the cast to bf16 changes nothing over the reals). -/
theorem V_w (c : Dev nD) : (V m c main_v0 : S5632x2048.Idx → EReal) = wdown m c := by
  unfold V
  after_results
  rfl

/-- The gain the launch reads is the argument laid out as one row. -/
theorem V_g (c : Dev nD) (l : Fin 2048) : (V m c main_v1 : S1x2048.Idx → EReal) (ix2 0 l) = gain m c (ix1 l) := by
  have e : (V m c main_v1 : S1x2048.Idx → EReal) = shapeCast S1x2048 (gain m c) shapeCasts_S2048_S1x2048 := by
    unfold V
    after_results
    rfl
  rw [e]
  pointwise

/-- The block indices of the five windows: point `t` is row tile `t / 11`, step `t % 11` of the contraction. -/
theorem idx : ∀ t : Fin grid0.N, (win0_0.index t 0 = t.val / 11 ∧ win0_0.index t 1 = t.val % 11)
    ∧ (win0_1.index t 0 = t.val % 11 ∧ win0_1.index t 1 = 0) ∧ (win0_2.index t 0 = t.val / 11 ∧ win0_2.index t 1 = 0)
    ∧ (win0_3.index t 0 = 0 ∧ win0_3.index t 1 = 0) ∧ (win0_4.index t 0 = t.val / 11 ∧ win0_4.index t 1 = 0) := by decide +kernel

/-- A tile's rows lie in the array. -/
theorem row_lt (t : Fin grid0.N) (r : Fin 512) : 512 * (t.val / 11) + r.val < 24576 := by
  have := t.isLt; have hN : grid0.N = 528 := N_0; omega

/-- A block of the contraction lies in it. -/
theorem dep_lt (t : Fin grid0.N) (k : Fin 512) : 512 * (t.val % 11) + k.val < 5632 := by omega

/-- The two factors' blocks at a point, over the extended reals. -/
abbrev hblk (c : Dev nD) (t : Fin grid0.N) : S512x512.Idx → EReal := iblk m c 0 t
abbrev wblk (c : Dev nD) (t : Fin grid0.N) : S512x2048.Idx → EReal := iblk m c 1 t

/-- The activations' block at point `t`. -/
theorem blk_h (c : Dev nD) (t : Fin grid0.N) (r k : Fin 512) :
    hblk m c t (ix2 r k) = hid m c (ix2 ⟨_, row_lt t r⟩ ⟨_, dep_lt t k⟩) := by
  unfold hblk iblk
  rw [View.read_apply]
  show V m c main_arg0 _ = _
  rw [V_main_arg0]
  congr 1
  funext a
  apply Fin.ext
  match a with
  | ⟨0, _⟩ => show win0_0.index t 0 * 512 + 1 * r.val = 512 * (t.val / 11) + r.val; rw [(idx t).1.1]; omega
  | ⟨1, _⟩ => show win0_0.index t 1 * 512 + 1 * k.val = 512 * (t.val % 11) + k.val; rw [(idx t).1.2]; omega

/-- The weights' block at point `t`. -/
theorem blk_w (c : Dev nD) (t : Fin grid0.N) (k : Fin 512) (l : Fin 2048) :
    wblk m c t (ix2 k l) = wdown m c (ix2 ⟨_, dep_lt t k⟩ l) := by
  unfold wblk iblk
  rw [View.read_apply]
  show (V m c main_v0 : S5632x2048.Idx → EReal) _ = _
  rw [V_w]
  congr 1
  funext a
  apply Fin.ext
  match a with
  | ⟨0, _⟩ => show win0_1.index t 0 * 512 + 1 * k.val = 512 * (t.val % 11) + k.val; rw [(idx t).2.1.1]; omega
  | ⟨1, _⟩ => show win0_1.index t 1 * 2048 + 1 * l.val = l.val; rw [(idx t).2.1.2]; omega

/-- The residual's block at point `t`. -/
theorem blk_x (c : Dev nD) (t : Fin grid0.N) (r : Fin 512) (l : Fin 2048) :
    (iblk m c 2 t : S512x2048.Idx → EReal) (ix2 r l) = resid m c (ix2 ⟨_, row_lt t r⟩ l) := by
  unfold iblk
  rw [View.read_apply]
  show V m c main_arg2 _ = _
  rw [V_main_arg2]
  congr 1
  funext a
  apply Fin.ext
  match a with
  | ⟨0, _⟩ => show win0_2.index t 0 * 512 + 1 * r.val = 512 * (t.val / 11) + r.val; rw [(idx t).2.2.1.1]; omega
  | ⟨1, _⟩ => show win0_2.index t 1 * 2048 + 1 * l.val = l.val; rw [(idx t).2.2.1.2]; omega

/-- The gain's block, at every point the whole row. -/
theorem blk_g (c : Dev nD) (t : Fin grid0.N) (l : Fin 2048) :
    (iblk m c 3 t : S1x2048.Idx → EReal) (ix2 0 l) = gain m c (ix1 l) := by
  rw [← V_g]
  unfold iblk
  rw [View.read_apply]
  show (V m c main_v1 : S1x2048.Idx → EReal) _ = _
  congr 1
  funext a
  apply Fin.ext
  match a with
  | ⟨0, _⟩ => show win0_3.index t 0 * 1 + 1 * 0 = 0; rw [(idx t).2.2.2.1.1]
  | ⟨1, _⟩ => show win0_3.index t 1 * 2048 + 1 * l.val = l.val; rw [(idx t).2.2.2.1.2]; omega

/-- One product of the contraction, at a depth given as a number (zero past the end). -/
def term (c : Dev nD) (R : Fin 24576) (l : Fin 2048) (p : ℕ) : EReal :=
  if h : p < 5632 then hid m c (ix2 R ⟨p, h⟩) * wdown m c (ix2 ⟨p, h⟩ l) else 0

/-- Point `t`'s partial product is the sum of its 512 terms. -/
theorem part_eq (c : Dev nD) (t : Fin grid0.N) (r : Fin 512) (l : Fin 2048) :
    (∑ k : Fin 512, hblk m c t (ix2 r k) * wblk m c t (ix2 k l))
      = ∑ p ∈ Finset.range 512, term m c ⟨_, row_lt t r⟩ l (512 * (t.val % 11) + p) := by
  rw [Finset.sum_range]
  refine Finset.sum_congr rfl fun k _ => ?_
  rw [blk_h, blk_w, term, dif_pos (dep_lt t k)]

/-- After point `t` the scratch holds the contraction's first `512 (t % 11 + 1)` terms of the row tile. -/
theorem scratch_eq (c : Dev nD) : ∀ (n : ℕ) (h : n < cfg0.N) (r : Fin 512) (l : Fin 2048),
    ((outsAt0 m c n h).2 : S512x2048.Idx → EReal) (ix2 r l)
      = ∑ p ∈ Finset.range (512 * (n % 11) + 512), term m c ⟨_, row_lt ⟨n, h⟩ r⟩ l p := by
  intro n
  induction n with
  | zero =>
    intro h r l
    rw [outsAt0_A m c ⟨0, h⟩ (Nat.zero_mod _) (by dsimp only; omega)]
    dsimp only
    rw [sout_A, pay2_apply, pay1_apply, zero_add]
    refine (part_eq m c ⟨0, h⟩ r l).trans ?_
    simp
  | succ n ih =>
    intro h r l
    have hN : cfg0.N = 528 := N_0
    by_cases h0 : (n + 1) % 11 = 0
    · rw [outsAt0_A m c ⟨n + 1, h⟩ h0 (by dsimp only; omega)]
      dsimp only
      rw [sout_A, pay2_apply, pay1_apply, zero_add]
      refine (part_eq m c ⟨n + 1, h⟩ r l).trans ?_
      simp only [h0, Nat.mul_zero, Nat.zero_add]
    · have step : ((outsAt0 m c (n + 1) h).2 : S512x2048.Idx → EReal)
          = k0_pay2 (F := Ideal) (outsAt0 m c n (Nat.lt_of_succ_lt h)).2 (iblk m c 0 ⟨n + 1, h⟩) (iblk m c 1 ⟨n + 1, h⟩) := by
        by_cases h1 : (n + 1) % 11 = 10
        · rw [outsAt0_C m c ⟨n + 1, h⟩ h0 h1]
          dsimp only
          rw [sout_C]
          rfl
        · rw [outsAt0_B m c ⟨n + 1, h⟩ h0 h1]
          dsimp only
          rw [sout_B]
          rfl
      rw [step, pay2_apply, ih]
      refine (congrArg _ (part_eq m c ⟨n + 1, h⟩ r l)).trans ?_
      have e1 : n % 11 + 1 = (n + 1) % 11 := by omega
      have e2 : n / 11 = (n + 1) / 11 := by omega
      simp only [e2]
      rw [show 512 * (n % 11) + 512 = 512 * ((n + 1) % 11) by omega, ← Finset.sum_range_add]

/-- All 5632 terms are the row of the projection. -/
theorem all_terms (c : Dev nD) (R : Fin 24576) (l : Fin 2048) :
    (∑ p ∈ Finset.range 5632, term m c R l p) = proj (hid m c) (wdown m c) R l := by
  rw [Finset.sum_range, proj]
  refine Finset.sum_congr rfl fun k _ => ?_
  rw [term, dif_pos k.isLt]

/-- The whole result: `resnorm` of the four arguments. -/
abbrev G (c : Dev nD) : Buf (Elt Ideal) ((c : Thread nD τ).loc main_v2) :=
  resnorm (hid m c) (wdown m c) (resid m c) (gain m c)

/-- What the last step of a row tile writes back is that tile of the whole result. -/
theorem flushed_eq (c : Dev nD) (t : Fin cfg0.N) (hf : (cfg0.win 4).flush t = true) :
    (dats m 0 c).flushed 4 t = ((cfg0.win 4).blk t).view.read (Elt Ideal) (G m c) := by
  have h1 : t.val % 11 = 10 := (flush0_4 t).mp hf
  have h0 : ¬t.val % 11 = 0 := by omega
  have hs : ∀ (r : Fin 512) (l : Fin 2048), k0_pay2 (F := Ideal)
      (outsAt0 m c (t.val - 1) (Nat.lt_of_le_of_lt (Nat.sub_le _ _) t.isLt)).2 (iblk m c 0 t) (iblk m c 1 t) (ix2 r l)
      = proj (hid m c) (wdown m c) ⟨_, row_lt t r⟩ l := by
    intro r l
    have := scratch_eq m c t.val t.isLt r l
    rw [outsAt0_C m c t h0 h1] at this
    dsimp only at this
    rw [sout_C] at this
    rw [this, ← all_terms, h1]
  rw [Value.flushed4_C m c t h0 h1, out_C]
  refine funext fun (j : S512x2048.Idx) => ?_
  rw [View.read_apply]
  have e : (((cfg0.win 4).blk t).view.emb j : S24576x2048.Idx) = ix2 ⟨_, row_lt t (j 0)⟩ (j 1) := by
    funext a
    apply Fin.ext
    match a with
    | ⟨0, _⟩ => show win0_4.index t 0 * 512 + 1 * (j 0).val = 512 * (t.val / 11) + (j 0).val; rw [(idx t).2.2.2.2.1]; omega
    | ⟨1, _⟩ => show win0_4.index t 1 * 2048 + 1 * (j 1).val = (j 1).val; rw [(idx t).2.2.2.2.2]; omega
  rw [e]
  idx_vars j
  show k0_pay3 (F := Ideal) _ (iblk m c 2 t) (iblk m c 3 t) (ix2 j0 j1) = G m c (ix2 ⟨_, row_lt t j0⟩ j1)
  rw [pay3_apply, blk_x, blk_g]
  simp only [hs]
  rfl

/-- Which entries point `t`'s tile holds. -/
theorem mem_blk (t : Fin cfg0.N) (i : S24576x2048.Idx) :
    i ∈ ((cfg0.win 4).blk t).view.set ↔ 512 * (t.val / 11) ≤ (i 0 : Nat) ∧ (i 0 : Nat) < 512 * (t.val / 11) + 512 := by
  have h1 : (i 1 : Nat) < 2048 := (i 1).isLt
  show i ∈ ((View.whole main_v2).slice (win0_4.rect t)).set ↔ _
  rw [View.set_slice_whole, Rect.mem_set_unit]
  refine (Fin.forall_fin_two (p := fun a => _ ≤ (i a : Nat) ∧ (i a : Nat) < _)).trans ?_
  show (win0_4.index t 0 * 512 ≤ (i 0 : Nat) ∧ (i 0 : Nat) < win0_4.index t 0 * 512 + 512)
    ∧ (win0_4.index t 1 * 2048 ≤ (i 1 : Nat) ∧ (i 1 : Nat) < win0_4.index t 1 * 2048 + 2048) ↔ _
  rw [(idx t).2.2.2.2.1, (idx t).2.2.2.2.2]
  omega

/-- The tiles cover the result. -/
theorem cover (i : S24576x2048.Idx) :
    ∃ t : Fin cfg0.N, (cfg0.win 4).flush t = true ∧ i ∈ ((cfg0.win 4).blk t).view.set := by
  have h0 : (i 0 : Nat) < 24576 := (i 0).isLt
  have hN : cfg0.N = 528 := N_0
  refine ⟨⟨(i 0 : Nat) / 512 * 11 + 10, by omega⟩, (flush0_4 _).mpr (by dsimp only; omega), ?_⟩
  rw [mem_blk]
  dsimp only
  omega

/-- The result array after the run. -/
theorem final (c : Dev nD) : (dats m 0 c).arrAt 4 cfg0.N = G m c :=
  (dats m 0 c).arrAt_eq_of_cover 4 (G m c) (flushed_eq m c) cover

/-- The run, read: the result is `resnorm` of the arguments, which are unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Tiles

end Cert.Kernel3Ideal.Resnorm

end
-- ==== Proof.FeedForward.lean ====
/-
  The claims of the two feed-forward calls, assembled: the frames, that idealization rewrote nothing, and that each
  kernel's result is its reference's over the extended reals.
-/
module

public import proofs.«01_k».proof.Defs
public import proofs.«01_k».proof.Proof.Gen.Kernel2.Frame
public import proofs.«01_k».proof.Proof.Gen.Kernel3.Frame
public import proofs.«01_k».proof.Proof.GateUp
public import proofs.«01_k».proof.Proof.Resnorm
public import Idealize.ShloMosaic.Lib.Quiescent

@[expose] public section

set_option maxRecDepth 16384

noncomputable section

open Idealize.ShloMosaic Idealize.ShloMosaic.TcCoe Idealize.SL.Sem

namespace Cert.Proof.GateUp

/-- The kernel runs and leaves its arguments. -/
theorem frame_kernel : Cert.quiescent_Kernel2 := fun m ρ _ => Cert.Kernel2.Gen.frame m ρ

/-- So does the idealized kernel. -/
theorem frame_ideal : Cert.quiescent_Kernel2Ideal := fun m ρ _ => Cert.Kernel2Ideal.Gen.frame m ρ

/-- The reference leaves its arguments; it has no semaphore. -/
theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- Idealization rewrote nothing. -/
theorem preserves : Cert.preserves_Kernel2_Kernel2Ideal := trivial

/-- Kernel and reference both end at `swiglu` of the common arguments. -/
theorem algebraic : Cert.algebraic_Kernel2Ideal_Reference2Ideal := fun m ρ m' ρ' _ hag =>
  ⟨fun c => Cert.Kernel2Ideal.Hidden.G m c, Cert.Kernel2Ideal.Hidden.run m ρ,
    (θ_run Cert.Reference2Ideal.defs _ _).mono
      (fun _ h c => ⟨(h c).1.trans ((Cert.Reference2Ideal.Hidden.ref_eq _ _ _).trans
        (by rw [(hag c).1, (hag c).2.1, (hag c).2.2])), (h c).2⟩)
      (Cert.Reference2Ideal.Value.run (F := Ideal) m' ρ')⟩

end Cert.Proof.GateUp

namespace Cert.Proof.Resnorm

/-- The kernel runs and leaves its arguments. -/
theorem frame_kernel : Cert.quiescent_Kernel3 := fun m ρ _ => Cert.Kernel3.Gen.frame m ρ

/-- So does the idealized kernel. -/
theorem frame_ideal : Cert.quiescent_Kernel3Ideal := fun m ρ _ => Cert.Kernel3Ideal.Gen.frame m ρ

/-- The reference leaves its arguments; it has no semaphore. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- Idealization rewrote nothing. -/
theorem preserves : Cert.preserves_Kernel3_Kernel3Ideal := trivial

/-- Kernel and reference both end at `resnorm` of the common arguments. -/
theorem algebraic : Cert.algebraic_Kernel3Ideal_Reference3Ideal := fun m ρ m' ρ' _ hag =>
  ⟨fun c => Cert.Kernel3Ideal.Resnorm.G m c, Cert.Kernel3Ideal.Resnorm.run m ρ,
    (θ_run Cert.Reference3Ideal.defs _ _).mono
      (fun _ h c => ⟨(h c).1.trans ((Cert.Reference3Ideal.Resnorm.ref_eq _ _ _ _).trans
        (by rw [(hag c).1, (hag c).2.1, (hag c).2.2.1, (hag c).2.2.2])), (h c).2⟩)
      (Cert.Reference3Ideal.Value.run (F := Ideal) m' ρ')⟩

end Cert.Proof.Resnorm

end
-- ==== Proof.Projection.lean ====
/-
  A projection of the recurrence layer: the tiled kernel (one 512 by 512 tile of the product per grid point, the
  contraction whole) against the plain product, over the extended reals.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.Projection

/-- One entry of the product of the tokens by the weights. -/
def product (x : (⟨2, ![24576, 2048]⟩ : Shape).Idx → EReal) (w : (⟨2, ![2048, 2048]⟩ : Shape).Idx → EReal)
    (j : (⟨2, ![24576, 2048]⟩ : Shape).Idx) : EReal := ∑ k : Fin 2048, x (ix2 (j 0) k) * w (ix2 k (j 1))

end Cert.Proof.Projection

namespace Cert.Reference4Ideal.Projection

open Cert.Reference4Ideal Cert.Reference4Ideal.Gen Cert.Proof.Projection

/-- The reference's result term is `product` of its arguments. -/
theorem ref_eq (x : S24576x2048.Idx → EReal) (w : S2048x2048.Idx → EReal) :
    (Host.dotGeneral (F := Ideal) (φ₁ := .f32) (φ₂ := .f32) dot_S24576x2048_S2048x2048_S24576x2048_1_0_0_1_n_n none (extf (F := Ideal) (φ := .bf16) .f32 x bitsLt_bf16_f32) w : FVec Ideal S24576x2048 .f32)
      = product x w := by
  funext j
  idx_vars j
  pointwise [product]

end Cert.Reference4Ideal.Projection

namespace Cert.Kernel4Ideal.Projection

open Cert.Kernel4Ideal Cert.Kernel4Ideal.Gen Cert.Proof.Projection

/-- One tile: the body's payload at an entry. -/
theorem pay_apply (x0 : S512x2048.Idx → EReal) (x1 : S2048x512.Idx → EReal) (r l : Fin 512) :
    k0_pay1 (F := Ideal) x0 x1 (ix2 r l) = ∑ k : Fin 2048, x0 (ix2 r k) * x1 (ix2 k l) := by
  pointwise [k0_pay1]

variable (m : (ℓ : Loc nD τ sig) → Buf (Elt Ideal) ℓ) (ρ : Dev nD → PrngReg)

/-- The zero offset. -/
theorem hz : (![0, 0] : Fin 2 → Nat) = fun _ => 0 := funext fun a => by fin_cases a <;> rfl

/-- The tile a point writes is the payload of its two blocks. -/
theorem out_eq (x0 : S512x2048.Idx → EReal) (x1 : S2048x512.Idx → EReal) :
    out0_2 (F := Ideal) x0 x1 = k0_pay1 (F := Ideal) x0 x1 := by
  unfold out0_2
  rw [View.canon_unit_zero hz, View.ld_unit_zero hz, View.ld_unit_zero hz]

/-- The block indices of the three windows: point `t` is row tile `t / 4`, column tile `t % 4`. -/
theorem idx : ∀ t : Fin grid0.N, (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4) := by decide +kernel

/-- A tile's rows lie in the array. -/
theorem row_lt (t : Fin grid0.N) (r : Fin 512) : 512 * (t.val / 4) + r.val < 24576 := by
  have := t.isLt; have hN : grid0.N = 192 := N_0; omega

/-- A tile's columns lie in the array. -/
theorem col_lt (t : Fin grid0.N) (l : Fin 512) : 512 * (t.val % 4) + l.val < 2048 := by omega

/-- The left factor's block at point `t`, read at an entry. -/
theorem blk_x (c : Dev nD) (t : Fin grid0.N) (r : Fin 512) (k : Fin 2048) :
    (iblk m c 0 t : S512x2048.Idx → EReal) (ix2 r k)
      = (m ((c : Thread nD τ).loc main_arg0) : S24576x2048.Idx → EReal) (ix2 ⟨_, row_lt t r⟩ k) := by
  unfold iblk
  rw [View.read_apply]
  show V m c main_arg0 _ = _
  rw [V_main_arg0]
  congr 1
  funext a
  apply Fin.ext
  match a with
  | ⟨0, _⟩ => show win0_0.index t 0 * 512 + 1 * r.val = 512 * (t.val / 4) + r.val; rw [(idx t).1.1]; omega
  | ⟨1, _⟩ => show win0_0.index t 1 * 2048 + 1 * k.val = k.val; rw [(idx t).1.2]; omega

/-- The weights the launch reads are the argument (the cast to bf16 changes nothing over the reals). -/
theorem V_w (c : Dev nD) : (V m c main_v0 : S2048x2048.Idx → EReal) = m ((c : Thread nD τ).loc main_arg1) := by
  unfold V
  after_results
  rfl

/-- The weights' block at point `t`. -/
theorem blk_w (c : Dev nD) (t : Fin grid0.N) (k : Fin 2048) (l : Fin 512) :
    (iblk m c 1 t : S2048x512.Idx → EReal) (ix2 k l) = (m ((c : Thread nD τ).loc main_arg1) : S2048x2048.Idx → EReal) (ix2 k ⟨_, col_lt t l⟩) := by
  unfold iblk
  rw [View.read_apply]
  show (V m c main_v0 : S2048x2048.Idx → EReal) _ = _
  rw [V_w]
  congr 1
  funext a
  apply Fin.ext
  match a with
  | ⟨0, _⟩ => show win0_1.index t 0 * 2048 + 1 * k.val = k.val; rw [(idx t).2.1.1]; omega
  | ⟨1, _⟩ => show win0_1.index t 1 * 512 + 1 * l.val = 512 * (t.val % 4) + l.val; rw [(idx t).2.1.2]; omega

/-- The whole result: `product` of the two arguments. -/
abbrev G (c : Dev nD) : Buf (Elt Ideal) ((c : Thread nD τ).loc main_v1) :=
  product (m ((c : Thread nD τ).loc main_arg0)) (m ((c : Thread nD τ).loc main_arg1))

/-- What point `t` writes back is its tile of the whole result. -/
theorem flushed_eq (c : Dev nD) (t : Fin cfg0.N) :
    (dats m 0 c).flushed 2 t = ((cfg0.win 2).blk t).view.read (Elt Ideal) (G m c) := by
  rw [Value.flushed2, out_eq]
  refine funext fun (j : S512x512.Idx) => ?_
  rw [View.read_apply]
  have e : (((cfg0.win 2).blk t).view.emb j : S24576x2048.Idx) = ix2 ⟨_, row_lt t (j 0)⟩ ⟨_, col_lt t (j 1)⟩ := by
    funext a
    apply Fin.ext
    match a with
    | ⟨0, _⟩ => show win0_2.index t 0 * 512 + 1 * (j 0).val = 512 * (t.val / 4) + (j 0).val; rw [(idx t).2.2.1]; omega
    | ⟨1, _⟩ => show win0_2.index t 1 * 512 + 1 * (j 1).val = 512 * (t.val % 4) + (j 1).val; rw [(idx t).2.2.2]; omega
  rw [e]
  idx_vars j
  show k0_pay1 (F := Ideal) (iblk m c 0 t) (iblk m c 1 t) (ix2 j0 j1) = G m c (ix2 ⟨_, row_lt t j0⟩ ⟨_, col_lt t j1⟩)
  rw [pay_apply]
  simp only [blk_x, blk_w]
  rfl

/-- Which entries point `t`'s tile holds. -/
theorem mem_blk (t : Fin cfg0.N) (i : S24576x2048.Idx) :
    i ∈ ((cfg0.win 2).blk t).view.set ↔ (512 * (t.val / 4) ≤ (i 0 : Nat) ∧ (i 0 : Nat) < 512 * (t.val / 4) + 512)
      ∧ 512 * (t.val % 4) ≤ (i 1 : Nat) ∧ (i 1 : Nat) < 512 * (t.val % 4) + 512 := by
  show i ∈ ((View.whole main_v1).slice (win0_2.rect t)).set ↔ _
  rw [View.set_slice_whole, Rect.mem_set_unit]
  refine (Fin.forall_fin_two (p := fun a => _ ≤ (i a : Nat) ∧ (i a : Nat) < _)).trans ?_
  show (win0_2.index t 0 * 512 ≤ (i 0 : Nat) ∧ (i 0 : Nat) < win0_2.index t 0 * 512 + 512)
    ∧ (win0_2.index t 1 * 512 ≤ (i 1 : Nat) ∧ (i 1 : Nat) < win0_2.index t 1 * 512 + 512) ↔ _
  rw [(idx t).2.2.1, (idx t).2.2.2]
  omega

/-- The tiles cover the result. -/
theorem cover (i : S24576x2048.Idx) :
    ∃ t : Fin cfg0.N, (cfg0.win 2).flush t = true ∧ i ∈ ((cfg0.win 2).blk t).view.set := by
  have h0 : (i 0 : Nat) < 24576 := (i 0).isLt
  have h1 : (i 1 : Nat) < 2048 := (i 1).isLt
  have hN : cfg0.N = 192 := N_0
  refine ⟨⟨(i 0 : Nat) / 512 * 4 + (i 1 : Nat) / 512, by omega⟩, flush0_2 _, ?_⟩
  rw [mem_blk]
  dsimp only
  omega

/-- The result array after the run. -/
theorem final (c : Dev nD) : (dats m 0 c).arrAt 2 cfg0.N = G m c :=
  (dats m 0 c).arrAt_eq_of_cover 2 (G m c) (fun t _ => flushed_eq m c t) cover

/-- The run, read: the result is `product` of the arguments, which are unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel4Ideal.Projection

namespace Cert.Proof.Projection

/-- The kernel runs and leaves its arguments. -/
theorem frame_kernel : Cert.quiescent_Kernel4 := fun m ρ _ => Cert.Kernel4.Gen.frame m ρ

/-- So does the idealized kernel. -/
theorem frame_ideal : Cert.quiescent_Kernel4Ideal := fun m ρ _ => Cert.Kernel4Ideal.Gen.frame m ρ

/-- The reference leaves its arguments; it has no semaphore. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- Idealization rewrote nothing. -/
theorem preserves : Cert.preserves_Kernel4_Kernel4Ideal := trivial

/-- Kernel and reference both end at `product` of the common arguments. -/
theorem algebraic : Cert.algebraic_Kernel4Ideal_Reference4Ideal := fun m ρ m' ρ' _ hag =>
  ⟨fun c => Cert.Kernel4Ideal.Projection.G m c, Cert.Kernel4Ideal.Projection.run m ρ,
    (θ_run Cert.Reference4Ideal.defs _ _).mono
      (fun _ h c => ⟨(h c).1.trans ((Cert.Reference4Ideal.Projection.ref_eq _ _).trans
        (by rw [(hag c).1, (hag c).2])), (h c).2⟩)
      (Cert.Reference4Ideal.Value.run (F := Ideal) m' ρ')⟩

end Cert.Proof.Projection

end
-- ==== Proof.MixerOut.lean ====
/-
  A mixer's output projection with its norm and residual: the kernel accumulates four 512-deep partial products per row
  tile in a scratch buffer and normalizes the row at the last one; the reference contracts the whole axis at once. Over
  the extended reals both are `mixed`.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.Value
public import Idealize.ShloMosaic.Lib.Pointwise
public import Idealize.ShloMosaic.Lib.Quiescent
public import Idealize.ShloMosaic.Lib.Tactic
public import proofs.«01_k».proof.Proof.Resnorm

@[expose] public section

set_option maxRecDepth 16384

noncomputable section

open Idealize.ShloMosaic Idealize.ShloMosaic.TcCoe Idealize.SL.Sem
open Idealize.ShloMosaic.Pipeline (Dat)
open scoped BigOperators

namespace Cert.Proof.MixerOut

open Cert.Proof.Resnorm (normed)

/-- One row of the output projection at one feature. -/
def proj (mix : (⟨2, ![24576, 2048]⟩ : Shape).Idx → EReal) (w : (⟨2, ![2048, 2048]⟩ : Shape).Idx → EReal)
    (r : Fin 24576) (l : Fin 2048) : EReal := ∑ k : Fin 2048, mix (ix2 r k) * w (ix2 k l)

/-- Residual plus gained, root-mean-square-normalized output projection. -/
def mixed (mix : (⟨2, ![24576, 2048]⟩ : Shape).Idx → EReal) (w : (⟨2, ![2048, 2048]⟩ : Shape).Idx → EReal)
    (x : (⟨2, ![24576, 2048]⟩ : Shape).Idx → EReal) (g : (⟨1, ![2048]⟩ : Shape).Idx → EReal)
    (j : (⟨2, ![24576, 2048]⟩ : Shape).Idx) : EReal :=
  normed (proj mix w (j 0)) (x j) (g (ix1 (j 1))) (j 1)

end Cert.Proof.MixerOut

namespace Cert.Reference5Ideal.MixerOut

open Cert.Reference5Ideal Cert.Reference5Ideal.Gen Cert.Proof.MixerOut
open Cert.Proof.Resnorm (normed)

/-- The reference's result term is `mixed` of its arguments. -/
theorem ref_eq (mix : S24576x2048.Idx → EReal) (w : S2048x2048.Idx → EReal) (x : S24576x2048.Idx → EReal) (g : S2048.Idx → EReal) :
    (addf (F := Ideal) (φ := .f32) x (mulf (mulf (Host.dotGeneral (F := Ideal) (φ₁ := .f32) (φ₂ := .f32) dot_S24576x2048_S2048x2048_S24576x2048_1_0_0_1_n_n none (extf (F := Ideal) (φ := .bf16) .f32 mix bitsLt_bf16_f32) w) (broadcastInDim S24576x2048 ![0, 1] bcast_S24576x1_S24576x2048_0_1 (Host.rsqrt (addf (Host.divf (broadcastInDim S24576x1 ![0] bcast_S24576_S24576x1_0 (Host.reduceAdd (mulf (Host.dotGeneral (F := Ideal) (φ₁ := .f32) (φ₂ := .f32) dot_S24576x2048_S2048x2048_S24576x2048_1_0_0_1_n_n none (extf (F := Ideal) (φ := .bf16) .f32 mix bitsLt_bf16_f32) w) (Host.dotGeneral (F := Ideal) (φ₁ := .f32) (φ₂ := .f32) dot_S24576x2048_S2048x2048_S24576x2048_1_0_0_1_n_n none (extf (F := Ideal) (φ := .bf16) .f32 mix bitsLt_bf16_f32) w)) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 g))) : FVec Ideal S24576x2048 .f32)
      = mixed mix w x g := by
  funext j
  idx_vars j
  pointwise [mixed, normed, proj]

end Cert.Reference5Ideal.MixerOut

namespace Cert.Kernel5Ideal.MixerOut

open Cert.Kernel5Ideal Cert.Kernel5Ideal.Gen Cert.Proof.MixerOut
open Cert.Proof.Resnorm (normed)

/-- The accumulator starts at zero. -/
theorem pay1_apply (r : Fin 512) (l : Fin 2048) : k0_pay1 (F := Ideal) (ix2 r l) = 0 := by
  pointwise [k0_pay1]

/-- One accumulation step at an entry. -/
theorem pay2_apply (acc : S512x2048.Idx → EReal) (a : S512x512.Idx → EReal) (b : S512x2048.Idx → EReal) (r : Fin 512) (l : Fin 2048) :
    k0_pay2 (F := Ideal) acc a b (ix2 r l) = acc (ix2 r l) + ∑ k : Fin 512, a (ix2 r k) * b (ix2 k l) := by
  pointwise [k0_pay2]

/-- The normalization at an entry. -/
theorem pay3_apply (acc x : S512x2048.Idx → EReal) (g : S1x2048.Idx → EReal) (r : Fin 512) (l : Fin 2048) :
    k0_pay3 (F := Ideal) acc x g (ix2 r l) = normed (fun k => acc (ix2 r k)) (x (ix2 r l)) (g (ix2 0 l)) l := by
  pointwise [k0_pay3, normed]

/-- The zero offset. -/
theorem hz : (![0, 0] : Fin 2 → Nat) = fun _ => 0 := funext fun a => by fin_cases a <;> rfl

variable (c : Dev nD) (i : grid0.Coords) (a2 : Memref sig .tc .vmem S512x512 .bf16) (h2 : a2.IsWhole)
  (a3 : Memref sig .tc .vmem S512x2048 .bf16) (h3 : a3.IsWhole) (a4 : Memref sig .tc .vmem S512x2048 .f32) (h4 : a4.IsWhole)
  (a5 : Memref sig .tc .vmem S1x2048 .f32) (h5 : a5.IsWhole) (a6 : Memref sig .tc .vmem S512x2048 .f32) (h6 : a6.IsWhole)
  (a7 : Memref sig .tc .vmem S512x2048 .f32) (h7 : a7.IsWhole)
  (x0 : S512x512.Idx → EReal) (x1 : S512x2048.Idx → EReal) (x2 : S512x2048.Idx → EReal) (x3 : S1x2048.Idx → EReal)
  (acc : S512x2048.Idx → EReal)

/-- First step of a row tile: the scratch is zeroed, then the first partial product is added. -/
theorem sout_A (hA hB) : sout0_A_0 (F := Ideal) c i a2 h2 a3 h3 a4 h4 a5 h5 a6 h6 a7 h7 hA hB x0 x1 x2 x3
    = k0_pay2 (F := Ideal) (k0_pay1 (F := Ideal)) x0 x1 := by
  unfold sout0_A_0
  rw [View.read_writes_eq_canon _ _ _ (scover0_A_0 (F := Ideal) c i a2 h2 a3 h3 a4 h4 a5 h5 a6 h6 a7 h7 hA hB x0 x1 x2 x3)]
  unfold kernelRun0_A
  dsimp only
  sl_unfold_words
  rw [View.canon_cons_unit_zero (S := S512x2048) hz, View.readCov_unit_zero (S := S512x2048) _ hz]
  simp only [View.readAt_eq_ld, h2.read_unread, h3.read_unread, View.ld_unit_zero (S := S512x512) hz, View.ld_unit_zero (S := S512x2048) hz]

/-- A middle step adds its partial product. -/
theorem sout_B (hA hB) : sout0_B_0 (F := Ideal) c i a2 h2 a3 h3 a4 h4 a5 h5 a6 h6 a7 h7 hA hB x0 x1 x2 x3 acc
    = k0_pay2 (F := Ideal) acc x0 x1 := by
  unfold sout0_B_0
  rw [View.read_writes_eq_canon _ _ _ (scover0_B_0 (F := Ideal) c i a2 h2 a3 h3 a4 h4 a5 h5 a6 h6 a7 h7 hA hB x0 x1 x2 x3 acc)]
  unfold kernelRun0_B
  dsimp only
  sl_unfold_words
  rw [View.canon_unit_zero (S := S512x2048) hz]
  simp only [View.readAt_eq_ld, h2.read_unread, h3.read_unread, h7.read_unread, View.ld_unit_zero (S := S512x512) hz, View.ld_unit_zero (S := S512x2048) hz]

/-- The last step adds its partial product too, -/
theorem sout_C (hA hB) : sout0_C_0 (F := Ideal) c i a2 h2 a3 h3 a4 h4 a5 h5 a6 h6 a7 h7 hA hB x0 x1 x2 x3 acc
    = k0_pay2 (F := Ideal) acc x0 x1 := by
  unfold sout0_C_0
  rw [View.read_writes_eq_canon _ _ _ (scover0_C_0 (F := Ideal) c i a2 h2 a3 h3 a4 h4 a5 h5 a6 h6 a7 h7 hA hB x0 x1 x2 x3 acc)]
  unfold kernelRun0_C
  dsimp only
  sl_unfold_words
  rw [View.canon_unit_zero (S := S512x2048) hz]
  simp only [View.readAt_eq_ld, h2.read_unread, h3.read_unread, h7.read_unread, View.ld_unit_zero (S := S512x512) hz, View.ld_unit_zero (S := S512x2048) hz]

/-- and writes the normalized tile. -/
theorem out_C (hA hB) : out0_C_4 (F := Ideal) c i a2 h2 a3 h3 a4 h4 a5 h5 a6 h6 a7 h7 hA hB x0 x1 x2 x3 acc
    = k0_pay3 (F := Ideal) (k0_pay2 (F := Ideal) acc x0 x1) x2 x3 := by
  unfold out0_C_4
  rw [View.read_writes_eq_canon _ _ _ (cover0_C_4 (F := Ideal) c i a2 h2 a3 h3 a4 h4 a5 h5 a6 h6 a7 h7 hA hB x0 x1 x2 x3 acc)]
  unfold kernelRun0_C
  dsimp only
  sl_unfold_words
  rw [View.canon_unit_zero (S := S512x2048) hz, View.readCov_unit_zero (S := S512x2048) _ hz]
  simp only [View.readAt_eq_ld, h2.read_unread, h3.read_unread, h4.read_unread, h5.read_unread, h7.read_unread, View.ld_unit_zero (S := S512x512) hz, View.ld_unit_zero (S := S512x2048) hz, View.ld_unit_zero (S := S1x2048) hz]

section Tiles

variable (m : (ℓ : Loc nD τ sig) → Buf (Elt Ideal) ℓ) (ρ : Dev nD → PrngReg)

/-- The three argument arrays the tiles are cut from, and the gain. -/
abbrev mix (c : Dev nD) : S24576x2048.Idx → EReal := m ((c : Thread nD τ).loc main_arg0)
abbrev wo (c : Dev nD) : S2048x2048.Idx → EReal := m ((c : Thread nD τ).loc main_arg1)
abbrev resid (c : Dev nD) : S24576x2048.Idx → EReal := m ((c : Thread nD τ).loc main_arg2)
abbrev gain (c : Dev nD) : S2048.Idx → EReal := m ((c : Thread nD τ).loc main_arg3)

/-- The weights the launch reads are the argument (the cast to bf16 changes nothing over the reals). -/
theorem V_w (c : Dev nD) : (V m c main_v0 : S2048x2048.Idx → EReal) = wo m c := by
  unfold V
  after_results
  rfl

/-- The gain the launch reads is the argument laid out as one row. -/
theorem V_g (c : Dev nD) (l : Fin 2048) : (V m c main_v1 : S1x2048.Idx → EReal) (ix2 0 l) = gain m c (ix1 l) := by
  have e : (V m c main_v1 : S1x2048.Idx → EReal) = shapeCast S1x2048 (gain m c) shapeCasts_S2048_S1x2048 := by
    unfold V
    after_results
    rfl
  rw [e]
  pointwise

/-- The block indices of the five windows: point `t` is row tile `t / 4`, step `t % 4` of the contraction. -/
theorem idx : ∀ t : Fin grid0.N, (win0_0.index t 0 = t.val / 4 ∧ win0_0.index t 1 = t.val % 4)
    ∧ (win0_1.index t 0 = t.val % 4 ∧ win0_1.index t 1 = 0) ∧ (win0_2.index t 0 = t.val / 4 ∧ win0_2.index t 1 = 0)
    ∧ (win0_3.index t 0 = 0 ∧ win0_3.index t 1 = 0) ∧ (win0_4.index t 0 = t.val / 4 ∧ win0_4.index t 1 = 0) := by decide +kernel

/-- A tile's rows lie in the array. -/
theorem row_lt (t : Fin grid0.N) (r : Fin 512) : 512 * (t.val / 4) + r.val < 24576 := by
  have := t.isLt; have hN : grid0.N = 192 := N_0; omega

/-- A block of the contraction lies in it. -/
theorem dep_lt (t : Fin grid0.N) (k : Fin 512) : 512 * (t.val % 4) + k.val < 2048 := by omega

/-- The two factors' blocks at a point, over the extended reals. -/
abbrev hblk (c : Dev nD) (t : Fin grid0.N) : S512x512.Idx → EReal := iblk m c 0 t
abbrev wblk (c : Dev nD) (t : Fin grid0.N) : S512x2048.Idx → EReal := iblk m c 1 t

/-- The mixer output' block at point `t`. -/
theorem blk_h (c : Dev nD) (t : Fin grid0.N) (r k : Fin 512) :
    hblk m c t (ix2 r k) = mix m c (ix2 ⟨_, row_lt t r⟩ ⟨_, dep_lt t k⟩) := by
  unfold hblk iblk
  rw [View.read_apply]
  show V m c main_arg0 _ = _
  rw [V_main_arg0]
  congr 1
  funext a
  apply Fin.ext
  match a with
  | ⟨0, _⟩ => show win0_0.index t 0 * 512 + 1 * r.val = 512 * (t.val / 4) + r.val; rw [(idx t).1.1]; omega
  | ⟨1, _⟩ => show win0_0.index t 1 * 512 + 1 * k.val = 512 * (t.val % 4) + k.val; rw [(idx t).1.2]; omega

/-- The weights' block at point `t`. -/
theorem blk_w (c : Dev nD) (t : Fin grid0.N) (k : Fin 512) (l : Fin 2048) :
    wblk m c t (ix2 k l) = wo m c (ix2 ⟨_, dep_lt t k⟩ l) := by
  unfold wblk iblk
  rw [View.read_apply]
  show (V m c main_v0 : S2048x2048.Idx → EReal) _ = _
  rw [V_w]
  congr 1
  funext a
  apply Fin.ext
  match a with
  | ⟨0, _⟩ => show win0_1.index t 0 * 512 + 1 * k.val = 512 * (t.val % 4) + k.val; rw [(idx t).2.1.1]; omega
  | ⟨1, _⟩ => show win0_1.index t 1 * 2048 + 1 * l.val = l.val; rw [(idx t).2.1.2]; omega

/-- The residual's block at point `t`. -/
theorem blk_x (c : Dev nD) (t : Fin grid0.N) (r : Fin 512) (l : Fin 2048) :
    (iblk m c 2 t : S512x2048.Idx → EReal) (ix2 r l) = resid m c (ix2 ⟨_, row_lt t r⟩ l) := by
  unfold iblk
  rw [View.read_apply]
  show V m c main_arg2 _ = _
  rw [V_main_arg2]
  congr 1
  funext a
  apply Fin.ext
  match a with
  | ⟨0, _⟩ => show win0_2.index t 0 * 512 + 1 * r.val = 512 * (t.val / 4) + r.val; rw [(idx t).2.2.1.1]; omega
  | ⟨1, _⟩ => show win0_2.index t 1 * 2048 + 1 * l.val = l.val; rw [(idx t).2.2.1.2]; omega

/-- The gain's block, at every point the whole row. -/
theorem blk_g (c : Dev nD) (t : Fin grid0.N) (l : Fin 2048) :
    (iblk m c 3 t : S1x2048.Idx → EReal) (ix2 0 l) = gain m c (ix1 l) := by
  rw [← V_g]
  unfold iblk
  rw [View.read_apply]
  show (V m c main_v1 : S1x2048.Idx → EReal) _ = _
  congr 1
  funext a
  apply Fin.ext
  match a with
  | ⟨0, _⟩ => show win0_3.index t 0 * 1 + 1 * 0 = 0; rw [(idx t).2.2.2.1.1]
  | ⟨1, _⟩ => show win0_3.index t 1 * 2048 + 1 * l.val = l.val; rw [(idx t).2.2.2.1.2]; omega

/-- One product of the contraction, at a depth given as a number (zero past the end). -/
def term (c : Dev nD) (R : Fin 24576) (l : Fin 2048) (p : ℕ) : EReal :=
  if h : p < 2048 then mix m c (ix2 R ⟨p, h⟩) * wo m c (ix2 ⟨p, h⟩ l) else 0

/-- Point `t`'s partial product is the sum of its 512 terms. -/
theorem part_eq (c : Dev nD) (t : Fin grid0.N) (r : Fin 512) (l : Fin 2048) :
    (∑ k : Fin 512, hblk m c t (ix2 r k) * wblk m c t (ix2 k l))
      = ∑ p ∈ Finset.range 512, term m c ⟨_, row_lt t r⟩ l (512 * (t.val % 4) + p) := by
  rw [Finset.sum_range]
  refine Finset.sum_congr rfl fun k _ => ?_
  rw [blk_h, blk_w, term, dif_pos (dep_lt t k)]

/-- After point `t` the scratch holds the contraction's first `512 (t % 4 + 1)` terms of the row tile. -/
theorem scratch_eq (c : Dev nD) : ∀ (n : ℕ) (h : n < cfg0.N) (r : Fin 512) (l : Fin 2048),
    ((outsAt0 m c n h).2 : S512x2048.Idx → EReal) (ix2 r l)
      = ∑ p ∈ Finset.range (512 * (n % 4) + 512), term m c ⟨_, row_lt ⟨n, h⟩ r⟩ l p := by
  intro n
  induction n with
  | zero =>
    intro h r l
    rw [outsAt0_A m c ⟨0, h⟩ (Nat.zero_mod _) (by dsimp only; omega)]
    dsimp only
    rw [sout_A, pay2_apply, pay1_apply, zero_add]
    refine (part_eq m c ⟨0, h⟩ r l).trans ?_
    simp
  | succ n ih =>
    intro h r l
    have hN : cfg0.N = 192 := N_0
    by_cases h0 : (n + 1) % 4 = 0
    · rw [outsAt0_A m c ⟨n + 1, h⟩ h0 (by dsimp only; omega)]
      dsimp only
      rw [sout_A, pay2_apply, pay1_apply, zero_add]
      refine (part_eq m c ⟨n + 1, h⟩ r l).trans ?_
      simp only [h0, Nat.mul_zero, Nat.zero_add]
    · have step : ((outsAt0 m c (n + 1) h).2 : S512x2048.Idx → EReal)
          = k0_pay2 (F := Ideal) (outsAt0 m c n (Nat.lt_of_succ_lt h)).2 (iblk m c 0 ⟨n + 1, h⟩) (iblk m c 1 ⟨n + 1, h⟩) := by
        by_cases h1 : (n + 1) % 4 = 3
        · rw [outsAt0_C m c ⟨n + 1, h⟩ h0 h1]
          dsimp only
          rw [sout_C]
          rfl
        · rw [outsAt0_B m c ⟨n + 1, h⟩ h0 h1]
          dsimp only
          rw [sout_B]
          rfl
      rw [step, pay2_apply, ih]
      refine (congrArg _ (part_eq m c ⟨n + 1, h⟩ r l)).trans ?_
      have e1 : n % 4 + 1 = (n + 1) % 4 := by omega
      have e2 : n / 4 = (n + 1) / 4 := by omega
      simp only [e2]
      rw [show 512 * (n % 4) + 512 = 512 * ((n + 1) % 4) by omega, ← Finset.sum_range_add]

/-- All 2048 terms are the row of the output projection. -/
theorem all_terms (c : Dev nD) (R : Fin 24576) (l : Fin 2048) :
    (∑ p ∈ Finset.range 2048, term m c R l p) = proj (mix m c) (wo m c) R l := by
  rw [Finset.sum_range, proj]
  refine Finset.sum_congr rfl fun k _ => ?_
  rw [term, dif_pos k.isLt]

/-- The whole result: `mixed` of the four arguments. -/
abbrev G (c : Dev nD) : Buf (Elt Ideal) ((c : Thread nD τ).loc main_v2) :=
  mixed (mix m c) (wo m c) (resid m c) (gain m c)

/-- What the last step of a row tile writes back is that tile of the whole result. -/
theorem flushed_eq (c : Dev nD) (t : Fin cfg0.N) (hf : (cfg0.win 4).flush t = true) :
    (dats m 0 c).flushed 4 t = ((cfg0.win 4).blk t).view.read (Elt Ideal) (G m c) := by
  have h1 : t.val % 4 = 3 := (flush0_4 t).mp hf
  have h0 : ¬t.val % 4 = 0 := by omega
  have hs : ∀ (r : Fin 512) (l : Fin 2048), k0_pay2 (F := Ideal)
      (outsAt0 m c (t.val - 1) (Nat.lt_of_le_of_lt (Nat.sub_le _ _) t.isLt)).2 (iblk m c 0 t) (iblk m c 1 t) (ix2 r l)
      = proj (mix m c) (wo m c) ⟨_, row_lt t r⟩ l := by
    intro r l
    have := scratch_eq m c t.val t.isLt r l
    rw [outsAt0_C m c t h0 h1] at this
    dsimp only at this
    rw [sout_C] at this
    rw [this, ← all_terms, h1]
  rw [Value.flushed4_C m c t h0 h1, out_C]
  refine funext fun (j : S512x2048.Idx) => ?_
  rw [View.read_apply]
  have e : (((cfg0.win 4).blk t).view.emb j : S24576x2048.Idx) = ix2 ⟨_, row_lt t (j 0)⟩ (j 1) := by
    funext a
    apply Fin.ext
    match a with
    | ⟨0, _⟩ => show win0_4.index t 0 * 512 + 1 * (j 0).val = 512 * (t.val / 4) + (j 0).val; rw [(idx t).2.2.2.2.1]; omega
    | ⟨1, _⟩ => show win0_4.index t 1 * 2048 + 1 * (j 1).val = (j 1).val; rw [(idx t).2.2.2.2.2]; omega
  rw [e]
  idx_vars j
  show k0_pay3 (F := Ideal) _ (iblk m c 2 t) (iblk m c 3 t) (ix2 j0 j1) = G m c (ix2 ⟨_, row_lt t j0⟩ j1)
  rw [pay3_apply, blk_x, blk_g]
  simp only [hs]
  rfl

/-- Which entries point `t`'s tile holds. -/
theorem mem_blk (t : Fin cfg0.N) (i : S24576x2048.Idx) :
    i ∈ ((cfg0.win 4).blk t).view.set ↔ 512 * (t.val / 4) ≤ (i 0 : Nat) ∧ (i 0 : Nat) < 512 * (t.val / 4) + 512 := by
  have h1 : (i 1 : Nat) < 2048 := (i 1).isLt
  show i ∈ ((View.whole main_v2).slice (win0_4.rect t)).set ↔ _
  rw [View.set_slice_whole, Rect.mem_set_unit]
  refine (Fin.forall_fin_two (p := fun a => _ ≤ (i a : Nat) ∧ (i a : Nat) < _)).trans ?_
  show (win0_4.index t 0 * 512 ≤ (i 0 : Nat) ∧ (i 0 : Nat) < win0_4.index t 0 * 512 + 512)
    ∧ (win0_4.index t 1 * 2048 ≤ (i 1 : Nat) ∧ (i 1 : Nat) < win0_4.index t 1 * 2048 + 2048) ↔ _
  rw [(idx t).2.2.2.2.1, (idx t).2.2.2.2.2]
  omega

/-- The tiles cover the result. -/
theorem cover (i : S24576x2048.Idx) :
    ∃ t : Fin cfg0.N, (cfg0.win 4).flush t = true ∧ i ∈ ((cfg0.win 4).blk t).view.set := by
  have h0 : (i 0 : Nat) < 24576 := (i 0).isLt
  have hN : cfg0.N = 192 := N_0
  refine ⟨⟨(i 0 : Nat) / 512 * 4 + 3, by omega⟩, (flush0_4 _).mpr (by dsimp only; omega), ?_⟩
  rw [mem_blk]
  dsimp only
  omega

/-- The result array after the run. -/
theorem final (c : Dev nD) : (dats m 0 c).arrAt 4 cfg0.N = G m c :=
  (dats m 0 c).arrAt_eq_of_cover 4 (G m c) (flushed_eq m c) cover

/-- The run, read: the result is `mixed` of the arguments, which are unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Tiles

end Cert.Kernel5Ideal.MixerOut

namespace Cert.Proof.MixerOut

/-- The kernel runs and leaves its arguments. -/
theorem frame_kernel : Cert.quiescent_Kernel5 := fun m ρ _ => Cert.Kernel5.Gen.frame m ρ

/-- So does the idealized kernel. -/
theorem frame_ideal : Cert.quiescent_Kernel5Ideal := fun m ρ _ => Cert.Kernel5Ideal.Gen.frame m ρ

/-- The reference leaves its arguments; it has no semaphore. -/
theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- Idealization rewrote nothing. -/
theorem preserves : Cert.preserves_Kernel5_Kernel5Ideal := trivial

/-- Kernel and reference both end at `mixed` of the common arguments. -/
theorem algebraic : Cert.algebraic_Kernel5Ideal_Reference5Ideal := fun m ρ m' ρ' _ hag =>
  ⟨fun c => Cert.Kernel5Ideal.MixerOut.G m c, Cert.Kernel5Ideal.MixerOut.run m ρ,
    (θ_run Cert.Reference5Ideal.defs _ _).mono
      (fun _ h c => ⟨(h c).1.trans ((Cert.Reference5Ideal.MixerOut.ref_eq _ _ _ _).trans
        (by rw [(hag c).1, (hag c).2.1, (hag c).2.2.1, (hag c).2.2.2])), (h c).2⟩)
      (Cert.Reference5Ideal.Value.run (F := Ideal) m' ρ')⟩

end Cert.Proof.MixerOut

end
-- ==== Proof.InputProjection.lean ====
/-
  The input projection of an attention layer without the shared rotary key's columns: the kernel drops those columns of
  the weights and multiplies by the rest, tile by tile; the reference multiplies by all of them and drops the columns
  of the product. Over the extended reals both are `projected`.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.InputProjection

/-- The weight column behind result column `n`: the 64 columns from 1024 on are passed over. -/
def column (n : Fin 4096) : Fin 4160 := ⟨if n.val < 1024 then n.val else n.val + 64, by split <;> omega⟩

/-- A number is the column behind `n` when it is `n` before the gap and `n + 64` after it. -/
theorem eq_column (n : Fin 4096) (p : Fin 4160) (h0 : n.val < 1024 → p.val = n.val) (h1 : 1024 ≤ n.val → p.val = n.val + 64) :
    p = column n := by
  apply Fin.ext
  unfold column
  dsimp only
  split <;> omega

/-- One entry of the product of the tokens by the weights, at the column behind it. -/
def projected (h : (⟨2, ![24576, 2048]⟩ : Shape).Idx → EReal) (w : (⟨2, ![2048, 4160]⟩ : Shape).Idx → EReal)
    (j : (⟨2, ![24576, 4096]⟩ : Shape).Idx) : EReal := ∑ k : Fin 2048, h (ix2 (j 0) k) * w (ix2 k (column (j 1)))

end Cert.Proof.InputProjection

namespace Cert.Reference6Ideal.InputProjection

open Cert.Reference6Ideal Cert.Reference6Ideal.Gen Cert.Proof.InputProjection

/-- The reference's result term is `projected` of its arguments. -/
theorem ref_eq (h : S24576x2048.Idx → EReal) (w : S2048x4160.Idx → EReal) :
    ((concatenate S24576x4096 1 [⟨S24576x512, ((extractStridedSlice S24576x512 ![0, 0] (Host.dotGeneral (F := Ideal) (φ₁ := .f32) (φ₂ := .f32) dot_S24576x2048_S2048x4160_S24576x4160_1_0_0_1_n_n none h w) slices_S24576x4160_S24576x512_0_0) : (⟨S24576x512, .f32⟩ : BufTy).Contents (Elt Ideal))⟩, ⟨S24576x512, ((extractStridedSlice S24576x512 ![0, 512] (Host.dotGeneral (F := Ideal) (φ₁ := .f32) (φ₂ := .f32) dot_S24576x2048_S2048x4160_S24576x4160_1_0_0_1_n_n none h w) slices_S24576x4160_S24576x512_0_512) : (⟨S24576x512, .f32⟩ : BufTy).Contents (Elt Ideal))⟩, ⟨S24576x1024, ((extractStridedSlice S24576x1024 ![0, 1088] (Host.dotGeneral (F := Ideal) (φ₁ := .f32) (φ₂ := .f32) dot_S24576x2048_S2048x4160_S24576x4160_1_0_0_1_n_n none h w) slices_S24576x4160_S24576x1024_0_1088) : (⟨S24576x1024, .f32⟩ : BufTy).Contents (Elt Ideal))⟩, ⟨S24576x1024, ((extractStridedSlice S24576x1024 ![0, 2112] (Host.dotGeneral (F := Ideal) (φ₁ := .f32) (φ₂ := .f32) dot_S24576x2048_S2048x4160_S24576x4160_1_0_0_1_n_n none h w) slices_S24576x4160_S24576x1024_0_2112) : (⟨S24576x1024, .f32⟩ : BufTy).Contents (Elt Ideal))⟩, ⟨S24576x1024, ((extractStridedSlice S24576x1024 ![0, 3136] (Host.dotGeneral (F := Ideal) (φ₁ := .f32) (φ₂ := .f32) dot_S24576x2048_S2048x4160_S24576x4160_1_0_0_1_n_n none h w) slices_S24576x4160_S24576x1024_0_3136) : (⟨S24576x1024, .f32⟩ : BufTy).Contents (Elt Ideal))⟩] concatenates_S24576x512_S24576x512_S24576x1024_S24576x1024_S24576x1024_S24576x4096_d1 : (⟨S24576x4096, .f32⟩ : BufTy).Contents (Elt Ideal)) : FVec Ideal S24576x4096 .f32)
      = projected h w := by
  funext j
  idx_vars j
  pointwise [projected]
  split_ifs <;>
    exact Finset.sum_congr rfl fun k _ => congrArg (fun n => h (ix2 j0 k) * w (ix2 k n))
      (eq_column _ _ (fun _ => by first | rfl | (dsimp only; omega)) (fun _ => by first | rfl | (dsimp only; omega)))

end Cert.Reference6Ideal.InputProjection

namespace Cert.Kernel6Ideal.InputProjection

open Cert.Kernel6Ideal Cert.Kernel6Ideal.Gen Cert.Proof.InputProjection

/-- One tile: the body's payload at an entry. -/
theorem pay_apply (x0 : S512x2048.Idx → EReal) (x1 : S2048x512.Idx → EReal) (r l : Fin 512) :
    k0_pay1 (F := Ideal) x0 x1 (ix2 r l) = ∑ k : Fin 2048, x0 (ix2 r k) * x1 (ix2 k l) := by
  pointwise [k0_pay1]

variable (m : (ℓ : Loc nD τ sig) → Buf (Elt Ideal) ℓ) (ρ : Dev nD → PrngReg)

/-- The zero offset. -/
theorem hz : (![0, 0] : Fin 2 → Nat) = fun _ => 0 := funext fun a => by fin_cases a <;> rfl

/-- The tile a point writes is the payload of its two blocks. -/
theorem out_eq (x0 : S512x2048.Idx → EReal) (x1 : S2048x512.Idx → EReal) :
    out0_2 (F := Ideal) x0 x1 = k0_pay1 (F := Ideal) x0 x1 := by
  unfold out0_2
  rw [View.canon_unit_zero hz, View.ld_unit_zero hz, View.ld_unit_zero hz]

/-- The block indices of the three windows: point `t` is row tile `t / 8`, column tile `t % 8`. -/
theorem idx : ∀ t : Fin grid0.N, (win0_0.index t 0 = t.val / 8 ∧ win0_0.index t 1 = 0)
    ∧ (win0_1.index t 0 = 0 ∧ win0_1.index t 1 = t.val % 8)
    ∧ (win0_2.index t 0 = t.val / 8 ∧ win0_2.index t 1 = t.val % 8) := by decide +kernel

/-- A tile's rows lie in the array. -/
theorem row_lt (t : Fin grid0.N) (r : Fin 512) : 512 * (t.val / 8) + r.val < 24576 := by
  have := t.isLt; have hN : grid0.N = 384 := N_0; omega

/-- A tile's columns lie in the array. -/
theorem col_lt (t : Fin grid0.N) (l : Fin 512) : 512 * (t.val % 8) + l.val < 4096 := by omega

/-- The left factor's block at point `t`, read at an entry. -/
theorem blk_x (c : Dev nD) (t : Fin grid0.N) (r : Fin 512) (k : Fin 2048) :
    (iblk m c 0 t : S512x2048.Idx → EReal) (ix2 r k)
      = (m ((c : Thread nD τ).loc main_arg0) : S24576x2048.Idx → EReal) (ix2 ⟨_, row_lt t r⟩ k) := by
  unfold iblk
  rw [View.read_apply]
  show V m c main_arg0 _ = _
  rw [V_main_arg0]
  congr 1
  funext a
  apply Fin.ext
  match a with
  | ⟨0, _⟩ => show win0_0.index t 0 * 512 + 1 * r.val = 512 * (t.val / 8) + r.val; rw [(idx t).1.1]; omega
  | ⟨1, _⟩ => show win0_0.index t 1 * 2048 + 1 * k.val = k.val; rw [(idx t).1.2]; omega

/-- The weights the launch reads: the argument's columns but the passed over. -/
abbrev weights (c : Dev nD) : S2048x4096.Idx → EReal := fun j =>
  (m ((c : Thread nD τ).loc main_arg1) : S2048x4160.Idx → EReal) (ix2 (j 0) (column (j 1)))

/-- The two slices joined are `weights` (the cast to bf16 changes nothing over the reals). -/
theorem V_w (c : Dev nD) : (V m c main_v3 : S2048x4096.Idx → EReal) = weights m c := by
  unfold V
  after_results
  funext j
  idx_vars j
  pointwise [weights]
  split_ifs <;>
    exact congrArg (fun n => (m ((c : Thread nD τ).loc main_arg1) : S2048x4160.Idx → EReal) (ix2 j0 n))
      (eq_column _ _ (fun _ => by first | rfl | (dsimp only; omega)) (fun _ => by first | rfl | (dsimp only; omega)))

/-- The weights' block at point `t`. -/
theorem blk_w (c : Dev nD) (t : Fin grid0.N) (k : Fin 2048) (l : Fin 512) :
    (iblk m c 1 t : S2048x512.Idx → EReal) (ix2 k l) = weights m c (ix2 k ⟨_, col_lt t l⟩) := by
  unfold iblk
  rw [View.read_apply]
  show (V m c main_v3 : S2048x4096.Idx → EReal) _ = _
  rw [V_w]
  congr 1
  funext a
  apply Fin.ext
  match a with
  | ⟨0, _⟩ => show win0_1.index t 0 * 2048 + 1 * k.val = k.val; rw [(idx t).2.1.1]; omega
  | ⟨1, _⟩ => show win0_1.index t 1 * 512 + 1 * l.val = 512 * (t.val % 8) + l.val; rw [(idx t).2.1.2]; omega

/-- The whole result: `projected` of the two arguments. -/
abbrev G (c : Dev nD) : Buf (Elt Ideal) ((c : Thread nD τ).loc main_v4) :=
  projected (m ((c : Thread nD τ).loc main_arg0)) (m ((c : Thread nD τ).loc main_arg1))

/-- What point `t` writes back is its tile of the whole result. -/
theorem flushed_eq (c : Dev nD) (t : Fin cfg0.N) :
    (dats m 0 c).flushed 2 t = ((cfg0.win 2).blk t).view.read (Elt Ideal) (G m c) := by
  rw [Value.flushed2, out_eq]
  refine funext fun (j : S512x512.Idx) => ?_
  rw [View.read_apply]
  have e : (((cfg0.win 2).blk t).view.emb j : S24576x4096.Idx) = ix2 ⟨_, row_lt t (j 0)⟩ ⟨_, col_lt t (j 1)⟩ := by
    funext a
    apply Fin.ext
    match a with
    | ⟨0, _⟩ => show win0_2.index t 0 * 512 + 1 * (j 0).val = 512 * (t.val / 8) + (j 0).val; rw [(idx t).2.2.1]; omega
    | ⟨1, _⟩ => show win0_2.index t 1 * 512 + 1 * (j 1).val = 512 * (t.val % 8) + (j 1).val; rw [(idx t).2.2.2]; omega
  rw [e]
  idx_vars j
  show k0_pay1 (F := Ideal) (iblk m c 0 t) (iblk m c 1 t) (ix2 j0 j1) = G m c (ix2 ⟨_, row_lt t j0⟩ ⟨_, col_lt t j1⟩)
  rw [pay_apply]
  simp only [blk_x, blk_w]
  rfl

/-- Which entries point `t`'s tile holds. -/
theorem mem_blk (t : Fin cfg0.N) (i : S24576x4096.Idx) :
    i ∈ ((cfg0.win 2).blk t).view.set ↔ (512 * (t.val / 8) ≤ (i 0 : Nat) ∧ (i 0 : Nat) < 512 * (t.val / 8) + 512)
      ∧ 512 * (t.val % 8) ≤ (i 1 : Nat) ∧ (i 1 : Nat) < 512 * (t.val % 8) + 512 := by
  show i ∈ ((View.whole main_v4).slice (win0_2.rect t)).set ↔ _
  rw [View.set_slice_whole, Rect.mem_set_unit]
  refine (Fin.forall_fin_two (p := fun a => _ ≤ (i a : Nat) ∧ (i a : Nat) < _)).trans ?_
  show (win0_2.index t 0 * 512 ≤ (i 0 : Nat) ∧ (i 0 : Nat) < win0_2.index t 0 * 512 + 512)
    ∧ (win0_2.index t 1 * 512 ≤ (i 1 : Nat) ∧ (i 1 : Nat) < win0_2.index t 1 * 512 + 512) ↔ _
  rw [(idx t).2.2.1, (idx t).2.2.2]
  omega

/-- The tiles cover the result. -/
theorem cover (i : S24576x4096.Idx) :
    ∃ t : Fin cfg0.N, (cfg0.win 2).flush t = true ∧ i ∈ ((cfg0.win 2).blk t).view.set := by
  have h0 : (i 0 : Nat) < 24576 := (i 0).isLt
  have h1 : (i 1 : Nat) < 4096 := (i 1).isLt
  have hN : cfg0.N = 384 := N_0
  refine ⟨⟨(i 0 : Nat) / 512 * 8 + (i 1 : Nat) / 512, by omega⟩, flush0_2 _, ?_⟩
  rw [mem_blk]
  dsimp only
  omega

/-- The result array after the run. -/
theorem final (c : Dev nD) : (dats m 0 c).arrAt 2 cfg0.N = G m c :=
  (dats m 0 c).arrAt_eq_of_cover 2 (G m c) (fun t _ => flushed_eq m c t) cover

/-- The run, read: the result is `projected` of the arguments, which are unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel6Ideal.InputProjection

namespace Cert.Proof.InputProjection

/-- The kernel runs and leaves its arguments. -/
theorem frame_kernel : Cert.quiescent_Kernel6 := fun m ρ _ => Cert.Kernel6.Gen.frame m ρ

/-- So does the idealized kernel. -/
theorem frame_ideal : Cert.quiescent_Kernel6Ideal := fun m ρ _ => Cert.Kernel6Ideal.Gen.frame m ρ

/-- The reference leaves its arguments; it has no semaphore. -/
theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- Idealization rewrote nothing. -/
theorem preserves : Cert.preserves_Kernel6_Kernel6Ideal := trivial

/-- Kernel and reference both end at `projected` of the common arguments. -/
theorem algebraic : Cert.algebraic_Kernel6Ideal_Reference6Ideal := fun m ρ m' ρ' _ hag =>
  ⟨fun c => Cert.Kernel6Ideal.InputProjection.G m c, Cert.Kernel6Ideal.InputProjection.run m ρ,
    (θ_run Cert.Reference6Ideal.defs _ _).mono
      (fun _ h c => ⟨(h c).1.trans ((Cert.Reference6Ideal.InputProjection.ref_eq _ _).trans
        (by rw [(hag c).1, (hag c).2])), (h c).2⟩)
      (Cert.Reference6Ideal.Value.run (F := Ideal) m' ρ')⟩

end Cert.Proof.InputProjection

end
-- ==== Proof.Gate.lean ====
/-
  The gate of the recurrence layer: two products of low rank in a row, the first under a sigmoid. The kernel runs two
  tiled launches, the second reading what the first wrote; the reference is the two products at once. Both are read
  over the extended reals.
-/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Proof.Gate

/-- One entry of the low-rank gate: the sigmoid of the product of the tokens by the first weights. -/
def low (x : (⟨2, ![24576, 2048]⟩ : Shape).Idx → EReal) (u : (⟨2, ![2048, 256]⟩ : Shape).Idx → EReal)
    (j : (⟨2, ![24576, 256]⟩ : Shape).Idx) : EReal :=
  Ideal.logistic (∑ k : Fin 2048, x (ix2 (j 0) k) * u (ix2 k (j 1)))

/-- One entry of a product of a low-rank activation by the second weights. -/
def up (a : (⟨2, ![24576, 256]⟩ : Shape).Idx → EReal) (v : (⟨2, ![256, 2048]⟩ : Shape).Idx → EReal)
    (j : (⟨2, ![24576, 2048]⟩ : Shape).Idx) : EReal := ∑ k : Fin 256, a (ix2 (j 0) k) * v (ix2 k (j 1))

end Cert.Proof.Gate

namespace Cert.Reference7Ideal.Gate

open Cert.Reference7Ideal Cert.Reference7Ideal.Gen Cert.Proof.Gate

/-- The reference's first product under its sigmoid is `low` of its arguments. -/
theorem low_eq (x : S24576x2048.Idx → EReal) (u : S2048x256.Idx → EReal) :
    (Host.divf (broadcastInDim S24576x256 ![] bcast_S_S24576x256 (constant S_ .f32 0x3F800000#32)) (addf (broadcastInDim S24576x256 ![] bcast_S_S24576x256 (constant S_ .f32 0x3F800000#32)) (Host.exp (Host.negf (Host.dotGeneral (F := Ideal) (φ₁ := .f32) (φ₂ := .f32) dot_S24576x2048_S2048x256_S24576x256_1_0_0_1_n_n none (extf (F := Ideal) (φ := .bf16) .f32 x bitsLt_bf16_f32) u)))) : FVec Ideal S24576x256 .f32)
      = low x u := by
  funext j
  idx_vars j
  pointwise [low, Ideal.logistic]

/-- The reference's second product is `up` of the first. -/
theorem up_eq (a : S24576x256.Idx → EReal) (v : S256x2048.Idx → EReal) :
    (Host.dotGeneral (F := Ideal) (φ₁ := .f32) (φ₂ := .f32) dot_S24576x256_S256x2048_S24576x2048_1_0_0_1_n_n none a v : FVec Ideal S24576x2048 .f32)
      = up a v := by
  funext j
  idx_vars j
  pointwise [up]

end Cert.Reference7Ideal.Gate

namespace Cert.Kernel7Ideal.Gate

open Cert.Kernel7Ideal Cert.Kernel7Ideal.Gen Cert.Proof.Gate

/-- The zero offset. -/
theorem hz : (![0, 0] : Fin 2 → Nat) = fun _ => 0 := funext fun a => by fin_cases a <;> rfl

variable (V : (c : Dev nD) → (b : Ref sig .tc) → Buf (Elt Ideal) ((c : Thread nD τ).loc b))

/-! ## The first launch, on arrays holding anything -/

/-- One tile of the first launch: its payload at an entry. -/
theorem pay0_apply (x0 : S512x2048.Idx → EReal) (x1 : S2048x256.Idx → EReal) (r : Fin 512) (l : Fin 256) :
    k0_pay1 (F := Ideal) x0 x1 (ix2 r l) = Ideal.logistic (∑ k : Fin 2048, x0 (ix2 r k) * x1 (ix2 k l)) := by
  pointwise [k0_pay1, logistic]

/-- The tile a point of the first launch writes is the payload of its two blocks. -/
theorem out0_eq (x0 : S512x2048.Idx → EReal) (x1 : S2048x256.Idx → EReal) :
    out0_2 (F := Ideal) x0 x1 = k0_pay1 (F := Ideal) x0 x1 := by
  unfold out0_2
  rw [View.canon_unit_zero hz, View.ld_unit_zero hz, View.ld_unit_zero hz]

/-- The first launch's block indices: point `t` is row tile `t`, all columns. -/
theorem idx0 : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0) := by decide +kernel

/-- A row tile of the first launch lies in the array. -/
theorem row0_lt (t : Fin grid0.N) (r : Fin 512) : 512 * t.val + r.val < 24576 := by
  have := t.isLt; have hN : grid0.N = 48 := N_0; omega

/-- The tokens' block at point `t`, read at an entry. -/
theorem blk0_x (c : Dev nD) (t : Fin grid0.N) (r : Fin 512) (k : Fin 2048) :
    (iblk0 V c 0 t : S512x2048.Idx → EReal) (ix2 r k) = (V c main_arg0 : S24576x2048.Idx → EReal) (ix2 ⟨_, row0_lt t r⟩ k) := by
  unfold iblk0
  rw [View.read_apply]
  show V c main_arg0 _ = _
  congr 1
  funext a
  apply Fin.ext
  match a with
  | ⟨0, _⟩ => show win0_0.index t 0 * 512 + 1 * r.val = 512 * t.val + r.val; rw [(idx0 t).1.1]; omega
  | ⟨1, _⟩ => show win0_0.index t 1 * 2048 + 1 * k.val = k.val; rw [(idx0 t).1.2]; omega

/-- The first weights' block, the whole of them at every point. -/
theorem blk0_w (c : Dev nD) (t : Fin grid0.N) (k : Fin 2048) (l : Fin 256) :
    (iblk0 V c 1 t : S2048x256.Idx → EReal) (ix2 k l) = (V c main_v0 : S2048x256.Idx → EReal) (ix2 k l) := by
  unfold iblk0
  rw [View.read_apply]
  show V c main_v0 _ = _
  congr 1
  funext a
  apply Fin.ext
  match a with
  | ⟨0, _⟩ => show win0_1.index t 0 * 2048 + 1 * k.val = k.val; rw [(idx0 t).2.1.1]; omega
  | ⟨1, _⟩ => show win0_1.index t 1 * 256 + 1 * l.val = l.val; rw [(idx0 t).2.1.2]; omega

/-- What point `t` of the first launch writes back is its tile of `low`. -/
theorem flushed0_eq (c : Dev nD) (t : Fin cfg0.N) :
    (dat0 V c).flushed 2 t = ((cfg0.win 2).blk t).view.read (Elt Ideal) (low (V c main_arg0) (V c main_v0)) := by
  rw [show (dat0 V c).flushed 2 t = (dat0 V c).after 2 t from rfl, after0_2, out0_eq]
  refine funext fun (j : S512x256.Idx) => ?_
  rw [View.read_apply]
  have e : (((cfg0.win 2).blk t).view.emb j : S24576x256.Idx) = ix2 ⟨_, row0_lt t (j 0)⟩ (j 1) := by
    funext a
    apply Fin.ext
    match a with
    | ⟨0, _⟩ => show win0_2.index t 0 * 512 + 1 * (j 0).val = 512 * t.val + (j 0).val; rw [(idx0 t).2.2.1]; omega
    | ⟨1, _⟩ => show win0_2.index t 1 * 256 + 1 * (j 1).val = (j 1).val; rw [(idx0 t).2.2.2]; omega
  rw [e]
  idx_vars j
  show k0_pay1 (F := Ideal) (iblk0 V c 0 t) (iblk0 V c 1 t) (ix2 j0 j1)
    = low (V c main_arg0) (V c main_v0) (ix2 ⟨_, row0_lt t j0⟩ j1)
  rw [pay0_apply]
  simp only [blk0_x, blk0_w]
  rfl

/-- Which entries point `t`'s tile of the first launch holds. -/
theorem mem_blk0 (t : Fin cfg0.N) (i : S24576x256.Idx) :
    i ∈ ((cfg0.win 2).blk t).view.set ↔ (512 * t.val ≤ (i 0 : Nat) ∧ (i 0 : Nat) < 512 * t.val + 512)
      ∧ 0 ≤ (i 1 : Nat) ∧ (i 1 : Nat) < 256 := by
  show i ∈ ((View.whole main_v1).slice (win0_2.rect t)).set ↔ _
  rw [View.set_slice_whole, Rect.mem_set_unit]
  refine (Fin.forall_fin_two (p := fun a => _ ≤ (i a : Nat) ∧ (i a : Nat) < _)).trans ?_
  show (win0_2.index t 0 * 512 ≤ (i 0 : Nat) ∧ (i 0 : Nat) < win0_2.index t 0 * 512 + 512)
    ∧ (win0_2.index t 1 * 256 ≤ (i 1 : Nat) ∧ (i 1 : Nat) < win0_2.index t 1 * 256 + 256) ↔ _
  rw [(idx0 t).2.2.1, (idx0 t).2.2.2]
  omega

/-- The first launch's tiles cover its result. -/
theorem cover0 (i : S24576x256.Idx) :
    ∃ t : Fin cfg0.N, (cfg0.win 2).flush t = true ∧ i ∈ ((cfg0.win 2).blk t).view.set := by
  have h0 : (i 0 : Nat) < 24576 := (i 0).isLt
  have h1 : (i 1 : Nat) < 256 := (i 1).isLt
  have hN : cfg0.N = 48 := N_0
  refine ⟨⟨(i 0 : Nat) / 512, by omega⟩, flush0_2 _, ?_⟩
  rw [mem_blk0]
  dsimp only
  omega

/-- What the first launch leaves in its result: `low` of its two arrays. -/
theorem final0 (c : Dev nD) : (dat0 V c).arrAt 2 cfg0.N = low (V c main_arg0) (V c main_v0) :=
  (dat0 V c).arrAt_eq_of_cover 2 (low (V c main_arg0) (V c main_v0)) (fun t _ => flushed0_eq V c t) cover0

/-! ## The second launch, on arrays holding anything -/

/-- One tile of the second launch: its payload at an entry. -/
theorem pay1_apply (x0 : S512x256.Idx → EReal) (x1 : S256x512.Idx → EReal) (r l : Fin 512) :
    k1_pay1 (F := Ideal) x0 x1 (ix2 r l) = ∑ k : Fin 256, x0 (ix2 r k) * x1 (ix2 k l) := by
  pointwise [k1_pay1]

/-- The tile a point of the second launch writes is the payload of its two blocks. -/
theorem out1_eq (x0 : S512x256.Idx → EReal) (x1 : S256x512.Idx → EReal) :
    out1_2 (F := Ideal) x0 x1 = k1_pay1 (F := Ideal) x0 x1 := by
  unfold out1_2
  rw [View.canon_unit_zero hz, View.ld_unit_zero hz, View.ld_unit_zero hz]

/-- The second launch's block indices: point `t` is row tile `t / 4`, column tile `t % 4`. -/
theorem idx1 : ∀ t : Fin grid1.N, (win1_0.index t 0 = t.val / 4 ∧ win1_0.index t 1 = 0)
    ∧ (win1_1.index t 0 = 0 ∧ win1_1.index t 1 = t.val % 4)
    ∧ (win1_2.index t 0 = t.val / 4 ∧ win1_2.index t 1 = t.val % 4) := by decide +kernel

/-- A row tile of the second launch lies in the array. -/
theorem row1_lt (t : Fin grid1.N) (r : Fin 512) : 512 * (t.val / 4) + r.val < 24576 := by
  have := t.isLt; have hN : grid1.N = 192 := N_1; omega

/-- A column tile of the second launch lies in the array. -/
theorem col1_lt (t : Fin grid1.N) (l : Fin 512) : 512 * (t.val % 4) + l.val < 2048 := by omega

/-- The low-rank activation's block at point `t`, read at an entry. -/
theorem blk1_x (c : Dev nD) (t : Fin grid1.N) (r : Fin 512) (k : Fin 256) :
    (iblk1 V c 0 t : S512x256.Idx → EReal) (ix2 r k) = (V c main_v1 : S24576x256.Idx → EReal) (ix2 ⟨_, row1_lt t r⟩ k) := by
  unfold iblk1
  rw [View.read_apply]
  show V c main_v1 _ = _
  congr 1
  funext a
  apply Fin.ext
  match a with
  | ⟨0, _⟩ => show win1_0.index t 0 * 512 + 1 * r.val = 512 * (t.val / 4) + r.val; rw [(idx1 t).1.1]; omega
  | ⟨1, _⟩ => show win1_0.index t 1 * 256 + 1 * k.val = k.val; rw [(idx1 t).1.2]; omega

/-- The second weights' block at point `t`. -/
theorem blk1_w (c : Dev nD) (t : Fin grid1.N) (k : Fin 256) (l : Fin 512) :
    (iblk1 V c 1 t : S256x512.Idx → EReal) (ix2 k l) = (V c main_v2 : S256x2048.Idx → EReal) (ix2 k ⟨_, col1_lt t l⟩) := by
  unfold iblk1
  rw [View.read_apply]
  show V c main_v2 _ = _
  congr 1
  funext a
  apply Fin.ext
  match a with
  | ⟨0, _⟩ => show win1_1.index t 0 * 256 + 1 * k.val = k.val; rw [(idx1 t).2.1.1]; omega
  | ⟨1, _⟩ => show win1_1.index t 1 * 512 + 1 * l.val = 512 * (t.val % 4) + l.val; rw [(idx1 t).2.1.2]; omega

/-- What point `t` of the second launch writes back is its tile of `up`. -/
theorem flushed1_eq (c : Dev nD) (t : Fin cfg1.N) :
    (dat1 V c).flushed 2 t = ((cfg1.win 2).blk t).view.read (Elt Ideal) (up (V c main_v1) (V c main_v2)) := by
  rw [show (dat1 V c).flushed 2 t = (dat1 V c).after 2 t from rfl, after1_2, out1_eq]
  refine funext fun (j : S512x512.Idx) => ?_
  rw [View.read_apply]
  have e : (((cfg1.win 2).blk t).view.emb j : S24576x2048.Idx) = ix2 ⟨_, row1_lt t (j 0)⟩ ⟨_, col1_lt t (j 1)⟩ := by
    funext a
    apply Fin.ext
    match a with
    | ⟨0, _⟩ => show win1_2.index t 0 * 512 + 1 * (j 0).val = 512 * (t.val / 4) + (j 0).val; rw [(idx1 t).2.2.1]; omega
    | ⟨1, _⟩ => show win1_2.index t 1 * 512 + 1 * (j 1).val = 512 * (t.val % 4) + (j 1).val; rw [(idx1 t).2.2.2]; omega
  rw [e]
  idx_vars j
  show k1_pay1 (F := Ideal) (iblk1 V c 0 t) (iblk1 V c 1 t) (ix2 j0 j1)
    = up (V c main_v1) (V c main_v2) (ix2 ⟨_, row1_lt t j0⟩ ⟨_, col1_lt t j1⟩)
  rw [pay1_apply]
  simp only [blk1_x, blk1_w]
  rfl

/-- Which entries point `t`'s tile of the second launch holds. -/
theorem mem_blk1 (t : Fin cfg1.N) (i : S24576x2048.Idx) :
    i ∈ ((cfg1.win 2).blk t).view.set ↔ (512 * (t.val / 4) ≤ (i 0 : Nat) ∧ (i 0 : Nat) < 512 * (t.val / 4) + 512)
      ∧ 512 * (t.val % 4) ≤ (i 1 : Nat) ∧ (i 1 : Nat) < 512 * (t.val % 4) + 512 := by
  show i ∈ ((View.whole main_v3).slice (win1_2.rect t)).set ↔ _
  rw [View.set_slice_whole, Rect.mem_set_unit]
  refine (Fin.forall_fin_two (p := fun a => _ ≤ (i a : Nat) ∧ (i a : Nat) < _)).trans ?_
  show (win1_2.index t 0 * 512 ≤ (i 0 : Nat) ∧ (i 0 : Nat) < win1_2.index t 0 * 512 + 512)
    ∧ (win1_2.index t 1 * 512 ≤ (i 1 : Nat) ∧ (i 1 : Nat) < win1_2.index t 1 * 512 + 512) ↔ _
  rw [(idx1 t).2.2.1, (idx1 t).2.2.2]
  omega

/-- The second launch's tiles cover its result. -/
theorem cover1 (i : S24576x2048.Idx) :
    ∃ t : Fin cfg1.N, (cfg1.win 2).flush t = true ∧ i ∈ ((cfg1.win 2).blk t).view.set := by
  have h0 : (i 0 : Nat) < 24576 := (i 0).isLt
  have h1 : (i 1 : Nat) < 2048 := (i 1).isLt
  have hN : cfg1.N = 192 := N_1
  refine ⟨⟨(i 0 : Nat) / 512 * 4 + (i 1 : Nat) / 512, by omega⟩, flush1_2 _, ?_⟩
  rw [mem_blk1]
  dsimp only
  omega

/-- What the second launch leaves in its result: `up` of its two arrays. -/
theorem final1 (c : Dev nD) : (dat1 V c).arrAt 2 cfg1.N = up (V c main_v1) (V c main_v2) :=
  (dat1 V c).arrAt_eq_of_cover 2 (up (V c main_v1) (V c main_v2)) (fun t _ => flushed1_eq V c t) cover1

/-! ## The two launches in a row -/

variable (m : (ℓ : Loc nD τ sig) → Buf (Elt Ideal) ℓ) (ρ : Dev nD → PrngReg)

/-- The whole result: `up` of `low`, of the three arguments. -/
abbrev G (c : Dev nD) : Buf (Elt Ideal) ((c : Thread nD τ).loc main_v3) :=
  up (low (m ((c : Thread nD τ).loc main_arg0)) (m ((c : Thread nD τ).loc main_arg1))) (m ((c : Thread nD τ).loc main_arg2))

/-- The first weights the first launch reads are the argument (the cast to bf16 changes nothing over the reals). -/
theorem entry_w1 (c : Dev nD) : (V1 m ρ c main_v0 : S2048x256.Idx → EReal) = m ((c : Thread nD τ).loc main_arg1) := by
  show StableHlo.after hostOps0 (W0 m ρ c) (Proc.devRef .tc main_v0) = _
  after_results
  rfl

/-- The tokens the first launch reads are the argument. -/
theorem entry_x (c : Dev nD) : V1 m ρ c main_arg0 = m ((c : Thread nD τ).loc main_arg0) := W1_args m ρ c main_arg0 (by decide)

/-- The second weights the second launch reads are the argument. -/
theorem entry_w2 (c : Dev nD) : (V3 m ρ c main_v2 : S256x2048.Idx → EReal) = m ((c : Thread nD τ).loc main_arg2) := by
  have h : StableHlo.after hostOps1 (W2 m ρ c) (Proc.devRef .tc main_v2) = truncf (F := Ideal) .bf16 (W2 m ρ c (Proc.devRef .tc main_arg2)) bitsLt_bf16_f32 := by
    after_results
  exact h.trans (W2_args m ρ c main_arg2 (by decide))

/-- The low-rank activation the second launch reads is what the first one left. -/
theorem entry_low (c : Dev nD) : (V3 m ρ c main_v1 : S24576x256.Idx → EReal)
    = low (m ((c : Thread nD τ).loc main_arg0)) (m ((c : Thread nD τ).loc main_arg1)) := by
  refine (W3_of m ρ c main_v1 (by decide)).trans ((W2_arr m ρ c 2).trans ((final0 (V1 m ρ) c).trans ?_))
  rw [entry_x, entry_w1]

/-- The result buffer at the end of the run. -/
theorem last_eq (c : Dev nD) : W4 m ρ c (Proc.devRef .tc main_v3) = G m c := by
  refine (W4_arr m ρ c 2).trans ((final1 (V3 m ρ) c).trans ?_)
  rw [entry_low, entry_w2]

open Idealize.ShloMosaic.Rounds Idealize.SL Idealize.SL.RA Idealize.SL.BI Idealize.SL.BI.BIBase Idealize.SL.BI.Laws Idealize.SL.ProofMode
open scoped Idealize.SL.BI

set_option backward.isDefEq.respectTransparency.types false in
/-- The run, read: every buffer outside the launches ends at the last boundary's contents. -/
theorem run_all : θ_run defs (onTc (τ := τ) (main (F := Ideal))) ⟨m, fun _ => 0, ρ⟩ (fun r =>
      ∀ c : Dev nD, ∀ b ∈ Pipeline.ucRefs τ sig, r.2.mem (c, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj))
              : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ))
          ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c => h c)

/-- The run, read: the result is the gate of the arguments, which are unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c _ (mem_uc main_v3 (by decide))).trans (last_eq m ρ c),
     (h c _ (mem_uc main_arg0 (by decide))).trans (W4_args m ρ c main_arg0 (by decide)),
     (h c _ (mem_uc main_arg1 (by decide))).trans (W4_args m ρ c main_arg1 (by decide)),
     (h c _ (mem_uc main_arg2 (by decide))).trans (W4_args m ρ c main_arg2 (by decide))⟩) (run_all m ρ)

end Cert.Kernel7Ideal.Gate

namespace Cert.Proof.Gate

/-- The kernel runs and leaves its arguments. -/
theorem frame_kernel : Cert.quiescent_Kernel7 := fun m ρ _ => Cert.Kernel7.Gen.frame m ρ

/-- So does the idealized kernel. -/
theorem frame_ideal : Cert.quiescent_Kernel7Ideal := fun m ρ _ => Cert.Kernel7Ideal.Gen.frame m ρ

/-- The reference leaves its arguments; it has no semaphore. -/
theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- Idealization rewrote nothing. -/
theorem preserves : Cert.preserves_Kernel7_Kernel7Ideal := trivial

/-- Kernel and reference both end at the gate of the common arguments. -/
theorem algebraic : Cert.algebraic_Kernel7Ideal_Reference7Ideal := fun m ρ m' ρ' _ hag =>
  ⟨fun c => Cert.Kernel7Ideal.Gate.G m c, Cert.Kernel7Ideal.Gate.run m ρ,
    (θ_run Cert.Reference7Ideal.defs _ _).mono
      (fun _ h c => ⟨(h c).1.trans ((Cert.Reference7Ideal.Gate.up_eq _ _).trans
        ((congrArg (fun a => up a _) (Cert.Reference7Ideal.Gate.low_eq _ _)).trans
          (by rw [(hag c).1, (hag c).2.1, (hag c).2.2]))), (h c).2⟩)
      (Cert.Reference7Ideal.Value.run (F := Ideal) m' ρ')⟩

end Cert.Proof.Gate

end
-- ==== Proof.Products.lean ====
/-
  What the smaller calls of the layers compute, as formulas on arrays of extended reals: products, columns of an array
  and the norm of a latent.
-/
module

public import Idealize.ShloMosaic.Lib.Pointwise

@[expose] public section

noncomputable section

open Idealize.ShloMosaic
open scoped BigOperators

namespace Cert.Proof.Products

/-- One entry of the product of two matrices. -/
def times {M K N : Nat} (x : (⟨2, ![M, K]⟩ : Shape).Idx → EReal) (w : (⟨2, ![K, N]⟩ : Shape).Idx → EReal)
    (j : (⟨2, ![M, N]⟩ : Shape).Idx) : EReal := ∑ k : Fin K, x (ix2 (j 0) k) * w (ix2 k (j 1))

/-- The `n` columns of a matrix from column `c` on. -/
def columns {M N : Nat} (c n : Nat) (h : c + n ≤ N) (x : (⟨2, ![M, N]⟩ : Shape).Idx → EReal)
    (j : (⟨2, ![M, n]⟩ : Shape).Idx) : EReal :=
  x (ix2 (j 0) ⟨c + (j 1).val, lt_of_lt_of_le (Nat.add_lt_add_left (show (j 1).val < n from (j 1).isLt) c) h⟩)

/-- One matrix of a stack of them. -/
def page {D M N : Nat} (d : Fin D) (w : (⟨3, ![D, M, N]⟩ : Shape).Idx → EReal) (j : (⟨2, ![M, N]⟩ : Shape).Idx) : EReal :=
  w (ix3 d (j 0) (j 1))

/-- Rows of zeros below the weights add nothing to a sum: of 128 terms the first 96 remain. -/
theorem sum_padded (f : Fin 128 → EReal) (g : Fin 96 → EReal) :
    ∑ k : Fin 128, f k * (if h : k.val < 96 then g ⟨k.val, h⟩ else 0) = ∑ k : Fin 96, f ⟨k.val, by omega⟩ * g k := by
  have z : ∑ k : Fin 32, f (Fin.natAdd 96 k) * (if h : (Fin.natAdd 96 k).val < 96 then g ⟨(Fin.natAdd 96 k).val, h⟩ else 0) = 0 :=
    Finset.sum_eq_zero fun k _ => by rw [dif_neg (by simp), mul_zero]
  refine (Fin.sum_univ_add (a := 96) (b := 32) (fun k : Fin (96 + 32) => f k * (if h : k.val < 96 then g ⟨k.val, h⟩ else 0))).trans ?_
  refine (congrArg (_ + ·) z).trans ((add_zero _).trans (Finset.sum_congr rfl fun k _ => ?_))
  rw [dif_pos (by simp)]
  rfl

/-- A latent's rows, each divided by its root mean square and scaled by the gain. -/
def latentNorm (z : (⟨2, ![24576, 512]⟩ : Shape).Idx → EReal) (g : (⟨1, ![512]⟩ : Shape).Idx → EReal)
    (j : (⟨2, ![24576, 512]⟩ : Shape).Idx) : EReal :=
  z j * Ideal.rsqrt (Ideal.div (∑ k : Fin 512, z (ix2 (j 0) k) * z (ix2 (j 0) k)) (Ideal.ofBits .f32 0x44000000#32)
    + Ideal.ofBits .f32 0x358637BD#32) * g (ix1 (j 1))

/-- The tokens, each divided by its root mean square and scaled by the gain. -/
def rowNorm (x : (⟨2, ![24576, 2048]⟩ : Shape).Idx → EReal) (g : (⟨1, ![2048]⟩ : Shape).Idx → EReal)
    (j : (⟨2, ![24576, 2048]⟩ : Shape).Idx) : EReal :=
  x j * Ideal.rsqrt (Ideal.div (∑ k : Fin 2048, x (ix2 (j 0) k) * x (ix2 (j 0) k)) (Ideal.ofBits .f32 0x45000000#32)
    + Ideal.ofBits .f32 0x358637BD#32) * g (ix1 (j 1))

end Cert.Proof.Products

end
-- ==== Proof.Latents.lean ====
/-
  The queries and the keys and values of the attention before the rotary code: two latents, columns of the input
  projection, each normalized by its root mean square and multiplied by its up weights. The kernel runs four tiled
  launches, the last two reading what the first two wrote; both programs are read over the extended reals.
-/
module

public import proofs.«01_k».proof.Defs
public import proofs.«01_k».proof.Proof.Products
public import proofs.«01_k».proof.Proof.Gen.Kernel8.Frame
public import proofs.«01_k».proof.Proof.Gen.Kernel8Ideal.Frame
public import proofs.«01_k».proof.Proof.Gen.Reference8Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Reference8Ideal.Latents

open Cert.Reference8Ideal Cert.Reference8Ideal.Gen Cert.Proof.Products

/-- The reference's normalized query latent. -/
theorem normq_eq (z : FVec Ideal S24576x4096 .f32) (g : FVec Ideal S512 .f32) :
    (mulf (mulf (extractStridedSlice S24576x512 ![0, 0] z slices_S24576x4096_S24576x512_0_0) (broadcastInDim S24576x512 ![0, 1] bcast_S24576x1_S24576x512_0_1 (Host.rsqrt (addf (Host.divf (broadcastInDim S24576x1 ![0] bcast_S24576_S24576x1_0 (Host.reduceAdd (mulf (extractStridedSlice S24576x512 ![0, 0] z slices_S24576x4096_S24576x512_0_0) (extractStridedSlice S24576x512 ![0, 0] z slices_S24576x4096_S24576x512_0_0)) (constant S_ .f32 0x00000000#32) reducesTo_S24576x512_S24576_d1 h_S_)) (broadcastInDim S24576x1 ![] bcast_S_S24576x1 (constant S_ .f32 0x44000000#32))) (broadcastInDim S24576x1 ![] bcast_S_S24576x1 (constant S_ .f32 0x358637BD#32)))))) (broadcastInDim S24576x512 ![0, 1] bcast_S1x512_S24576x512_0_1 (broadcastInDim S1x512 ![1] bcast_S512_S1x512_1 g)) : FVec Ideal S24576x512 .f32)
      = latentNorm (columns 0 512 (by decide) z) g := by
  funext j
  idx_vars j
  pointwise [latentNorm, columns]

/-- The reference's normalized key and value latent. -/
theorem normkv_eq (z : FVec Ideal S24576x4096 .f32) (g : FVec Ideal S512 .f32) :
    (mulf (mulf (extractStridedSlice S24576x512 ![0, 512] z slices_S24576x4096_S24576x512_0_512) (broadcastInDim S24576x512 ![0, 1] bcast_S24576x1_S24576x512_0_1 (Host.rsqrt (addf (Host.divf (broadcastInDim S24576x1 ![0] bcast_S24576_S24576x1_0 (Host.reduceAdd (mulf (extractStridedSlice S24576x512 ![0, 512] z slices_S24576x4096_S24576x512_0_512) (extractStridedSlice S24576x512 ![0, 512] z slices_S24576x4096_S24576x512_0_512)) (constant S_ .f32 0x00000000#32) reducesTo_S24576x512_S24576_d1 h_S_)) (broadcastInDim S24576x1 ![] bcast_S_S24576x1 (constant S_ .f32 0x44000000#32))) (broadcastInDim S24576x1 ![] bcast_S_S24576x1 (constant S_ .f32 0x358637BD#32)))))) (broadcastInDim S24576x512 ![0, 1] bcast_S1x512_S24576x512_0_1 (broadcastInDim S1x512 ![1] bcast_S512_S1x512_1 g)) : FVec Ideal S24576x512 .f32)
      = latentNorm (columns 512 512 (by decide) z) g := by
  funext j
  idx_vars j
  pointwise [latentNorm, columns]

/-- The reference's query product. -/
theorem q_eq (a : S24576x512.Idx → EReal) (w : S512x1536.Idx → EReal) :
    (Host.dotGeneral (F := Ideal) (φ₁ := .f32) (φ₂ := .f32) dot_S24576x512_S512x1536_S24576x1536_1_0_0_1_n_n none a w : FVec Ideal S24576x1536 .f32)
      = times a w := by
  funext j
  idx_vars j
  pointwise [times]

/-- The reference's key and value product. -/
theorem kv_eq (a : S24576x512.Idx → EReal) (w : S512x2048.Idx → EReal) :
    (Host.dotGeneral (F := Ideal) (φ₁ := .f32) (φ₂ := .f32) dot_S24576x512_S512x2048_S24576x2048_1_0_0_1_n_n none a w : FVec Ideal S24576x2048 .f32)
      = times a w := by
  funext j
  idx_vars j
  pointwise [times]

end Cert.Reference8Ideal.Latents

namespace Cert.Kernel8Ideal.Latents

open Cert.Kernel8Ideal Cert.Kernel8Ideal.Gen Cert.Proof.Products

/-- The zero offset. -/
theorem hz : (![0, 0] : Fin 2 → Nat) = fun _ => 0 := funext fun a => by fin_cases a <;> rfl

variable (V : (c : Dev nD) → (b : Ref sig .tc) → Buf (Elt Ideal) ((c : Thread nD τ).loc b))

/-! ## The first launch, the norm of the query latent, on arrays holding anything -/

/-- One tile of the first launch: its payload at an entry. -/
theorem pay0_apply (x0 : S512x512.Idx → EReal) (x1 : S1x512.Idx → EReal) (r l : Fin 512) :
    k0_pay1 (F := Ideal) x0 x1 (ix2 r l) = x0 (ix2 r l) * Ideal.rsqrt (Ideal.div (∑ k : Fin 512, x0 (ix2 r k) * x0 (ix2 r k)) (Ideal.ofBits .f32 0x44000000#32)
        + Ideal.ofBits .f32 0x358637BD#32) * x1 (ix2 0 l) := by
  pointwise [k0_pay1]

/-- The tile a point of the first launch writes is the payload of its two blocks. -/
theorem out0_eq (x0 : S512x512.Idx → EReal) (x1 : S1x512.Idx → EReal) :
    out0_2 (F := Ideal) x0 x1 = k0_pay1 (F := Ideal) x0 x1 := by
  unfold out0_2
  rw [View.canon_unit_zero hz, View.ld_unit_zero hz, View.ld_unit_zero hz]

/-- The first launch's block indices. -/
theorem idx0 : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0) := by decide +kernel

/-- A row tile of the first launch lies in the array. -/
theorem row0_lt (t : Fin grid0.N) (r : Fin 512) : 512 * t.val + r.val < 24576 := by
  have := t.isLt; have hN : grid0.N = 48 := N_0; omega

/-- The latent's block at point `t` of the first launch, read at an entry. -/
theorem blk0_x (c : Dev nD) (t : Fin grid0.N) (r k : Fin 512) :
    (iblk0 V c 0 t : S512x512.Idx → EReal) (ix2 r k) = (V c main_arg0 : S24576x4096.Idx → EReal) (ix2 ⟨_, row0_lt t r⟩ ⟨0 + k.val, by omega⟩) := by
  unfold iblk0
  rw [View.read_apply]
  show V c main_arg0 _ = _
  congr 1
  funext a
  apply Fin.ext
  match a with
  | ⟨0, _⟩ => show win0_0.index t 0 * 512 + 1 * r.val = 512 * t.val + r.val; rw [(idx0 t).1.1]; omega
  | ⟨1, _⟩ => show win0_0.index t 1 * 512 + 1 * k.val = 0 + k.val; rw [(idx0 t).1.2]; omega

/-- The gain's block, the whole row at every point of the first launch. -/
theorem blk0_g (c : Dev nD) (t : Fin grid0.N) (l : Fin 512) :
    (iblk0 V c 1 t : S1x512.Idx → EReal) (ix2 0 l) = (V c main_v0 : S1x512.Idx → EReal) (ix2 0 l) := by
  unfold iblk0
  rw [View.read_apply]
  show V c main_v0 _ = _
  congr 1
  funext a
  apply Fin.ext
  match a with
  | ⟨0, _⟩ => show win0_1.index t 0 * 1 + 1 * (0 : Fin 1).val = (0 : Fin 1).val; rw [(idx0 t).2.1.1]; omega
  | ⟨1, _⟩ => show win0_1.index t 1 * 512 + 1 * l.val = l.val; rw [(idx0 t).2.1.2]; omega

/-- What point `t` of the first launch writes back is its tile of the whole. -/
theorem flushed0_eq (c : Dev nD) (t : Fin cfg0.N) :
    (dat0 V c).flushed 2 t = ((cfg0.win 2).blk t).view.read (Elt Ideal) (latentNorm (columns 0 512 (by decide) (V c main_arg0)) (fun i => (V c main_v0 : S1x512.Idx → EReal) (ix2 0 (i 0)))) := by
  rw [show (dat0 V c).flushed 2 t = (dat0 V c).after 2 t from rfl, after0_2, out0_eq]
  refine funext fun (j : S512x512.Idx) => ?_
  rw [View.read_apply]
  have e : (((cfg0.win 2).blk t).view.emb j : S24576x512.Idx) = ix2 ⟨_, row0_lt t (j 0)⟩ (j 1) := by
    funext a
    apply Fin.ext
    match a with
    | ⟨0, _⟩ => show win0_2.index t 0 * 512 + 1 * (j 0).val = 512 * t.val + (j 0).val; rw [(idx0 t).2.2.1]; omega
    | ⟨1, _⟩ => show win0_2.index t 1 * 512 + 1 * (j 1).val = (j 1).val; rw [(idx0 t).2.2.2]; omega
  rw [e]
  idx_vars j
  show k0_pay1 (F := Ideal) (iblk0 V c 0 t) (iblk0 V c 1 t) (ix2 j0 j1)
    = (latentNorm (columns 0 512 (by decide) (V c main_arg0)) (fun i => (V c main_v0 : S1x512.Idx → EReal) (ix2 0 (i 0)))) (ix2 ⟨_, row0_lt t j0⟩ j1)
  rw [pay0_apply]
  simp only [blk0_x, blk0_g]
  rfl

/-- Which entries point `t`'s tile of the first launch holds. -/
theorem mem_blk0 (t : Fin cfg0.N) (i : S24576x512.Idx) :
    i ∈ ((cfg0.win 2).blk t).view.set ↔ (512 * t.val ≤ (i 0 : Nat) ∧ (i 0 : Nat) < 512 * t.val + 512)
      ∧ 0 ≤ (i 1 : Nat) ∧ (i 1 : Nat) < 512 := by
  show i ∈ ((View.whole main_v1).slice (win0_2.rect t)).set ↔ _
  rw [View.set_slice_whole, Rect.mem_set_unit]
  refine (Fin.forall_fin_two (p := fun a => _ ≤ (i a : Nat) ∧ (i a : Nat) < _)).trans ?_
  show (win0_2.index t 0 * 512 ≤ (i 0 : Nat) ∧ (i 0 : Nat) < win0_2.index t 0 * 512 + 512)
    ∧ (win0_2.index t 1 * 512 ≤ (i 1 : Nat) ∧ (i 1 : Nat) < win0_2.index t 1 * 512 + 512) ↔ _
  rw [(idx0 t).2.2.1, (idx0 t).2.2.2]
  omega

/-- The first launch's tiles cover its result. -/
theorem cover0 (i : S24576x512.Idx) :
    ∃ t : Fin cfg0.N, (cfg0.win 2).flush t = true ∧ i ∈ ((cfg0.win 2).blk t).view.set := by
  have h0 : (i 0 : Nat) < 24576 := (i 0).isLt
  have h1 : (i 1 : Nat) < 512 := (i 1).isLt
  have hN : cfg0.N = 48 := N_0
  refine ⟨⟨(i 0 : Nat) / 512, by omega⟩, flush0_2 _, ?_⟩
  rw [mem_blk0]
  dsimp only
  omega

/-- What the first launch leaves in its result. -/
theorem final0 (c : Dev nD) : (dat0 V c).arrAt 2 cfg0.N = latentNorm (columns 0 512 (by decide) (V c main_arg0)) (fun i => (V c main_v0 : S1x512.Idx → EReal) (ix2 0 (i 0))) :=
  (dat0 V c).arrAt_eq_of_cover 2 (latentNorm (columns 0 512 (by decide) (V c main_arg0)) (fun i => (V c main_v0 : S1x512.Idx → EReal) (ix2 0 (i 0)))) (fun t _ => flushed0_eq V c t) cover0

/-! ## The second launch, the norm of the key and value latent, on arrays holding anything -/

/-- One tile of the second launch: its payload at an entry. -/
theorem pay1_apply (x0 : S512x512.Idx → EReal) (x1 : S1x512.Idx → EReal) (r l : Fin 512) :
    k1_pay1 (F := Ideal) x0 x1 (ix2 r l) = x0 (ix2 r l) * Ideal.rsqrt (Ideal.div (∑ k : Fin 512, x0 (ix2 r k) * x0 (ix2 r k)) (Ideal.ofBits .f32 0x44000000#32)
        + Ideal.ofBits .f32 0x358637BD#32) * x1 (ix2 0 l) := by
  pointwise [k1_pay1]

/-- The tile a point of the second launch writes is the payload of its two blocks. -/
theorem out1_eq (x0 : S512x512.Idx → EReal) (x1 : S1x512.Idx → EReal) :
    out1_2 (F := Ideal) x0 x1 = k1_pay1 (F := Ideal) x0 x1 := by
  unfold out1_2
  rw [View.canon_unit_zero hz, View.ld_unit_zero hz, View.ld_unit_zero hz]

/-- The second launch's block indices. -/
theorem idx1 : ∀ t : Fin grid1.N, (win1_0.index t 0 = t.val ∧ win1_0.index t 1 = 1)
    ∧ (win1_1.index t 0 = 0 ∧ win1_1.index t 1 = 0)
    ∧ (win1_2.index t 0 = t.val ∧ win1_2.index t 1 = 0) := by decide +kernel

/-- A row tile of the second launch lies in the array. -/
theorem row1_lt (t : Fin grid1.N) (r : Fin 512) : 512 * t.val + r.val < 24576 := by
  have := t.isLt; have hN : grid1.N = 48 := N_1; omega

/-- The latent's block at point `t` of the second launch, read at an entry. -/
theorem blk1_x (c : Dev nD) (t : Fin grid1.N) (r k : Fin 512) :
    (iblk1 V c 0 t : S512x512.Idx → EReal) (ix2 r k) = (V c main_arg0 : S24576x4096.Idx → EReal) (ix2 ⟨_, row1_lt t r⟩ ⟨512 + k.val, by omega⟩) := by
  unfold iblk1
  rw [View.read_apply]
  show V c main_arg0 _ = _
  congr 1
  funext a
  apply Fin.ext
  match a with
  | ⟨0, _⟩ => show win1_0.index t 0 * 512 + 1 * r.val = 512 * t.val + r.val; rw [(idx1 t).1.1]; omega
  | ⟨1, _⟩ => show win1_0.index t 1 * 512 + 1 * k.val = 512 + k.val; rw [(idx1 t).1.2]; omega

/-- The gain's block, the whole row at every point of the second launch. -/
theorem blk1_g (c : Dev nD) (t : Fin grid1.N) (l : Fin 512) :
    (iblk1 V c 1 t : S1x512.Idx → EReal) (ix2 0 l) = (V c main_v2 : S1x512.Idx → EReal) (ix2 0 l) := by
  unfold iblk1
  rw [View.read_apply]
  show V c main_v2 _ = _
  congr 1
  funext a
  apply Fin.ext
  match a with
  | ⟨0, _⟩ => show win1_1.index t 0 * 1 + 1 * (0 : Fin 1).val = (0 : Fin 1).val; rw [(idx1 t).2.1.1]; omega
  | ⟨1, _⟩ => show win1_1.index t 1 * 512 + 1 * l.val = l.val; rw [(idx1 t).2.1.2]; omega

/-- What point `t` of the second launch writes back is its tile of the whole. -/
theorem flushed1_eq (c : Dev nD) (t : Fin cfg1.N) :
    (dat1 V c).flushed 2 t = ((cfg1.win 2).blk t).view.read (Elt Ideal) (latentNorm (columns 512 512 (by decide) (V c main_arg0)) (fun i => (V c main_v2 : S1x512.Idx → EReal) (ix2 0 (i 0)))) := by
  rw [show (dat1 V c).flushed 2 t = (dat1 V c).after 2 t from rfl, after1_2, out1_eq]
  refine funext fun (j : S512x512.Idx) => ?_
  rw [View.read_apply]
  have e : (((cfg1.win 2).blk t).view.emb j : S24576x512.Idx) = ix2 ⟨_, row1_lt t (j 0)⟩ (j 1) := by
    funext a
    apply Fin.ext
    match a with
    | ⟨0, _⟩ => show win1_2.index t 0 * 512 + 1 * (j 0).val = 512 * t.val + (j 0).val; rw [(idx1 t).2.2.1]; omega
    | ⟨1, _⟩ => show win1_2.index t 1 * 512 + 1 * (j 1).val = (j 1).val; rw [(idx1 t).2.2.2]; omega
  rw [e]
  idx_vars j
  show k1_pay1 (F := Ideal) (iblk1 V c 0 t) (iblk1 V c 1 t) (ix2 j0 j1)
    = (latentNorm (columns 512 512 (by decide) (V c main_arg0)) (fun i => (V c main_v2 : S1x512.Idx → EReal) (ix2 0 (i 0)))) (ix2 ⟨_, row1_lt t j0⟩ j1)
  rw [pay1_apply]
  simp only [blk1_x, blk1_g]
  rfl

/-- Which entries point `t`'s tile of the second launch holds. -/
theorem mem_blk1 (t : Fin cfg1.N) (i : S24576x512.Idx) :
    i ∈ ((cfg1.win 2).blk t).view.set ↔ (512 * t.val ≤ (i 0 : Nat) ∧ (i 0 : Nat) < 512 * t.val + 512)
      ∧ 0 ≤ (i 1 : Nat) ∧ (i 1 : Nat) < 512 := by
  show i ∈ ((View.whole main_v3).slice (win1_2.rect t)).set ↔ _
  rw [View.set_slice_whole, Rect.mem_set_unit]
  refine (Fin.forall_fin_two (p := fun a => _ ≤ (i a : Nat) ∧ (i a : Nat) < _)).trans ?_
  show (win1_2.index t 0 * 512 ≤ (i 0 : Nat) ∧ (i 0 : Nat) < win1_2.index t 0 * 512 + 512)
    ∧ (win1_2.index t 1 * 512 ≤ (i 1 : Nat) ∧ (i 1 : Nat) < win1_2.index t 1 * 512 + 512) ↔ _
  rw [(idx1 t).2.2.1, (idx1 t).2.2.2]
  omega

/-- The second launch's tiles cover its result. -/
theorem cover1 (i : S24576x512.Idx) :
    ∃ t : Fin cfg1.N, (cfg1.win 2).flush t = true ∧ i ∈ ((cfg1.win 2).blk t).view.set := by
  have h0 : (i 0 : Nat) < 24576 := (i 0).isLt
  have h1 : (i 1 : Nat) < 512 := (i 1).isLt
  have hN : cfg1.N = 48 := N_1
  refine ⟨⟨(i 0 : Nat) / 512, by omega⟩, flush1_2 _, ?_⟩
  rw [mem_blk1]
  dsimp only
  omega

/-- What the second launch leaves in its result. -/
theorem final1 (c : Dev nD) : (dat1 V c).arrAt 2 cfg1.N = latentNorm (columns 512 512 (by decide) (V c main_arg0)) (fun i => (V c main_v2 : S1x512.Idx → EReal) (ix2 0 (i 0))) :=
  (dat1 V c).arrAt_eq_of_cover 2 (latentNorm (columns 512 512 (by decide) (V c main_arg0)) (fun i => (V c main_v2 : S1x512.Idx → EReal) (ix2 0 (i 0)))) (fun t _ => flushed1_eq V c t) cover1

/-! ## The third launch, the query product, on arrays holding anything -/

/-- One tile of the third launch: its payload at an entry. -/
theorem pay2_apply (x0 : S512x512.Idx → EReal) (x1 : S512x512.Idx → EReal) (r : Fin 512) (l : Fin 512) :
    k2_pay1 (F := Ideal) x0 x1 (ix2 r l) = ∑ k : Fin 512, x0 (ix2 r k) * x1 (ix2 k l) := by
  pointwise [k2_pay1]

/-- The tile a point of the third launch writes is the payload of its two blocks. -/
theorem out2_eq (x0 : S512x512.Idx → EReal) (x1 : S512x512.Idx → EReal) :
    out2_2 (F := Ideal) x0 x1 = k2_pay1 (F := Ideal) x0 x1 := by
  unfold out2_2
  rw [View.canon_unit_zero hz, View.ld_unit_zero hz, View.ld_unit_zero hz]

/-- The third launch's block indices. -/
theorem idx2 : ∀ t : Fin grid2.N, (win2_0.index t 0 = t.val / 3 ∧ win2_0.index t 1 = 0)
    ∧ (win2_1.index t 0 = 0 ∧ win2_1.index t 1 = t.val % 3)
    ∧ (win2_2.index t 0 = t.val / 3 ∧ win2_2.index t 1 = t.val % 3) := by decide +kernel

/-- A row tile of the third launch lies in the array. -/
theorem row2_lt (t : Fin grid2.N) (r : Fin 512) : 512 * (t.val / 3) + r.val < 24576 := by
  have := t.isLt; have hN : grid2.N = 144 := N_2; omega

/-- A column tile of the third launch lies in the array. -/
theorem col2_lt (t : Fin grid2.N) (l : Fin 512) : 512 * (t.val % 3) + l.val < 1536 := by omega

/-- The left factor's block at point `t` of the third launch, read at an entry. -/
theorem blk2_x (c : Dev nD) (t : Fin grid2.N) (r : Fin 512) (k : Fin 512) :
    (iblk2 V c 0 t : S512x512.Idx → EReal) (ix2 r k) = (V c main_v1 : S24576x512.Idx → EReal) (ix2 ⟨_, row2_lt t r⟩ k) := by
  unfold iblk2
  rw [View.read_apply]
  show V c main_v1 _ = _
  congr 1
  funext a
  apply Fin.ext
  match a with
  | ⟨0, _⟩ => show win2_0.index t 0 * 512 + 1 * r.val = 512 * (t.val / 3) + r.val; rw [(idx2 t).1.1]; omega
  | ⟨1, _⟩ => show win2_0.index t 1 * 512 + 1 * k.val = k.val; rw [(idx2 t).1.2]; omega

/-- The weights' block at point `t` of the third launch. -/
theorem blk2_w (c : Dev nD) (t : Fin grid2.N) (k : Fin 512) (l : Fin 512) :
    (iblk2 V c 1 t : S512x512.Idx → EReal) (ix2 k l) = (V c main_v4 : S512x1536.Idx → EReal) (ix2 k ⟨_, col2_lt t l⟩) := by
  unfold iblk2
  rw [View.read_apply]
  show V c main_v4 _ = _
  congr 1
  funext a
  apply Fin.ext
  match a with
  | ⟨0, _⟩ => show win2_1.index t 0 * 512 + 1 * k.val = k.val; rw [(idx2 t).2.1.1]; omega
  | ⟨1, _⟩ => show win2_1.index t 1 * 512 + 1 * l.val = 512 * (t.val % 3) + l.val; rw [(idx2 t).2.1.2]; omega

/-- What point `t` of the third launch writes back is its tile of the whole. -/
theorem flushed2_eq (c : Dev nD) (t : Fin cfg2.N) :
    (dat2 V c).flushed 2 t = ((cfg2.win 2).blk t).view.read (Elt Ideal) (times (V c main_v1) (V c main_v4)) := by
  rw [show (dat2 V c).flushed 2 t = (dat2 V c).after 2 t from rfl, after2_2, out2_eq]
  refine funext fun (j : S512x512.Idx) => ?_
  rw [View.read_apply]
  have e : (((cfg2.win 2).blk t).view.emb j : S24576x1536.Idx) = ix2 ⟨_, row2_lt t (j 0)⟩ ⟨_, col2_lt t (j 1)⟩ := by
    funext a
    apply Fin.ext
    match a with
    | ⟨0, _⟩ => show win2_2.index t 0 * 512 + 1 * (j 0).val = 512 * (t.val / 3) + (j 0).val; rw [(idx2 t).2.2.1]; omega
    | ⟨1, _⟩ => show win2_2.index t 1 * 512 + 1 * (j 1).val = 512 * (t.val % 3) + (j 1).val; rw [(idx2 t).2.2.2]; omega
  rw [e]
  idx_vars j
  show k2_pay1 (F := Ideal) (iblk2 V c 0 t) (iblk2 V c 1 t) (ix2 j0 j1)
    = (times (V c main_v1) (V c main_v4)) (ix2 ⟨_, row2_lt t j0⟩ ⟨_, col2_lt t j1⟩)
  rw [pay2_apply]
  simp only [blk2_x, blk2_w]
  rfl

/-- Which entries point `t`'s tile of the third launch holds. -/
theorem mem_blk2 (t : Fin cfg2.N) (i : S24576x1536.Idx) :
    i ∈ ((cfg2.win 2).blk t).view.set ↔ (512 * (t.val / 3) ≤ (i 0 : Nat) ∧ (i 0 : Nat) < 512 * (t.val / 3) + 512)
      ∧ 512 * (t.val % 3) ≤ (i 1 : Nat) ∧ (i 1 : Nat) < 512 * (t.val % 3) + 512 := by
  show i ∈ ((View.whole main_v5).slice (win2_2.rect t)).set ↔ _
  rw [View.set_slice_whole, Rect.mem_set_unit]
  refine (Fin.forall_fin_two (p := fun a => _ ≤ (i a : Nat) ∧ (i a : Nat) < _)).trans ?_
  show (win2_2.index t 0 * 512 ≤ (i 0 : Nat) ∧ (i 0 : Nat) < win2_2.index t 0 * 512 + 512)
    ∧ (win2_2.index t 1 * 512 ≤ (i 1 : Nat) ∧ (i 1 : Nat) < win2_2.index t 1 * 512 + 512) ↔ _
  rw [(idx2 t).2.2.1, (idx2 t).2.2.2]
  omega

/-- The third launch's tiles cover its result. -/
theorem cover2 (i : S24576x1536.Idx) :
    ∃ t : Fin cfg2.N, (cfg2.win 2).flush t = true ∧ i ∈ ((cfg2.win 2).blk t).view.set := by
  have h0 : (i 0 : Nat) < 24576 := (i 0).isLt
  have h1 : (i 1 : Nat) < 1536 := (i 1).isLt
  have hN : cfg2.N = 144 := N_2
  refine ⟨⟨(i 0 : Nat) / 512 * 3 + (i 1 : Nat) / 512, by omega⟩, flush2_2 _, ?_⟩
  rw [mem_blk2]
  dsimp only
  omega

/-- What the third launch leaves in its result. -/
theorem final2 (c : Dev nD) : (dat2 V c).arrAt 2 cfg2.N = times (V c main_v1) (V c main_v4) :=
  (dat2 V c).arrAt_eq_of_cover 2 (times (V c main_v1) (V c main_v4)) (fun t _ => flushed2_eq V c t) cover2

/-! ## The fourth launch, the key and value product, on arrays holding anything -/

/-- One tile of the fourth launch: its payload at an entry. -/
theorem pay3_apply (x0 : S512x512.Idx → EReal) (x1 : S512x512.Idx → EReal) (r : Fin 512) (l : Fin 512) :
    k3_pay1 (F := Ideal) x0 x1 (ix2 r l) = ∑ k : Fin 512, x0 (ix2 r k) * x1 (ix2 k l) := by
  pointwise [k3_pay1]

/-- The tile a point of the fourth launch writes is the payload of its two blocks. -/
theorem out3_eq (x0 : S512x512.Idx → EReal) (x1 : S512x512.Idx → EReal) :
    out3_2 (F := Ideal) x0 x1 = k3_pay1 (F := Ideal) x0 x1 := by
  unfold out3_2
  rw [View.canon_unit_zero hz, View.ld_unit_zero hz, View.ld_unit_zero hz]

/-- The fourth launch's block indices. -/
theorem idx3 : ∀ t : Fin grid3.N, (win3_0.index t 0 = t.val / 4 ∧ win3_0.index t 1 = 0)
    ∧ (win3_1.index t 0 = 0 ∧ win3_1.index t 1 = t.val % 4)
    ∧ (win3_2.index t 0 = t.val / 4 ∧ win3_2.index t 1 = t.val % 4) := by decide +kernel

/-- A row tile of the fourth launch lies in the array. -/
theorem row3_lt (t : Fin grid3.N) (r : Fin 512) : 512 * (t.val / 4) + r.val < 24576 := by
  have := t.isLt; have hN : grid3.N = 192 := N_3; omega

/-- A column tile of the fourth launch lies in the array. -/
theorem col3_lt (t : Fin grid3.N) (l : Fin 512) : 512 * (t.val % 4) + l.val < 2048 := by omega

/-- The left factor's block at point `t` of the fourth launch, read at an entry. -/
theorem blk3_x (c : Dev nD) (t : Fin grid3.N) (r : Fin 512) (k : Fin 512) :
    (iblk3 V c 0 t : S512x512.Idx → EReal) (ix2 r k) = (V c main_v3 : S24576x512.Idx → EReal) (ix2 ⟨_, row3_lt t r⟩ k) := by
  unfold iblk3
  rw [View.read_apply]
  show V c main_v3 _ = _
  congr 1
  funext a
  apply Fin.ext
  match a with
  | ⟨0, _⟩ => show win3_0.index t 0 * 512 + 1 * r.val = 512 * (t.val / 4) + r.val; rw [(idx3 t).1.1]; omega
  | ⟨1, _⟩ => show win3_0.index t 1 * 512 + 1 * k.val = k.val; rw [(idx3 t).1.2]; omega

/-- The weights' block at point `t` of the fourth launch. -/
theorem blk3_w (c : Dev nD) (t : Fin grid3.N) (k : Fin 512) (l : Fin 512) :
    (iblk3 V c 1 t : S512x512.Idx → EReal) (ix2 k l) = (V c main_v6 : S512x2048.Idx → EReal) (ix2 k ⟨_, col3_lt t l⟩) := by
  unfold iblk3
  rw [View.read_apply]
  show V c main_v6 _ = _
  congr 1
  funext a
  apply Fin.ext
  match a with
  | ⟨0, _⟩ => show win3_1.index t 0 * 512 + 1 * k.val = k.val; rw [(idx3 t).2.1.1]; omega
  | ⟨1, _⟩ => show win3_1.index t 1 * 512 + 1 * l.val = 512 * (t.val % 4) + l.val; rw [(idx3 t).2.1.2]; omega

/-- What point `t` of the fourth launch writes back is its tile of the whole. -/
theorem flushed3_eq (c : Dev nD) (t : Fin cfg3.N) :
    (dat3 V c).flushed 2 t = ((cfg3.win 2).blk t).view.read (Elt Ideal) (times (V c main_v3) (V c main_v6)) := by
  rw [show (dat3 V c).flushed 2 t = (dat3 V c).after 2 t from rfl, after3_2, out3_eq]
  refine funext fun (j : S512x512.Idx) => ?_
  rw [View.read_apply]
  have e : (((cfg3.win 2).blk t).view.emb j : S24576x2048.Idx) = ix2 ⟨_, row3_lt t (j 0)⟩ ⟨_, col3_lt t (j 1)⟩ := by
    funext a
    apply Fin.ext
    match a with
    | ⟨0, _⟩ => show win3_2.index t 0 * 512 + 1 * (j 0).val = 512 * (t.val / 4) + (j 0).val; rw [(idx3 t).2.2.1]; omega
    | ⟨1, _⟩ => show win3_2.index t 1 * 512 + 1 * (j 1).val = 512 * (t.val % 4) + (j 1).val; rw [(idx3 t).2.2.2]; omega
  rw [e]
  idx_vars j
  show k3_pay1 (F := Ideal) (iblk3 V c 0 t) (iblk3 V c 1 t) (ix2 j0 j1)
    = (times (V c main_v3) (V c main_v6)) (ix2 ⟨_, row3_lt t j0⟩ ⟨_, col3_lt t j1⟩)
  rw [pay3_apply]
  simp only [blk3_x, blk3_w]
  rfl

/-- Which entries point `t`'s tile of the fourth launch holds. -/
theorem mem_blk3 (t : Fin cfg3.N) (i : S24576x2048.Idx) :
    i ∈ ((cfg3.win 2).blk t).view.set ↔ (512 * (t.val / 4) ≤ (i 0 : Nat) ∧ (i 0 : Nat) < 512 * (t.val / 4) + 512)
      ∧ 512 * (t.val % 4) ≤ (i 1 : Nat) ∧ (i 1 : Nat) < 512 * (t.val % 4) + 512 := by
  show i ∈ ((View.whole main_v7).slice (win3_2.rect t)).set ↔ _
  rw [View.set_slice_whole, Rect.mem_set_unit]
  refine (Fin.forall_fin_two (p := fun a => _ ≤ (i a : Nat) ∧ (i a : Nat) < _)).trans ?_
  show (win3_2.index t 0 * 512 ≤ (i 0 : Nat) ∧ (i 0 : Nat) < win3_2.index t 0 * 512 + 512)
    ∧ (win3_2.index t 1 * 512 ≤ (i 1 : Nat) ∧ (i 1 : Nat) < win3_2.index t 1 * 512 + 512) ↔ _
  rw [(idx3 t).2.2.1, (idx3 t).2.2.2]
  omega

/-- The fourth launch's tiles cover its result. -/
theorem cover3 (i : S24576x2048.Idx) :
    ∃ t : Fin cfg3.N, (cfg3.win 2).flush t = true ∧ i ∈ ((cfg3.win 2).blk t).view.set := by
  have h0 : (i 0 : Nat) < 24576 := (i 0).isLt
  have h1 : (i 1 : Nat) < 2048 := (i 1).isLt
  have hN : cfg3.N = 192 := N_3
  refine ⟨⟨(i 0 : Nat) / 512 * 4 + (i 1 : Nat) / 512, by omega⟩, flush3_2 _, ?_⟩
  rw [mem_blk3]
  dsimp only
  omega

/-- What the fourth launch leaves in its result. -/
theorem final3 (c : Dev nD) : (dat3 V c).arrAt 2 cfg3.N = times (V c main_v3) (V c main_v6) :=
  (dat3 V c).arrAt_eq_of_cover 2 (times (V c main_v3) (V c main_v6)) (fun t _ => flushed3_eq V c t) cover3

/-! ## The four launches in a row -/

variable (m : (ℓ : Loc nD τ sig) → Buf (Elt Ideal) ℓ) (ρ : Dev nD → PrngReg)

/-- The queries. -/
abbrev Gq (c : Dev nD) : Buf (Elt Ideal) ((c : Thread nD τ).loc main_v5) :=
  times (latentNorm (columns 0 512 (by decide) (m ((c : Thread nD τ).loc main_arg0))) (m ((c : Thread nD τ).loc main_arg1)))
    (m ((c : Thread nD τ).loc main_arg3))

/-- The keys and values. -/
abbrev Gkv (c : Dev nD) : Buf (Elt Ideal) ((c : Thread nD τ).loc main_v7) :=
  times (latentNorm (columns 512 512 (by decide) (m ((c : Thread nD τ).loc main_arg0))) (m ((c : Thread nD τ).loc main_arg2)))
    (m ((c : Thread nD τ).loc main_arg4))

/-- The query gain the first launch reads is the argument laid out as one row. -/
theorem entry_gq (c : Dev nD) : (fun i : S512.Idx => (V1 m ρ c main_v0 : S1x512.Idx → EReal) (ix2 0 (i 0))) = m ((c : Thread nD τ).loc main_arg1) := by
  have h : StableHlo.after hostOps0 (W0 m ρ c) (Proc.devRef .tc main_v0) = shapeCast S1x512 (W0 m ρ c (Proc.devRef .tc main_arg1)) shapeCasts_S512_S1x512 := by
    after_results
    rfl
  funext i
  idx_vars i
  refine (congrFun h (ix2 0 i0)).trans (Eq.trans ?_ (congrFun (W0_args m ρ c main_arg1 (by decide)) (ix1 i0)))
  generalize W0 m ρ c (Proc.devRef .tc main_arg1) = u
  pointwise

/-- The key and value gain the second launch reads is the argument laid out as one row. -/
theorem entry_gkv (c : Dev nD) : (fun i : S512.Idx => (V3 m ρ c main_v2 : S1x512.Idx → EReal) (ix2 0 (i 0))) = m ((c : Thread nD τ).loc main_arg2) := by
  have h : StableHlo.after hostOps1 (W2 m ρ c) (Proc.devRef .tc main_v2) = shapeCast S1x512 (W2 m ρ c (Proc.devRef .tc main_arg2)) shapeCasts_S512_S1x512 := by
    after_results
    rfl
  funext i
  idx_vars i
  refine (congrFun h (ix2 0 i0)).trans (Eq.trans ?_ (congrFun (W2_args m ρ c main_arg2 (by decide)) (ix1 i0)))
  generalize W2 m ρ c (Proc.devRef .tc main_arg2) = u
  pointwise

/-- The query weights the third launch reads are the argument (the cast to bf16 changes nothing over the reals). -/
theorem entry_wq (c : Dev nD) : (V5 m ρ c main_v4 : S512x1536.Idx → EReal) = m ((c : Thread nD τ).loc main_arg3) := by
  have h : StableHlo.after hostOps2 (W4 m ρ c) (Proc.devRef .tc main_v4) = truncf (F := Ideal) .bf16 (W4 m ρ c (Proc.devRef .tc main_arg3)) bitsLt_bf16_f32 := by
    after_results
  exact h.trans (W4_args m ρ c main_arg3 (by decide))

/-- The key and value weights the fourth launch reads are the argument. -/
theorem entry_wkv (c : Dev nD) : (V7 m ρ c main_v6 : S512x2048.Idx → EReal) = m ((c : Thread nD τ).loc main_arg4) := by
  have h : StableHlo.after hostOps3 (W6 m ρ c) (Proc.devRef .tc main_v6) = truncf (F := Ideal) .bf16 (W6 m ρ c (Proc.devRef .tc main_arg4)) bitsLt_bf16_f32 := by
    after_results
  exact h.trans (W6_args m ρ c main_arg4 (by decide))

/-- The first launch leaves the normalized query latent. -/
theorem after_q (c : Dev nD) : W2 m ρ c (Proc.devRef .tc main_v1)
    = latentNorm (columns 0 512 (by decide) (m ((c : Thread nD τ).loc main_arg0))) (m ((c : Thread nD τ).loc main_arg1)) := by
  refine (W2_arr m ρ c 2).trans ((final0 (V1 m ρ) c).trans ?_)
  rw [entry_gq, show V1 m ρ c main_arg0 = m ((c : Thread nD τ).loc main_arg0) from W1_args m ρ c main_arg0 (by decide)]

/-- The second launch leaves the normalized key and value latent. -/
theorem after_kv (c : Dev nD) : W4 m ρ c (Proc.devRef .tc main_v3)
    = latentNorm (columns 512 512 (by decide) (m ((c : Thread nD τ).loc main_arg0))) (m ((c : Thread nD τ).loc main_arg2)) := by
  refine (W4_arr m ρ c 2).trans ((final1 (V3 m ρ) c).trans ?_)
  rw [entry_gkv, show V3 m ρ c main_arg0 = m ((c : Thread nD τ).loc main_arg0) from W3_args m ρ c main_arg0 (by decide)]

/-- What the first launch wrote is still there at the third. -/
theorem entry_q (c : Dev nD) : V5 m ρ c main_v1 = W2 m ρ c (Proc.devRef .tc main_v1) :=
  (W5_of m ρ c main_v1 (by decide)).trans ((W4_of m ρ c main_v1 (by decide)).trans (W3_of m ρ c main_v1 (by decide)))

/-- What the second launch wrote is still there at the fourth. -/
theorem entry_kv (c : Dev nD) : V7 m ρ c main_v3 = W4 m ρ c (Proc.devRef .tc main_v3) :=
  (W7_of m ρ c main_v3 (by decide)).trans ((W6_of m ρ c main_v3 (by decide)).trans (W5_of m ρ c main_v3 (by decide)))

/-- The queries at the end of the run. -/
theorem last_q (c : Dev nD) : W8 m ρ c (Proc.devRef .tc main_v5) = Gq m c := by
  refine (W8_of m ρ c main_v5 (by decide)).trans ((W7_of m ρ c main_v5 (by decide)).trans ((W6_arr m ρ c 2).trans ((final2 (V5 m ρ) c).trans ?_)))
  rw [entry_q, after_q, entry_wq]

/-- The keys and values at the end of the run. -/
theorem last_kv (c : Dev nD) : W8 m ρ c (Proc.devRef .tc main_v7) = Gkv m c := by
  refine (W8_arr m ρ c 2).trans ((final3 (V7 m ρ) c).trans ?_)
  rw [entry_kv, after_kv, entry_wkv]

open Idealize.ShloMosaic.Rounds Idealize.SL Idealize.SL.RA Idealize.SL.BI Idealize.SL.BI.BIBase Idealize.SL.BI.Laws Idealize.SL.ProofMode
open scoped Idealize.SL.BI

set_option backward.isDefEq.respectTransparency.types false in
/-- The run, read: every buffer outside the launches ends at the last boundary's contents. -/
theorem run_all : θ_run defs (onTc (τ := τ) (main (F := Ideal))) ⟨m, fun _ => 0, ρ⟩ (fun r =>
      ∀ c : Dev nD, ∀ b ∈ Pipeline.ucRefs τ sig, r.2.mem (c, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c => h c)

/-- The run, read: the queries and the keys and values are products of the normed latents, and the arguments are unchanged. -/
theorem run : θ_run defs (onTc (τ := τ) (main (F := Ideal))) ⟨m, fun _ => 0, ρ⟩ fun r => ∀ c : Dev nD,
      r.2.mem ((c : Thread nD τ).loc main_v5) = Gq m c
      ∧ r.2.mem ((c : Thread nD τ).loc main_v7) = Gkv m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(h c _ (mem_uc main_v5 (by decide))).trans (last_q m ρ c),
     (h c _ (mem_uc main_v7 (by decide))).trans (last_kv m ρ c),
     (h c _ (mem_uc main_arg0 (by decide))).trans (W8_args m ρ c main_arg0 (by decide)),
     (h c _ (mem_uc main_arg1 (by decide))).trans (W8_args m ρ c main_arg1 (by decide)),
     (h c _ (mem_uc main_arg2 (by decide))).trans (W8_args m ρ c main_arg2 (by decide)),
     (h c _ (mem_uc main_arg3 (by decide))).trans (W8_args m ρ c main_arg3 (by decide)),
     (h c _ (mem_uc main_arg4 (by decide))).trans (W8_args m ρ c main_arg4 (by decide))⟩) (run_all m ρ)

end Cert.Kernel8Ideal.Latents

namespace Cert.Proof.Latents

open Cert.Proof.Products

/-- The kernel runs and leaves its arguments. -/
theorem frame_kernel : Cert.quiescent_Kernel8 := fun m ρ _ => Cert.Kernel8.Gen.frame m ρ

/-- So does the idealized kernel. -/
theorem frame_ideal : Cert.quiescent_Kernel8Ideal := fun m ρ _ => Cert.Kernel8Ideal.Gen.frame m ρ

/-- The reference leaves its arguments; it has no semaphore. -/
theorem frame_reference : Cert.quiescent_Reference8Ideal := fun m ρ _ =>
  (θ_run Cert.Reference8Ideal.defs _ _).mono
    (fun r h => ⟨fun c => (h c).2.2, sem_eq_zero_of_no_sems (by decide) r.2⟩)
    (Cert.Reference8Ideal.Value.run (F := Ideal) m ρ)

/-- Idealization rewrote nothing. -/
theorem preserves : Cert.preserves_Kernel8_Kernel8Ideal := trivial

/-- Kernel and reference end at the same queries and the same keys and values. -/
theorem algebraic : Cert.algebraic_Kernel8Ideal_Reference8Ideal := fun m ρ m' ρ' _ hag =>
  ⟨fun c => Cert.Kernel8Ideal.Latents.Gq m c, fun c => Cert.Kernel8Ideal.Latents.Gkv m c, Cert.Kernel8Ideal.Latents.run m ρ,
    (θ_run Cert.Reference8Ideal.defs _ _).mono
      (fun _ h c => ⟨(h c).1.trans ((Cert.Reference8Ideal.Latents.q_eq _ _).trans
          ((congrArg (fun a => times a _) (Cert.Reference8Ideal.Latents.normq_eq _ _)).trans
            (by rw [(hag c).1, (hag c).2.1, (hag c).2.2.2.1]))),
        (h c).2.1.trans ((Cert.Reference8Ideal.Latents.kv_eq _ _).trans
          ((congrArg (fun a => times a _) (Cert.Reference8Ideal.Latents.normkv_eq _ _)).trans
            (by rw [(hag c).1, (hag c).2.2.1, (hag c).2.2.2.2]))),
        (h c).2.2⟩)
      (Cert.Reference8Ideal.Value.run (F := Ideal) m' ρ')⟩

end Cert.Proof.Latents

end
-- ==== Proof.Decay.lean ====
/-
  The low-rank part of the recurrence's decay, `tanh(xw @ w1[d]) @ w2[d]` for both directions `d`. The kernel pads the
  rank from 96 to 128 with zeros, makes the two low products in one launch, and each high product in a launch that reads
  its half of the columns; both programs are read over the extended reals.
-/
module

public import proofs.«01_k».proof.Defs
public import proofs.«01_k».proof.Proof.Products
public import proofs.«01_k».proof.Proof.Gen.Kernel9.Frame
public import proofs.«01_k».proof.Proof.Gen.Kernel9Ideal.Frame
public import proofs.«01_k».proof.Proof.Gen.Reference9Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Reference9Ideal.Decay

open Cert.Reference9Ideal Cert.Reference9Ideal.Gen Cert.Proof.Products

/-- The reference's low factor of direction 0 is that matrix of the stack. -/
theorem w1_0 (w : S2x2048x96.Idx → EReal) : (shapeCast S2048x96 (extractStridedSlice S1x2048x96 ![0, 0, 0] w slices_S2x2048x96_S1x2048x96_0_0_0) shapeCasts_S1x2048x96_S2048x96 : S2048x96.Idx → EReal) = page 0 w := by
  funext j
  idx_vars j
  pointwise [page]

/-- The reference's high factor of direction 0 is that matrix of the stack. -/
theorem w2_0 (w : S2x96x2048.Idx → EReal) : (shapeCast S96x2048 (extractStridedSlice S1x96x2048 ![0, 0, 0] w slices_S2x96x2048_S1x96x2048_0_0_0) shapeCasts_S1x96x2048_S96x2048 : S96x2048.Idx → EReal) = page 0 w := by
  funext j
  idx_vars j
  pointwise [page]

/-- The reference's low factor of direction 1 is that matrix of the stack. -/
theorem w1_1 (w : S2x2048x96.Idx → EReal) : (shapeCast S2048x96 (extractStridedSlice S1x2048x96 ![1, 0, 0] w slices_S2x2048x96_S1x2048x96_1_0_0) shapeCasts_S1x2048x96_S2048x96 : S2048x96.Idx → EReal) = page 1 w := by
  funext j
  idx_vars j
  pointwise [page]

/-- The reference's high factor of direction 1 is that matrix of the stack. -/
theorem w2_1 (w : S2x96x2048.Idx → EReal) : (shapeCast S96x2048 (extractStridedSlice S1x96x2048 ![1, 0, 0] w slices_S2x96x2048_S1x96x2048_1_0_0) shapeCasts_S1x96x2048_S96x2048 : S96x2048.Idx → EReal) = page 1 w := by
  funext j
  idx_vars j
  pointwise [page]

/-- The reference's hidden activations. -/
theorem low_eq (x : S24576x2048.Idx → EReal) (u : S2048x96.Idx → EReal) :
    (Host.tanh (Host.dotGeneral (F := Ideal) (φ₁ := .f32) (φ₂ := .f32) dot_S24576x2048_S2048x96_S24576x96_1_0_0_1_n_n none (extf (F := Ideal) (φ := .bf16) .f32 x bitsLt_bf16_f32) u) : FVec Ideal S24576x96 .f32)
      = fun i => Ideal.tanh (times x u i) := by
  funext j
  idx_vars j
  pointwise [times]

/-- The reference's second product. -/
theorem up_eq (a : S24576x96.Idx → EReal) (v : S96x2048.Idx → EReal) :
    (Host.dotGeneral (F := Ideal) (φ₁ := .f32) (φ₂ := .f32) dot_S24576x96_S96x2048_S24576x2048_1_0_0_1_n_n none a v : FVec Ideal S24576x2048 .f32)
      = times a v := by
  funext j
  idx_vars j
  pointwise [times]

end Cert.Reference9Ideal.Decay

namespace Cert.Kernel9Ideal.Decay

open Cert.Kernel9Ideal Cert.Kernel9Ideal.Gen Cert.Proof.Products

/-- The zero offset. -/
theorem hz : (![0, 0] : Fin 2 → Nat) = fun _ => 0 := funext fun a => by fin_cases a <;> rfl

variable (V : (c : Dev nD) → (b : Ref sig .tc) → Buf (Elt Ideal) ((c : Thread nD τ).loc b))

/-! ## The first launch, the low products of both directions side by side, on arrays holding anything -/

/-- One tile of the first launch: its payload at an entry. -/
theorem pay0_apply (x0 : S512x2048.Idx → EReal) (x1 : S2048x256.Idx → EReal) (r : Fin 512) (l : Fin 256) :
    k0_pay1 (F := Ideal) x0 x1 (ix2 r l) = Ideal.tanh (∑ k : Fin 2048, x0 (ix2 r k) * x1 (ix2 k l)) := by
  pointwise [k0_pay1]

/-- The tile a point of the first launch writes is the payload of its two blocks. -/
theorem out0_eq (x0 : S512x2048.Idx → EReal) (x1 : S2048x256.Idx → EReal) :
    out0_2 (F := Ideal) x0 x1 = k0_pay1 (F := Ideal) x0 x1 := by
  unfold out0_2
  rw [View.canon_unit_zero hz, View.ld_unit_zero hz, View.ld_unit_zero hz]

/-- The first launch's block indices. -/
theorem idx0 : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0) := by decide +kernel

/-- A row tile of the first launch lies in the array. -/
theorem row0_lt (t : Fin grid0.N) (r : Fin 512) : 512 * t.val + r.val < 24576 := by
  have := t.isLt; have hN : grid0.N = 48 := N_0; omega

/-- The left factor's block at point `t` of the first launch, read at an entry. -/
theorem blk0_x (c : Dev nD) (t : Fin grid0.N) (r : Fin 512) (k : Fin 2048) :
    (iblk0 V c 0 t : S512x2048.Idx → EReal) (ix2 r k) = (V c main_arg0 : S24576x2048.Idx → EReal) (ix2 ⟨_, row0_lt t r⟩ k) := by
  unfold iblk0
  rw [View.read_apply]
  show V c main_arg0 _ = _
  congr 1
  funext a
  apply Fin.ext
  match a with
  | ⟨0, _⟩ => show win0_0.index t 0 * 512 + 1 * r.val = 512 * t.val + r.val; rw [(idx0 t).1.1]; omega
  | ⟨1, _⟩ => show win0_0.index t 1 * 2048 + 1 * k.val = k.val; rw [(idx0 t).1.2]; omega

/-- The weights' block at point `t` of the first launch. -/
theorem blk0_w (c : Dev nD) (t : Fin grid0.N) (k : Fin 2048) (l : Fin 256) :
    (iblk0 V c 1 t : S2048x256.Idx → EReal) (ix2 k l) = (V c main_v7 : S2048x256.Idx → EReal) (ix2 k l) := by
  unfold iblk0
  rw [View.read_apply]
  show V c main_v7 _ = _
  congr 1
  funext a
  apply Fin.ext
  match a with
  | ⟨0, _⟩ => show win0_1.index t 0 * 2048 + 1 * k.val = k.val; rw [(idx0 t).2.1.1]; omega
  | ⟨1, _⟩ => show win0_1.index t 1 * 256 + 1 * l.val = l.val; rw [(idx0 t).2.1.2]; omega

/-- What point `t` of the first launch writes back is its tile of the whole. -/
theorem flushed0_eq (c : Dev nD) (t : Fin cfg0.N) :
    (dat0 V c).flushed 2 t = ((cfg0.win 2).blk t).view.read (Elt Ideal) (fun j => Ideal.tanh (times (V c main_arg0) (V c main_v7) j)) := by
  rw [show (dat0 V c).flushed 2 t = (dat0 V c).after 2 t from rfl, after0_2, out0_eq]
  refine funext fun (j : S512x256.Idx) => ?_
  rw [View.read_apply]
  have e : (((cfg0.win 2).blk t).view.emb j : S24576x256.Idx) = ix2 ⟨_, row0_lt t (j 0)⟩ (j 1) := by
    funext a
    apply Fin.ext
    match a with
    | ⟨0, _⟩ => show win0_2.index t 0 * 512 + 1 * (j 0).val = 512 * t.val + (j 0).val; rw [(idx0 t).2.2.1]; omega
    | ⟨1, _⟩ => show win0_2.index t 1 * 256 + 1 * (j 1).val = (j 1).val; rw [(idx0 t).2.2.2]; omega
  rw [e]
  idx_vars j
  show k0_pay1 (F := Ideal) (iblk0 V c 0 t) (iblk0 V c 1 t) (ix2 j0 j1)
    = (fun j => Ideal.tanh (times (V c main_arg0) (V c main_v7) j)) (ix2 ⟨_, row0_lt t j0⟩ j1)
  rw [pay0_apply]
  simp only [blk0_x, blk0_w]
  rfl

/-- Which entries point `t`'s tile of the first launch holds. -/
theorem mem_blk0 (t : Fin cfg0.N) (i : S24576x256.Idx) :
    i ∈ ((cfg0.win 2).blk t).view.set ↔ (512 * t.val ≤ (i 0 : Nat) ∧ (i 0 : Nat) < 512 * t.val + 512)
      ∧ 0 ≤ (i 1 : Nat) ∧ (i 1 : Nat) < 256 := by
  show i ∈ ((View.whole main_v9).slice (win0_2.rect t)).set ↔ _
  rw [View.set_slice_whole, Rect.mem_set_unit]
  refine (Fin.forall_fin_two (p := fun a => _ ≤ (i a : Nat) ∧ (i a : Nat) < _)).trans ?_
  show (win0_2.index t 0 * 512 ≤ (i 0 : Nat) ∧ (i 0 : Nat) < win0_2.index t 0 * 512 + 512)
    ∧ (win0_2.index t 1 * 256 ≤ (i 1 : Nat) ∧ (i 1 : Nat) < win0_2.index t 1 * 256 + 256) ↔ _
  rw [(idx0 t).2.2.1, (idx0 t).2.2.2]
  omega

/-- The first launch's tiles cover its result. -/
theorem cover0 (i : S24576x256.Idx) :
    ∃ t : Fin cfg0.N, (cfg0.win 2).flush t = true ∧ i ∈ ((cfg0.win 2).blk t).view.set := by
  have h0 : (i 0 : Nat) < 24576 := (i 0).isLt
  have h1 : (i 1 : Nat) < 256 := (i 1).isLt
  have hN : cfg0.N = 48 := N_0
  refine ⟨⟨(i 0 : Nat) / 512, by omega⟩, flush0_2 _, ?_⟩
  rw [mem_blk0]
  dsimp only
  omega

/-- What the first launch leaves in its result. -/
theorem final0 (c : Dev nD) : (dat0 V c).arrAt 2 cfg0.N = fun j => Ideal.tanh (times (V c main_arg0) (V c main_v7) j) :=
  (dat0 V c).arrAt_eq_of_cover 2 (fun j => Ideal.tanh (times (V c main_arg0) (V c main_v7) j)) (fun t _ => flushed0_eq V c t) cover0

/-! ## The second launch, the high product of direction 0, on arrays holding anything -/

/-- One tile of the second launch: its payload at an entry. -/
theorem pay1_apply (x0 : S512x128.Idx → EReal) (x1 : S128x512.Idx → EReal) (r : Fin 512) (l : Fin 512) :
    k1_pay1 (F := Ideal) x0 x1 (ix2 r l) = ∑ k : Fin 128, x0 (ix2 r k) * x1 (ix2 k l) := by
  pointwise [k1_pay1]

/-- The tile a point of the second launch writes is the payload of its two blocks. -/
theorem out1_eq (x0 : S512x128.Idx → EReal) (x1 : S128x512.Idx → EReal) :
    out1_2 (F := Ideal) x0 x1 = k1_pay1 (F := Ideal) x0 x1 := by
  unfold out1_2
  rw [View.canon_unit_zero hz, View.ld_unit_zero hz, View.ld_unit_zero hz]

/-- The second launch's block indices. -/
theorem idx1 : ∀ t : Fin grid1.N, (win1_0.index t 0 = t.val / 4 ∧ win1_0.index t 1 = 0)
    ∧ (win1_1.index t 0 = 0 ∧ win1_1.index t 1 = t.val % 4)
    ∧ (win1_2.index t 0 = t.val / 4 ∧ win1_2.index t 1 = t.val % 4) := by decide +kernel

/-- A row tile of the second launch lies in the array. -/
theorem row1_lt (t : Fin grid1.N) (r : Fin 512) : 512 * (t.val / 4) + r.val < 24576 := by
  have := t.isLt; have hN : grid1.N = 192 := N_1; omega

/-- A column tile of the second launch lies in the array. -/
theorem col1_lt (t : Fin grid1.N) (l : Fin 512) : 512 * (t.val % 4) + l.val < 2048 := by omega

/-- The left factor's block at point `t` of the second launch, read at an entry. -/
theorem blk1_x (c : Dev nD) (t : Fin grid1.N) (r : Fin 512) (k : Fin 128) :
    (iblk1 V c 0 t : S512x128.Idx → EReal) (ix2 r k) = (V c main_v9 : S24576x256.Idx → EReal) (ix2 ⟨_, row1_lt t r⟩ ⟨0 + k.val, by omega⟩) := by
  unfold iblk1
  rw [View.read_apply]
  show V c main_v9 _ = _
  congr 1
  funext a
  apply Fin.ext
  match a with
  | ⟨0, _⟩ => show win1_0.index t 0 * 512 + 1 * r.val = 512 * (t.val / 4) + r.val; rw [(idx1 t).1.1]; omega
  | ⟨1, _⟩ => show win1_0.index t 1 * 128 + 1 * k.val = 0 + k.val; rw [(idx1 t).1.2]; omega

/-- The weights' block at point `t` of the second launch. -/
theorem blk1_w (c : Dev nD) (t : Fin grid1.N) (k : Fin 128) (l : Fin 512) :
    (iblk1 V c 1 t : S128x512.Idx → EReal) (ix2 k l) = (V c main_v11 : S128x2048.Idx → EReal) (ix2 k ⟨_, col1_lt t l⟩) := by
  unfold iblk1
  rw [View.read_apply]
  show V c main_v11 _ = _
  congr 1
  funext a
  apply Fin.ext
  match a with
  | ⟨0, _⟩ => show win1_1.index t 0 * 128 + 1 * k.val = k.val; rw [(idx1 t).2.1.1]; omega
  | ⟨1, _⟩ => show win1_1.index t 1 * 512 + 1 * l.val = 512 * (t.val % 4) + l.val; rw [(idx1 t).2.1.2]; omega

/-- What point `t` of the second launch writes back is its tile of the whole. -/
theorem flushed1_eq (c : Dev nD) (t : Fin cfg1.N) :
    (dat1 V c).flushed 2 t = ((cfg1.win 2).blk t).view.read (Elt Ideal) (times (columns 0 128 (by decide) (V c main_v9)) (V c main_v11)) := by
  rw [show (dat1 V c).flushed 2 t = (dat1 V c).after 2 t from rfl, after1_2, out1_eq]
  refine funext fun (j : S512x512.Idx) => ?_
  rw [View.read_apply]
  have e : (((cfg1.win 2).blk t).view.emb j : S24576x2048.Idx) = ix2 ⟨_, row1_lt t (j 0)⟩ ⟨_, col1_lt t (j 1)⟩ := by
    funext a
    apply Fin.ext
    match a with
    | ⟨0, _⟩ => show win1_2.index t 0 * 512 + 1 * (j 0).val = 512 * (t.val / 4) + (j 0).val; rw [(idx1 t).2.2.1]; omega
    | ⟨1, _⟩ => show win1_2.index t 1 * 512 + 1 * (j 1).val = 512 * (t.val % 4) + (j 1).val; rw [(idx1 t).2.2.2]; omega
  rw [e]
  idx_vars j
  show k1_pay1 (F := Ideal) (iblk1 V c 0 t) (iblk1 V c 1 t) (ix2 j0 j1)
    = (times (columns 0 128 (by decide) (V c main_v9)) (V c main_v11)) (ix2 ⟨_, row1_lt t j0⟩ ⟨_, col1_lt t j1⟩)
  rw [pay1_apply]
  simp only [blk1_x, blk1_w]
  rfl

/-- Which entries point `t`'s tile of the second launch holds. -/
theorem mem_blk1 (t : Fin cfg1.N) (i : S24576x2048.Idx) :
    i ∈ ((cfg1.win 2).blk t).view.set ↔ (512 * (t.val / 4) ≤ (i 0 : Nat) ∧ (i 0 : Nat) < 512 * (t.val / 4) + 512)
      ∧ 512 * (t.val % 4) ≤ (i 1 : Nat) ∧ (i 1 : Nat) < 512 * (t.val % 4) + 512 := by
  show i ∈ ((View.whole main_v12).slice (win1_2.rect t)).set ↔ _
  rw [View.set_slice_whole, Rect.mem_set_unit]
  refine (Fin.forall_fin_two (p := fun a => _ ≤ (i a : Nat) ∧ (i a : Nat) < _)).trans ?_
  show (win1_2.index t 0 * 512 ≤ (i 0 : Nat) ∧ (i 0 : Nat) < win1_2.index t 0 * 512 + 512)
    ∧ (win1_2.index t 1 * 512 ≤ (i 1 : Nat) ∧ (i 1 : Nat) < win1_2.index t 1 * 512 + 512) ↔ _
  rw [(idx1 t).2.2.1, (idx1 t).2.2.2]
  omega

/-- The second launch's tiles cover its result. -/
theorem cover1 (i : S24576x2048.Idx) :
    ∃ t : Fin cfg1.N, (cfg1.win 2).flush t = true ∧ i ∈ ((cfg1.win 2).blk t).view.set := by
  have h0 : (i 0 : Nat) < 24576 := (i 0).isLt
  have h1 : (i 1 : Nat) < 2048 := (i 1).isLt
  have hN : cfg1.N = 192 := N_1
  refine ⟨⟨(i 0 : Nat) / 512 * 4 + (i 1 : Nat) / 512, by omega⟩, flush1_2 _, ?_⟩
  rw [mem_blk1]
  dsimp only
  omega

/-- What the second launch leaves in its result. -/
theorem final1 (c : Dev nD) : (dat1 V c).arrAt 2 cfg1.N = times (columns 0 128 (by decide) (V c main_v9)) (V c main_v11) :=
  (dat1 V c).arrAt_eq_of_cover 2 (times (columns 0 128 (by decide) (V c main_v9)) (V c main_v11)) (fun t _ => flushed1_eq V c t) cover1

/-! ## The third launch, the high product of direction 1, on arrays holding anything -/

/-- One tile of the third launch: its payload at an entry. -/
theorem pay2_apply (x0 : S512x128.Idx → EReal) (x1 : S128x512.Idx → EReal) (r : Fin 512) (l : Fin 512) :
    k2_pay1 (F := Ideal) x0 x1 (ix2 r l) = ∑ k : Fin 128, x0 (ix2 r k) * x1 (ix2 k l) := by
  pointwise [k2_pay1]

/-- The tile a point of the third launch writes is the payload of its two blocks. -/
theorem out2_eq (x0 : S512x128.Idx → EReal) (x1 : S128x512.Idx → EReal) :
    out2_2 (F := Ideal) x0 x1 = k2_pay1 (F := Ideal) x0 x1 := by
  unfold out2_2
  rw [View.canon_unit_zero hz, View.ld_unit_zero hz, View.ld_unit_zero hz]

/-- The third launch's block indices. -/
theorem idx2 : ∀ t : Fin grid2.N, (win2_0.index t 0 = t.val / 4 ∧ win2_0.index t 1 = 1)
    ∧ (win2_1.index t 0 = 0 ∧ win2_1.index t 1 = t.val % 4)
    ∧ (win2_2.index t 0 = t.val / 4 ∧ win2_2.index t 1 = t.val % 4) := by decide +kernel

/-- A row tile of the third launch lies in the array. -/
theorem row2_lt (t : Fin grid2.N) (r : Fin 512) : 512 * (t.val / 4) + r.val < 24576 := by
  have := t.isLt; have hN : grid2.N = 192 := N_2; omega

/-- A column tile of the third launch lies in the array. -/
theorem col2_lt (t : Fin grid2.N) (l : Fin 512) : 512 * (t.val % 4) + l.val < 2048 := by omega

/-- The left factor's block at point `t` of the third launch, read at an entry. -/
theorem blk2_x (c : Dev nD) (t : Fin grid2.N) (r : Fin 512) (k : Fin 128) :
    (iblk2 V c 0 t : S512x128.Idx → EReal) (ix2 r k) = (V c main_v9 : S24576x256.Idx → EReal) (ix2 ⟨_, row2_lt t r⟩ ⟨128 + k.val, by omega⟩) := by
  unfold iblk2
  rw [View.read_apply]
  show V c main_v9 _ = _
  congr 1
  funext a
  apply Fin.ext
  match a with
  | ⟨0, _⟩ => show win2_0.index t 0 * 512 + 1 * r.val = 512 * (t.val / 4) + r.val; rw [(idx2 t).1.1]; omega
  | ⟨1, _⟩ => show win2_0.index t 1 * 128 + 1 * k.val = 128 + k.val; rw [(idx2 t).1.2]; omega

/-- The weights' block at point `t` of the third launch. -/
theorem blk2_w (c : Dev nD) (t : Fin grid2.N) (k : Fin 128) (l : Fin 512) :
    (iblk2 V c 1 t : S128x512.Idx → EReal) (ix2 k l) = (V c main_v14 : S128x2048.Idx → EReal) (ix2 k ⟨_, col2_lt t l⟩) := by
  unfold iblk2
  rw [View.read_apply]
  show V c main_v14 _ = _
  congr 1
  funext a
  apply Fin.ext
  match a with
  | ⟨0, _⟩ => show win2_1.index t 0 * 128 + 1 * k.val = k.val; rw [(idx2 t).2.1.1]; omega
  | ⟨1, _⟩ => show win2_1.index t 1 * 512 + 1 * l.val = 512 * (t.val % 4) + l.val; rw [(idx2 t).2.1.2]; omega

/-- What point `t` of the third launch writes back is its tile of the whole. -/
theorem flushed2_eq (c : Dev nD) (t : Fin cfg2.N) :
    (dat2 V c).flushed 2 t = ((cfg2.win 2).blk t).view.read (Elt Ideal) (times (columns 128 128 (by decide) (V c main_v9)) (V c main_v14)) := by
  rw [show (dat2 V c).flushed 2 t = (dat2 V c).after 2 t from rfl, after2_2, out2_eq]
  refine funext fun (j : S512x512.Idx) => ?_
  rw [View.read_apply]
  have e : (((cfg2.win 2).blk t).view.emb j : S24576x2048.Idx) = ix2 ⟨_, row2_lt t (j 0)⟩ ⟨_, col2_lt t (j 1)⟩ := by
    funext a
    apply Fin.ext
    match a with
    | ⟨0, _⟩ => show win2_2.index t 0 * 512 + 1 * (j 0).val = 512 * (t.val / 4) + (j 0).val; rw [(idx2 t).2.2.1]; omega
    | ⟨1, _⟩ => show win2_2.index t 1 * 512 + 1 * (j 1).val = 512 * (t.val % 4) + (j 1).val; rw [(idx2 t).2.2.2]; omega
  rw [e]
  idx_vars j
  show k2_pay1 (F := Ideal) (iblk2 V c 0 t) (iblk2 V c 1 t) (ix2 j0 j1)
    = (times (columns 128 128 (by decide) (V c main_v9)) (V c main_v14)) (ix2 ⟨_, row2_lt t j0⟩ ⟨_, col2_lt t j1⟩)
  rw [pay2_apply]
  simp only [blk2_x, blk2_w]
  rfl

/-- Which entries point `t`'s tile of the third launch holds. -/
theorem mem_blk2 (t : Fin cfg2.N) (i : S24576x2048.Idx) :
    i ∈ ((cfg2.win 2).blk t).view.set ↔ (512 * (t.val / 4) ≤ (i 0 : Nat) ∧ (i 0 : Nat) < 512 * (t.val / 4) + 512)
      ∧ 512 * (t.val % 4) ≤ (i 1 : Nat) ∧ (i 1 : Nat) < 512 * (t.val % 4) + 512 := by
  show i ∈ ((View.whole main_v15).slice (win2_2.rect t)).set ↔ _
  rw [View.set_slice_whole, Rect.mem_set_unit]
  refine (Fin.forall_fin_two (p := fun a => _ ≤ (i a : Nat) ∧ (i a : Nat) < _)).trans ?_
  show (win2_2.index t 0 * 512 ≤ (i 0 : Nat) ∧ (i 0 : Nat) < win2_2.index t 0 * 512 + 512)
    ∧ (win2_2.index t 1 * 512 ≤ (i 1 : Nat) ∧ (i 1 : Nat) < win2_2.index t 1 * 512 + 512) ↔ _
  rw [(idx2 t).2.2.1, (idx2 t).2.2.2]
  omega

/-- The third launch's tiles cover its result. -/
theorem cover2 (i : S24576x2048.Idx) :
    ∃ t : Fin cfg2.N, (cfg2.win 2).flush t = true ∧ i ∈ ((cfg2.win 2).blk t).view.set := by
  have h0 : (i 0 : Nat) < 24576 := (i 0).isLt
  have h1 : (i 1 : Nat) < 2048 := (i 1).isLt
  have hN : cfg2.N = 192 := N_2
  refine ⟨⟨(i 0 : Nat) / 512 * 4 + (i 1 : Nat) / 512, by omega⟩, flush2_2 _, ?_⟩
  rw [mem_blk2]
  dsimp only
  omega

/-- What the third launch leaves in its result. -/
theorem final2 (c : Dev nD) : (dat2 V c).arrAt 2 cfg2.N = times (columns 128 128 (by decide) (V c main_v9)) (V c main_v14) :=
  (dat2 V c).arrAt_eq_of_cover 2 (times (columns 128 128 (by decide) (V c main_v9)) (V c main_v14)) (fun t _ => flushed2_eq V c t) cover2

/-! ## The padded weights -/

/-- The low factors with 32 columns of zeros each. -/
abbrev w1pad (w : S2x2048x96.Idx → EReal) : S2x2048x128.Idx → EReal :=
  pad S2x2048x128 ![0, 0, 0] ![0, 0, 32] ![0, 0, 0] w (sitofp (F := Ideal) .f32 (constantI S_ 32 0#32)) pads_S2x2048x96_S2x2048x128_000_000_0320 h_S_

/-- The first 96 columns of a padded low factor are the factor's. -/
theorem w1pad_apply (w : S2x2048x96.Idx → EReal) (d : Fin 2) (k : Fin 2048) (r : Fin 96) :
    w1pad w (ix3 d k ⟨r.val, by omega⟩) = w (ix3 d k r) := by
  pointwise

/-- The high factors with 32 rows of zeros each. -/
abbrev w2pad (w : S2x96x2048.Idx → EReal) : S2x128x2048.Idx → EReal :=
  pad S2x128x2048 ![0, 0, 0] ![0, 32, 0] ![0, 0, 0] w (sitofp (F := Ideal) .f32 (constantI S_ 32 0#32)) pads_S2x96x2048_S2x128x2048_000_0320_000 h_S_

/-- The zero the padding is made of. -/
theorem zero_word : (FloatOps.sitofp (F := Ideal) FTy.f32 (0#32) : EReal) = 0 := by
  show (((0#32 : BitVec 32).toInt : ℝ) : EReal) = 0
  simp

/-- A padded high factor: the factor's rows, then zeros. -/
theorem w2pad_apply (w : S2x96x2048.Idx → EReal) (d : Fin 2) (r : Fin 128) (l : Fin 2048) :
    w2pad w (ix3 d r l) = if h : r.val < 96 then w (ix3 d ⟨r.val, h⟩ l) else 0 := by
  pointwise
  rw [zero_word]

/-- Two padded low factors side by side. -/
abbrev side (p : S2x2048x128.Idx → EReal) : S2048x256.Idx → EReal :=
  (truncf (F := Ideal) (φ := .f32) .bf16 (concatenate S2048x256 1 [⟨S2048x128, shapeCast S2048x128 (extractStridedSlice S1x2048x128 ![0, 0, 0] p slices_S2x2048x128_S1x2048x128_0_0_0) shapeCasts_S1x2048x128_S2048x128⟩,
      ⟨S2048x128, shapeCast S2048x128 (extractStridedSlice S1x2048x128 ![1, 0, 0] p slices_S2x2048x128_S1x2048x128_1_0_0) shapeCasts_S1x2048x128_S2048x128⟩] concatenates_S2048x128_S2048x128_S2048x256_d1) bitsLt_bf16_f32 : S2048x256.Idx → EReal)

/-- Of the factors side by side, columns 0 to 127 are direction 0's. -/
theorem side_0 (p : S2x2048x128.Idx → EReal) (k : Fin 2048) (r : Fin 128) :
    side p (ix2 k ⟨0 + r.val, by omega⟩) = p (ix3 0 k r) := by
  pointwise

/-- Direction 0's high factor, cut out of the padded stack. -/
abbrev high0 (p : S2x128x2048.Idx → EReal) : S128x2048.Idx → EReal :=
  shapeCast S128x2048 (extractStridedSlice S1x128x2048 ![0, 0, 0] p slices_S2x128x2048_S1x128x2048_0_0_0) shapeCasts_S1x128x2048_S128x2048

/-- What it holds. -/
theorem high0_apply (p : S2x128x2048.Idx → EReal) (r : Fin 128) (l : Fin 2048) :
    high0 p (ix2 r l) = p (ix3 0 r l) := by
  pointwise

/-- The padding changes nothing of direction 0: its rows of zeros kill the products of the padded columns. -/
theorem unpad_0 (x : S24576x2048.Idx → EReal) (w1 : S2x2048x96.Idx → EReal) (w2 : S2x96x2048.Idx → EReal) :
    (times (columns 0 128 (by decide) (fun i => Ideal.tanh (times x (side (w1pad w1)) i) : S24576x256.Idx → EReal)) (high0 (w2pad w2)) : S24576x2048.Idx → EReal)
      = times (fun i => Ideal.tanh (times x (page 0 w1) i)) (page 0 w2) := by
  funext j
  idx_vars j
  refine (Finset.sum_congr rfl fun k _ => congrArg (_ * ·) ((high0_apply (w2pad w2) k j1).trans (w2pad_apply w2 0 k j1))).trans ?_
  refine (sum_padded _ (fun k => w2 (ix3 0 k j1))).trans (Finset.sum_congr rfl fun r _ => congrArg (· * w2 (ix3 0 r j1)) ?_)
  show Ideal.tanh (∑ k : Fin 2048, x (ix2 j0 k) * side (w1pad w1) (ix2 k ⟨0 + r.val, _⟩)) = Ideal.tanh (∑ k : Fin 2048, x (ix2 j0 k) * w1 (ix3 0 k r))
  refine congrArg Ideal.tanh (Finset.sum_congr rfl fun k _ => congrArg (x (ix2 j0 k) * ·) ?_)
  exact (side_0 (w1pad w1) k ⟨r.val, by omega⟩).trans (w1pad_apply w1 0 k r)

/-- Of the factors side by side, columns 128 to 255 are direction 1's. -/
theorem side_1 (p : S2x2048x128.Idx → EReal) (k : Fin 2048) (r : Fin 128) :
    side p (ix2 k ⟨128 + r.val, by omega⟩) = p (ix3 1 k r) := by
  pointwise

/-- Direction 1's high factor, cut out of the padded stack. -/
abbrev high1 (p : S2x128x2048.Idx → EReal) : S128x2048.Idx → EReal :=
  shapeCast S128x2048 (extractStridedSlice S1x128x2048 ![1, 0, 0] p slices_S2x128x2048_S1x128x2048_1_0_0) shapeCasts_S1x128x2048_S128x2048

/-- What it holds. -/
theorem high1_apply (p : S2x128x2048.Idx → EReal) (r : Fin 128) (l : Fin 2048) :
    high1 p (ix2 r l) = p (ix3 1 r l) := by
  pointwise

/-- The padding changes nothing of direction 1: its rows of zeros kill the products of the padded columns. -/
theorem unpad_1 (x : S24576x2048.Idx → EReal) (w1 : S2x2048x96.Idx → EReal) (w2 : S2x96x2048.Idx → EReal) :
    (times (columns 128 128 (by decide) (fun i => Ideal.tanh (times x (side (w1pad w1)) i) : S24576x256.Idx → EReal)) (high1 (w2pad w2)) : S24576x2048.Idx → EReal)
      = times (fun i => Ideal.tanh (times x (page 1 w1) i)) (page 1 w2) := by
  funext j
  idx_vars j
  refine (Finset.sum_congr rfl fun k _ => congrArg (_ * ·) ((high1_apply (w2pad w2) k j1).trans (w2pad_apply w2 1 k j1))).trans ?_
  refine (sum_padded _ (fun k => w2 (ix3 1 k j1))).trans (Finset.sum_congr rfl fun r _ => congrArg (· * w2 (ix3 1 r j1)) ?_)
  show Ideal.tanh (∑ k : Fin 2048, x (ix2 j0 k) * side (w1pad w1) (ix2 k ⟨128 + r.val, _⟩)) = Ideal.tanh (∑ k : Fin 2048, x (ix2 j0 k) * w1 (ix3 1 k r))
  refine congrArg Ideal.tanh (Finset.sum_congr rfl fun k _ => congrArg (x (ix2 j0 k) * ·) ?_)
  exact (side_1 (w1pad w1) k ⟨r.val, by omega⟩).trans (w1pad_apply w1 1 k r)

/-! ## The three launches in a row -/

variable (m : (ℓ : Loc nD τ sig) → Buf (Elt Ideal) ℓ) (ρ : Dev nD → PrngReg)

/-- The result of direction 0. -/
abbrev G0 (c : Dev nD) : Buf (Elt Ideal) ((c : Thread nD τ).loc main_v12) :=
  times (fun i => Ideal.tanh (times (m ((c : Thread nD τ).loc main_arg0)) (page 0 (m ((c : Thread nD τ).loc main_arg1))) i)) (page 0 (m ((c : Thread nD τ).loc main_arg2)))

/-- The result of direction 1. -/
abbrev G1 (c : Dev nD) : Buf (Elt Ideal) ((c : Thread nD τ).loc main_v15) :=
  times (fun i => Ideal.tanh (times (m ((c : Thread nD τ).loc main_arg0)) (page 1 (m ((c : Thread nD τ).loc main_arg1))) i)) (page 1 (m ((c : Thread nD τ).loc main_arg2)))

/-- The padded low factors. -/
theorem entry_pad1 (c : Dev nD) : (W4 m ρ c (Proc.devRef .tc main_v0) : S2x2048x128.Idx → EReal) = w1pad (m ((c : Thread nD τ).loc main_arg1)) := by
  have h : StableHlo.after hostOps0_1 (W1 m ρ c) (Proc.devRef .tc main_v0)
      = pad S2x2048x128 ![0, 0, 0] ![0, 0, 32] ![0, 0, 0] (W1 m ρ c (Proc.devRef .tc main_arg1)) (sitofp (F := Ideal) .f32 (W1 m ρ c (Proc.devRef .tc main_c))) pads_S2x2048x96_S2x2048x128_000_000_0320 h_S_ := by
    after_results <;> rfl
  have hc : W1 m ρ c (Proc.devRef .tc main_c) = constantI S_ 32 0#32 := by
    show StableHlo.after hostOps0 (W0 m ρ c) (Proc.devRef .tc main_c) = _
    after_results <;> rfl
  refine (W4_of m ρ c main_v0 (by decide)).trans ((W3_of m ρ c main_v0 (by decide)).trans (h.trans ?_))
  rw [hc, W1_args m ρ c main_arg1 (by decide)]

/-- The padded high factors. -/
theorem entry_pad2 (c : Dev nD) : (W4 m ρ c (Proc.devRef .tc main_v1) : S2x128x2048.Idx → EReal) = w2pad (m ((c : Thread nD τ).loc main_arg2)) := by
  have h : StableHlo.after hostOps0_3 (W3 m ρ c) (Proc.devRef .tc main_v1)
      = pad S2x128x2048 ![0, 0, 0] ![0, 32, 0] ![0, 0, 0] (W3 m ρ c (Proc.devRef .tc main_arg2)) (sitofp (F := Ideal) .f32 (W3 m ρ c (Proc.devRef .tc main_c_0))) pads_S2x96x2048_S2x128x2048_000_0320_000 h_S_ := by
    after_results <;> rfl
  have hc : W3 m ρ c (Proc.devRef .tc main_c_0) = constantI S_ 32 0#32 := by
    show StableHlo.after hostOps0_2 (W2 m ρ c) (Proc.devRef .tc main_c_0) = _
    after_results <;> rfl
  refine h.trans ?_
  rw [hc, W3_args m ρ c main_arg2 (by decide)]

/-- The weights of the first launch. -/
theorem entry_side (c : Dev nD) : (V5 m ρ c main_v7 : S2048x256.Idx → EReal) = side (w1pad (m ((c : Thread nD τ).loc main_arg1))) := by
  have h : StableHlo.after hostOps0_4 (W4 m ρ c) (Proc.devRef .tc main_v7) = side (W4 m ρ c (Proc.devRef .tc main_v0)) := by
    after_results <;> rfl
  refine h.trans ?_
  rw [entry_pad1]

/-- The stack of high factors after the host code. -/
theorem entry_stack (c : Dev nD) : (W5 m ρ c (Proc.devRef .tc main_v8) : S2x128x2048.Idx → EReal) = w2pad (m ((c : Thread nD τ).loc main_arg2)) := by
  have h : StableHlo.after hostOps0_4 (W4 m ρ c) (Proc.devRef .tc main_v8) = (truncf (F := Ideal) (φ := .f32) .bf16 (W4 m ρ c (Proc.devRef .tc main_v1)) bitsLt_bf16_f32 : S2x128x2048.Idx → EReal) := by
    after_results <;> rfl
  exact h.trans (entry_pad2 m ρ c)

/-- The weights of the second launch. -/
theorem entry_high0 (c : Dev nD) : (V7 m ρ c main_v11 : S128x2048.Idx → EReal) = high0 (w2pad (m ((c : Thread nD τ).loc main_arg2))) := by
  have h : StableHlo.after hostOps1 (W6 m ρ c) (Proc.devRef .tc main_v11) = high0 (W6 m ρ c (Proc.devRef .tc main_v8)) := by
    after_results <;> rfl
  refine h.trans ?_
  rw [W6_of m ρ c main_v8 (by decide), entry_stack]

/-- The weights of the third launch. -/
theorem entry_high1 (c : Dev nD) : (V9 m ρ c main_v14 : S128x2048.Idx → EReal) = high1 (w2pad (m ((c : Thread nD τ).loc main_arg2))) := by
  have h : StableHlo.after hostOps2 (W8 m ρ c) (Proc.devRef .tc main_v14) = high1 (W8 m ρ c (Proc.devRef .tc main_v8)) := by
    after_results <;> rfl
  refine h.trans ?_
  rw [W8_of m ρ c main_v8 (by decide), W7_of m ρ c main_v8 (by decide), W6_of m ρ c main_v8 (by decide), entry_stack]

/-- The first launch leaves the hidden activations of both directions, side by side. -/
theorem after_low (c : Dev nD) : (W6 m ρ c (Proc.devRef .tc main_v9) : S24576x256.Idx → EReal) = fun i => Ideal.tanh (times (m ((c : Thread nD τ).loc main_arg0)) (side (w1pad (m ((c : Thread nD τ).loc main_arg1)))) i) := by
  refine (W6_arr m ρ c 2).trans ((final0 (V5 m ρ) c).trans ?_)
  rw [entry_side, show V5 m ρ c main_arg0 = m ((c : Thread nD τ).loc main_arg0) from W5_args m ρ c main_arg0 (by decide)]

/-- They are still there at the second launch. -/
theorem entry_low0 (c : Dev nD) : V7 m ρ c main_v9 = W6 m ρ c (Proc.devRef .tc main_v9) := W7_of m ρ c main_v9 (by decide)

/-- They are still there at the third launch. -/
theorem entry_low1 (c : Dev nD) : V9 m ρ c main_v9 = W6 m ρ c (Proc.devRef .tc main_v9) :=
  (W9_of m ρ c main_v9 (by decide)).trans (((W8_of m ρ c main_v9 (by decide))).trans (W7_of m ρ c main_v9 (by decide)))

/-- Direction 0 at the end of the run. -/
theorem last_0 (c : Dev nD) : W10 m ρ c (Proc.devRef .tc main_v12) = G0 m c := by
  refine (W10_of m ρ c main_v12 (by decide)).trans ((W9_of m ρ c main_v12 (by decide)).trans ((W8_arr m ρ c 2).trans ((final1 (V7 m ρ) c).trans ?_)))
  rw [entry_low0, after_low, entry_high0]
  exact unpad_0 _ _ _

/-- Direction 1 at the end of the run. -/
theorem last_1 (c : Dev nD) : W10 m ρ c (Proc.devRef .tc main_v15) = G1 m c := by
  refine (W10_arr m ρ c 2).trans ((final2 (V9 m ρ) c).trans ?_)
  rw [entry_low1, after_low, entry_high1]
  exact unpad_1 _ _ _

open Idealize.ShloMosaic.Rounds Idealize.SL Idealize.SL.RA Idealize.SL.BI Idealize.SL.BI.BIBase Idealize.SL.BI.Laws Idealize.SL.ProofMode
open scoped Idealize.SL.BI

set_option backward.isDefEq.respectTransparency.types false in
/-- The run, read: every buffer outside the launches ends at the last boundary's contents. -/
theorem run_all : θ_run defs (onTc (τ := τ) (main (F := Ideal))) ⟨m, fun _ => 0, ρ⟩ (fun r =>
      ∀ c : Dev nD, ∀ b ∈ Pipeline.ucRefs τ sig, r.2.mem (c, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => fun c => h c)

/-- The run, read: both directions hold their low-rank products, and the arguments are unchanged. -/
theorem run : θ_run defs (onTc (τ := τ) (main (F := Ideal))) ⟨m, fun _ => 0, ρ⟩ fun r => ∀ c : Dev nD,
      r.2.mem ((c : Thread nD τ).loc main_v12) = G0 m c
      ∧ r.2.mem ((c : Thread nD τ).loc main_v15) = G1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c _ (mem_uc main_v12 (by decide))).trans (last_0 m ρ c),
     (h c _ (mem_uc main_v15 (by decide))).trans (last_1 m ρ c),
     (h c _ (mem_uc main_arg0 (by decide))).trans (W10_args m ρ c main_arg0 (by decide)),
     (h c _ (mem_uc main_arg1 (by decide))).trans (W10_args m ρ c main_arg1 (by decide)),
     (h c _ (mem_uc main_arg2 (by decide))).trans (W10_args m ρ c main_arg2 (by decide))⟩) (run_all m ρ)

end Cert.Kernel9Ideal.Decay

namespace Cert.Proof.Decay

open Cert.Proof.Products

/-- The kernel runs and leaves its arguments. -/
theorem frame_kernel : Cert.quiescent_Kernel9 := fun m ρ _ => Cert.Kernel9.Gen.frame m ρ

/-- So does the idealized kernel. -/
theorem frame_ideal : Cert.quiescent_Kernel9Ideal := fun m ρ _ => Cert.Kernel9Ideal.Gen.frame m ρ

/-- The reference leaves its arguments; it has no semaphore. -/
theorem frame_reference : Cert.quiescent_Reference9Ideal := fun m ρ _ =>
  (θ_run Cert.Reference9Ideal.defs _ _).mono
    (fun r h => ⟨fun c => (h c).2.2, sem_eq_zero_of_no_sems (by decide) r.2⟩)
    (Cert.Reference9Ideal.Value.run (F := Ideal) m ρ)

/-- Idealization rewrote nothing. -/
theorem preserves : Cert.preserves_Kernel9_Kernel9Ideal := trivial

/-- Kernel and reference end at the same arrays, one per direction. -/
theorem algebraic : Cert.algebraic_Kernel9Ideal_Reference9Ideal := fun m ρ m' ρ' _ hag =>
  ⟨fun c => Cert.Kernel9Ideal.Decay.G0 m c, fun c => Cert.Kernel9Ideal.Decay.G1 m c, Cert.Kernel9Ideal.Decay.run m ρ,
    (θ_run Cert.Reference9Ideal.defs _ _).mono
      (fun _ h c => ⟨((h c).1).trans ((Cert.Reference9Ideal.Decay.up_eq _ _).trans
          ((congrArg (fun a => times a _) (Cert.Reference9Ideal.Decay.low_eq _ _)).trans
            (by rw [Cert.Reference9Ideal.Decay.w1_0, Cert.Reference9Ideal.Decay.w2_0, (hag c).1, (hag c).2.1, (hag c).2.2]))),
        ((h c).2.1).trans ((Cert.Reference9Ideal.Decay.up_eq _ _).trans
          ((congrArg (fun a => times a _) (Cert.Reference9Ideal.Decay.low_eq _ _)).trans
            (by rw [Cert.Reference9Ideal.Decay.w1_1, Cert.Reference9Ideal.Decay.w2_1, (hag c).1, (hag c).2.1, (hag c).2.2]))),
        (h c).2.2⟩)
      (Cert.Reference9Ideal.Value.run (F := Ideal) m' ρ')⟩

end Cert.Proof.Decay

end
-- ==== Proof.Rate.lean ====
/-
  The low-rank part of the recurrence's in-context rate, `(xa @ a1[d]) @ a2[d]` for both directions `d`. The kernel pads
  the rank from 96 to 128 with zeros, makes the two low products in one launch, and each high product in a launch that
  reads its half of the columns; both programs are read over the extended reals.
-/
module

public import proofs.«01_k».proof.Defs
public import proofs.«01_k».proof.Proof.Products
public import proofs.«01_k».proof.Proof.Gen.Kernel10.Frame
public import proofs.«01_k».proof.Proof.Gen.Kernel10Ideal.Frame
public import proofs.«01_k».proof.Proof.Gen.Reference10Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Reference10Ideal.Rate

open Cert.Reference10Ideal Cert.Reference10Ideal.Gen Cert.Proof.Products

/-- The reference's low factor of direction 0 is that matrix of the stack. -/
theorem w1_0 (w : S2x2048x96.Idx → EReal) : (shapeCast S2048x96 (extractStridedSlice S1x2048x96 ![0, 0, 0] w slices_S2x2048x96_S1x2048x96_0_0_0) shapeCasts_S1x2048x96_S2048x96 : S2048x96.Idx → EReal) = page 0 w := by
  funext j
  idx_vars j
  pointwise [page]

/-- The reference's high factor of direction 0 is that matrix of the stack. -/
theorem w2_0 (w : S2x96x2048.Idx → EReal) : (shapeCast S96x2048 (extractStridedSlice S1x96x2048 ![0, 0, 0] w slices_S2x96x2048_S1x96x2048_0_0_0) shapeCasts_S1x96x2048_S96x2048 : S96x2048.Idx → EReal) = page 0 w := by
  funext j
  idx_vars j
  pointwise [page]

/-- The reference's low factor of direction 1 is that matrix of the stack. -/
theorem w1_1 (w : S2x2048x96.Idx → EReal) : (shapeCast S2048x96 (extractStridedSlice S1x2048x96 ![1, 0, 0] w slices_S2x2048x96_S1x2048x96_1_0_0) shapeCasts_S1x2048x96_S2048x96 : S2048x96.Idx → EReal) = page 1 w := by
  funext j
  idx_vars j
  pointwise [page]

/-- The reference's high factor of direction 1 is that matrix of the stack. -/
theorem w2_1 (w : S2x96x2048.Idx → EReal) : (shapeCast S96x2048 (extractStridedSlice S1x96x2048 ![1, 0, 0] w slices_S2x96x2048_S1x96x2048_1_0_0) shapeCasts_S1x96x2048_S96x2048 : S96x2048.Idx → EReal) = page 1 w := by
  funext j
  idx_vars j
  pointwise [page]

/-- The reference's hidden activations. -/
theorem low_eq (x : S24576x2048.Idx → EReal) (u : S2048x96.Idx → EReal) :
    (Host.dotGeneral (F := Ideal) (φ₁ := .f32) (φ₂ := .f32) dot_S24576x2048_S2048x96_S24576x96_1_0_0_1_n_n none (extf (F := Ideal) (φ := .bf16) .f32 x bitsLt_bf16_f32) u : FVec Ideal S24576x96 .f32)
      = times x u := by
  funext j
  idx_vars j
  pointwise [times]

/-- The reference's second product. -/
theorem up_eq (a : S24576x96.Idx → EReal) (v : S96x2048.Idx → EReal) :
    (Host.dotGeneral (F := Ideal) (φ₁ := .f32) (φ₂ := .f32) dot_S24576x96_S96x2048_S24576x2048_1_0_0_1_n_n none a v : FVec Ideal S24576x2048 .f32)
      = times a v := by
  funext j
  idx_vars j
  pointwise [times]

end Cert.Reference10Ideal.Rate

namespace Cert.Kernel10Ideal.Rate

open Cert.Kernel10Ideal Cert.Kernel10Ideal.Gen Cert.Proof.Products

/-- The zero offset. -/
theorem hz : (![0, 0] : Fin 2 → Nat) = fun _ => 0 := funext fun a => by fin_cases a <;> rfl

variable (V : (c : Dev nD) → (b : Ref sig .tc) → Buf (Elt Ideal) ((c : Thread nD τ).loc b))

/-! ## The first launch, the low products of both directions side by side, on arrays holding anything -/

/-- One tile of the first launch: its payload at an entry. -/
theorem pay0_apply (x0 : S512x2048.Idx → EReal) (x1 : S2048x256.Idx → EReal) (r : Fin 512) (l : Fin 256) :
    k0_pay1 (F := Ideal) x0 x1 (ix2 r l) = ∑ k : Fin 2048, x0 (ix2 r k) * x1 (ix2 k l) := by
  pointwise [k0_pay1]

/-- The tile a point of the first launch writes is the payload of its two blocks. -/
theorem out0_eq (x0 : S512x2048.Idx → EReal) (x1 : S2048x256.Idx → EReal) :
    out0_2 (F := Ideal) x0 x1 = k0_pay1 (F := Ideal) x0 x1 := by
  unfold out0_2
  rw [View.canon_unit_zero hz, View.ld_unit_zero hz, View.ld_unit_zero hz]

/-- The first launch's block indices. -/
theorem idx0 : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0) := by decide +kernel

/-- A row tile of the first launch lies in the array. -/
theorem row0_lt (t : Fin grid0.N) (r : Fin 512) : 512 * t.val + r.val < 24576 := by
  have := t.isLt; have hN : grid0.N = 48 := N_0; omega

/-- The left factor's block at point `t` of the first launch, read at an entry. -/
theorem blk0_x (c : Dev nD) (t : Fin grid0.N) (r : Fin 512) (k : Fin 2048) :
    (iblk0 V c 0 t : S512x2048.Idx → EReal) (ix2 r k) = (V c main_arg0 : S24576x2048.Idx → EReal) (ix2 ⟨_, row0_lt t r⟩ k) := by
  unfold iblk0
  rw [View.read_apply]
  show V c main_arg0 _ = _
  congr 1
  funext a
  apply Fin.ext
  match a with
  | ⟨0, _⟩ => show win0_0.index t 0 * 512 + 1 * r.val = 512 * t.val + r.val; rw [(idx0 t).1.1]; omega
  | ⟨1, _⟩ => show win0_0.index t 1 * 2048 + 1 * k.val = k.val; rw [(idx0 t).1.2]; omega

/-- The weights' block at point `t` of the first launch. -/
theorem blk0_w (c : Dev nD) (t : Fin grid0.N) (k : Fin 2048) (l : Fin 256) :
    (iblk0 V c 1 t : S2048x256.Idx → EReal) (ix2 k l) = (V c main_v7 : S2048x256.Idx → EReal) (ix2 k l) := by
  unfold iblk0
  rw [View.read_apply]
  show V c main_v7 _ = _
  congr 1
  funext a
  apply Fin.ext
  match a with
  | ⟨0, _⟩ => show win0_1.index t 0 * 2048 + 1 * k.val = k.val; rw [(idx0 t).2.1.1]; omega
  | ⟨1, _⟩ => show win0_1.index t 1 * 256 + 1 * l.val = l.val; rw [(idx0 t).2.1.2]; omega

/-- What point `t` of the first launch writes back is its tile of the whole. -/
theorem flushed0_eq (c : Dev nD) (t : Fin cfg0.N) :
    (dat0 V c).flushed 2 t = ((cfg0.win 2).blk t).view.read (Elt Ideal) (times (V c main_arg0) (V c main_v7)) := by
  rw [show (dat0 V c).flushed 2 t = (dat0 V c).after 2 t from rfl, after0_2, out0_eq]
  refine funext fun (j : S512x256.Idx) => ?_
  rw [View.read_apply]
  have e : (((cfg0.win 2).blk t).view.emb j : S24576x256.Idx) = ix2 ⟨_, row0_lt t (j 0)⟩ (j 1) := by
    funext a
    apply Fin.ext
    match a with
    | ⟨0, _⟩ => show win0_2.index t 0 * 512 + 1 * (j 0).val = 512 * t.val + (j 0).val; rw [(idx0 t).2.2.1]; omega
    | ⟨1, _⟩ => show win0_2.index t 1 * 256 + 1 * (j 1).val = (j 1).val; rw [(idx0 t).2.2.2]; omega
  rw [e]
  idx_vars j
  show k0_pay1 (F := Ideal) (iblk0 V c 0 t) (iblk0 V c 1 t) (ix2 j0 j1)
    = (times (V c main_arg0) (V c main_v7)) (ix2 ⟨_, row0_lt t j0⟩ j1)
  rw [pay0_apply]
  simp only [blk0_x, blk0_w]
  rfl

/-- Which entries point `t`'s tile of the first launch holds. -/
theorem mem_blk0 (t : Fin cfg0.N) (i : S24576x256.Idx) :
    i ∈ ((cfg0.win 2).blk t).view.set ↔ (512 * t.val ≤ (i 0 : Nat) ∧ (i 0 : Nat) < 512 * t.val + 512)
      ∧ 0 ≤ (i 1 : Nat) ∧ (i 1 : Nat) < 256 := by
  show i ∈ ((View.whole main_v9).slice (win0_2.rect t)).set ↔ _
  rw [View.set_slice_whole, Rect.mem_set_unit]
  refine (Fin.forall_fin_two (p := fun a => _ ≤ (i a : Nat) ∧ (i a : Nat) < _)).trans ?_
  show (win0_2.index t 0 * 512 ≤ (i 0 : Nat) ∧ (i 0 : Nat) < win0_2.index t 0 * 512 + 512)
    ∧ (win0_2.index t 1 * 256 ≤ (i 1 : Nat) ∧ (i 1 : Nat) < win0_2.index t 1 * 256 + 256) ↔ _
  rw [(idx0 t).2.2.1, (idx0 t).2.2.2]
  omega

/-- The first launch's tiles cover its result. -/
theorem cover0 (i : S24576x256.Idx) :
    ∃ t : Fin cfg0.N, (cfg0.win 2).flush t = true ∧ i ∈ ((cfg0.win 2).blk t).view.set := by
  have h0 : (i 0 : Nat) < 24576 := (i 0).isLt
  have h1 : (i 1 : Nat) < 256 := (i 1).isLt
  have hN : cfg0.N = 48 := N_0
  refine ⟨⟨(i 0 : Nat) / 512, by omega⟩, flush0_2 _, ?_⟩
  rw [mem_blk0]
  dsimp only
  omega

/-- What the first launch leaves in its result. -/
theorem final0 (c : Dev nD) : (dat0 V c).arrAt 2 cfg0.N = times (V c main_arg0) (V c main_v7) :=
  (dat0 V c).arrAt_eq_of_cover 2 (times (V c main_arg0) (V c main_v7)) (fun t _ => flushed0_eq V c t) cover0

/-! ## The second launch, the high product of direction 0, on arrays holding anything -/

/-- One tile of the second launch: its payload at an entry. -/
theorem pay1_apply (x0 : S512x128.Idx → EReal) (x1 : S128x512.Idx → EReal) (r : Fin 512) (l : Fin 512) :
    k1_pay1 (F := Ideal) x0 x1 (ix2 r l) = ∑ k : Fin 128, x0 (ix2 r k) * x1 (ix2 k l) := by
  pointwise [k1_pay1]

/-- The tile a point of the second launch writes is the payload of its two blocks. -/
theorem out1_eq (x0 : S512x128.Idx → EReal) (x1 : S128x512.Idx → EReal) :
    out1_2 (F := Ideal) x0 x1 = k1_pay1 (F := Ideal) x0 x1 := by
  unfold out1_2
  rw [View.canon_unit_zero hz, View.ld_unit_zero hz, View.ld_unit_zero hz]

/-- The second launch's block indices. -/
theorem idx1 : ∀ t : Fin grid1.N, (win1_0.index t 0 = t.val / 4 ∧ win1_0.index t 1 = 0)
    ∧ (win1_1.index t 0 = 0 ∧ win1_1.index t 1 = t.val % 4)
    ∧ (win1_2.index t 0 = t.val / 4 ∧ win1_2.index t 1 = t.val % 4) := by decide +kernel

/-- A row tile of the second launch lies in the array. -/
theorem row1_lt (t : Fin grid1.N) (r : Fin 512) : 512 * (t.val / 4) + r.val < 24576 := by
  have := t.isLt; have hN : grid1.N = 192 := N_1; omega

/-- A column tile of the second launch lies in the array. -/
theorem col1_lt (t : Fin grid1.N) (l : Fin 512) : 512 * (t.val % 4) + l.val < 2048 := by omega

/-- The left factor's block at point `t` of the second launch, read at an entry. -/
theorem blk1_x (c : Dev nD) (t : Fin grid1.N) (r : Fin 512) (k : Fin 128) :
    (iblk1 V c 0 t : S512x128.Idx → EReal) (ix2 r k) = (V c main_v9 : S24576x256.Idx → EReal) (ix2 ⟨_, row1_lt t r⟩ ⟨0 + k.val, by omega⟩) := by
  unfold iblk1
  rw [View.read_apply]
  show V c main_v9 _ = _
  congr 1
  funext a
  apply Fin.ext
  match a with
  | ⟨0, _⟩ => show win1_0.index t 0 * 512 + 1 * r.val = 512 * (t.val / 4) + r.val; rw [(idx1 t).1.1]; omega
  | ⟨1, _⟩ => show win1_0.index t 1 * 128 + 1 * k.val = 0 + k.val; rw [(idx1 t).1.2]; omega

/-- The weights' block at point `t` of the second launch. -/
theorem blk1_w (c : Dev nD) (t : Fin grid1.N) (k : Fin 128) (l : Fin 512) :
    (iblk1 V c 1 t : S128x512.Idx → EReal) (ix2 k l) = (V c main_v11 : S128x2048.Idx → EReal) (ix2 k ⟨_, col1_lt t l⟩) := by
  unfold iblk1
  rw [View.read_apply]
  show V c main_v11 _ = _
  congr 1
  funext a
  apply Fin.ext
  match a with
  | ⟨0, _⟩ => show win1_1.index t 0 * 128 + 1 * k.val = k.val; rw [(idx1 t).2.1.1]; omega
  | ⟨1, _⟩ => show win1_1.index t 1 * 512 + 1 * l.val = 512 * (t.val % 4) + l.val; rw [(idx1 t).2.1.2]; omega

/-- What point `t` of the second launch writes back is its tile of the whole. -/
theorem flushed1_eq (c : Dev nD) (t : Fin cfg1.N) :
    (dat1 V c).flushed 2 t = ((cfg1.win 2).blk t).view.read (Elt Ideal) (times (columns 0 128 (by decide) (V c main_v9)) (V c main_v11)) := by
  rw [show (dat1 V c).flushed 2 t = (dat1 V c).after 2 t from rfl, after1_2, out1_eq]
  refine funext fun (j : S512x512.Idx) => ?_
  rw [View.read_apply]
  have e : (((cfg1.win 2).blk t).view.emb j : S24576x2048.Idx) = ix2 ⟨_, row1_lt t (j 0)⟩ ⟨_, col1_lt t (j 1)⟩ := by
    funext a
    apply Fin.ext
    match a with
    | ⟨0, _⟩ => show win1_2.index t 0 * 512 + 1 * (j 0).val = 512 * (t.val / 4) + (j 0).val; rw [(idx1 t).2.2.1]; omega
    | ⟨1, _⟩ => show win1_2.index t 1 * 512 + 1 * (j 1).val = 512 * (t.val % 4) + (j 1).val; rw [(idx1 t).2.2.2]; omega
  rw [e]
  idx_vars j
  show k1_pay1 (F := Ideal) (iblk1 V c 0 t) (iblk1 V c 1 t) (ix2 j0 j1)
    = (times (columns 0 128 (by decide) (V c main_v9)) (V c main_v11)) (ix2 ⟨_, row1_lt t j0⟩ ⟨_, col1_lt t j1⟩)
  rw [pay1_apply]
  simp only [blk1_x, blk1_w]
  rfl

/-- Which entries point `t`'s tile of the second launch holds. -/
theorem mem_blk1 (t : Fin cfg1.N) (i : S24576x2048.Idx) :
    i ∈ ((cfg1.win 2).blk t).view.set ↔ (512 * (t.val / 4) ≤ (i 0 : Nat) ∧ (i 0 : Nat) < 512 * (t.val / 4) + 512)
      ∧ 512 * (t.val % 4) ≤ (i 1 : Nat) ∧ (i 1 : Nat) < 512 * (t.val % 4) + 512 := by
  show i ∈ ((View.whole main_v12).slice (win1_2.rect t)).set ↔ _
  rw [View.set_slice_whole, Rect.mem_set_unit]
  refine (Fin.forall_fin_two (p := fun a => _ ≤ (i a : Nat) ∧ (i a : Nat) < _)).trans ?_
  show (win1_2.index t 0 * 512 ≤ (i 0 : Nat) ∧ (i 0 : Nat) < win1_2.index t 0 * 512 + 512)
    ∧ (win1_2.index t 1 * 512 ≤ (i 1 : Nat) ∧ (i 1 : Nat) < win1_2.index t 1 * 512 + 512) ↔ _
  rw [(idx1 t).2.2.1, (idx1 t).2.2.2]
  omega

/-- The second launch's tiles cover its result. -/
theorem cover1 (i : S24576x2048.Idx) :
    ∃ t : Fin cfg1.N, (cfg1.win 2).flush t = true ∧ i ∈ ((cfg1.win 2).blk t).view.set := by
  have h0 : (i 0 : Nat) < 24576 := (i 0).isLt
  have h1 : (i 1 : Nat) < 2048 := (i 1).isLt
  have hN : cfg1.N = 192 := N_1
  refine ⟨⟨(i 0 : Nat) / 512 * 4 + (i 1 : Nat) / 512, by omega⟩, flush1_2 _, ?_⟩
  rw [mem_blk1]
  dsimp only
  omega

/-- What the second launch leaves in its result. -/
theorem final1 (c : Dev nD) : (dat1 V c).arrAt 2 cfg1.N = times (columns 0 128 (by decide) (V c main_v9)) (V c main_v11) :=
  (dat1 V c).arrAt_eq_of_cover 2 (times (columns 0 128 (by decide) (V c main_v9)) (V c main_v11)) (fun t _ => flushed1_eq V c t) cover1

/-! ## The third launch, the high product of direction 1, on arrays holding anything -/

/-- One tile of the third launch: its payload at an entry. -/
theorem pay2_apply (x0 : S512x128.Idx → EReal) (x1 : S128x512.Idx → EReal) (r : Fin 512) (l : Fin 512) :
    k2_pay1 (F := Ideal) x0 x1 (ix2 r l) = ∑ k : Fin 128, x0 (ix2 r k) * x1 (ix2 k l) := by
  pointwise [k2_pay1]

/-- The tile a point of the third launch writes is the payload of its two blocks. -/
theorem out2_eq (x0 : S512x128.Idx → EReal) (x1 : S128x512.Idx → EReal) :
    out2_2 (F := Ideal) x0 x1 = k2_pay1 (F := Ideal) x0 x1 := by
  unfold out2_2
  rw [View.canon_unit_zero hz, View.ld_unit_zero hz, View.ld_unit_zero hz]

/-- The third launch's block indices. -/
theorem idx2 : ∀ t : Fin grid2.N, (win2_0.index t 0 = t.val / 4 ∧ win2_0.index t 1 = 1)
    ∧ (win2_1.index t 0 = 0 ∧ win2_1.index t 1 = t.val % 4)
    ∧ (win2_2.index t 0 = t.val / 4 ∧ win2_2.index t 1 = t.val % 4) := by decide +kernel

/-- A row tile of the third launch lies in the array. -/
theorem row2_lt (t : Fin grid2.N) (r : Fin 512) : 512 * (t.val / 4) + r.val < 24576 := by
  have := t.isLt; have hN : grid2.N = 192 := N_2; omega

/-- A column tile of the third launch lies in the array. -/
theorem col2_lt (t : Fin grid2.N) (l : Fin 512) : 512 * (t.val % 4) + l.val < 2048 := by omega

/-- The left factor's block at point `t` of the third launch, read at an entry. -/
theorem blk2_x (c : Dev nD) (t : Fin grid2.N) (r : Fin 512) (k : Fin 128) :
    (iblk2 V c 0 t : S512x128.Idx → EReal) (ix2 r k) = (V c main_v9 : S24576x256.Idx → EReal) (ix2 ⟨_, row2_lt t r⟩ ⟨128 + k.val, by omega⟩) := by
  unfold iblk2
  rw [View.read_apply]
  show V c main_v9 _ = _
  congr 1
  funext a
  apply Fin.ext
  match a with
  | ⟨0, _⟩ => show win2_0.index t 0 * 512 + 1 * r.val = 512 * (t.val / 4) + r.val; rw [(idx2 t).1.1]; omega
  | ⟨1, _⟩ => show win2_0.index t 1 * 128 + 1 * k.val = 128 + k.val; rw [(idx2 t).1.2]; omega

/-- The weights' block at point `t` of the third launch. -/
theorem blk2_w (c : Dev nD) (t : Fin grid2.N) (k : Fin 128) (l : Fin 512) :
    (iblk2 V c 1 t : S128x512.Idx → EReal) (ix2 k l) = (V c main_v14 : S128x2048.Idx → EReal) (ix2 k ⟨_, col2_lt t l⟩) := by
  unfold iblk2
  rw [View.read_apply]
  show V c main_v14 _ = _
  congr 1
  funext a
  apply Fin.ext
  match a with
  | ⟨0, _⟩ => show win2_1.index t 0 * 128 + 1 * k.val = k.val; rw [(idx2 t).2.1.1]; omega
  | ⟨1, _⟩ => show win2_1.index t 1 * 512 + 1 * l.val = 512 * (t.val % 4) + l.val; rw [(idx2 t).2.1.2]; omega

/-- What point `t` of the third launch writes back is its tile of the whole. -/
theorem flushed2_eq (c : Dev nD) (t : Fin cfg2.N) :
    (dat2 V c).flushed 2 t = ((cfg2.win 2).blk t).view.read (Elt Ideal) (times (columns 128 128 (by decide) (V c main_v9)) (V c main_v14)) := by
  rw [show (dat2 V c).flushed 2 t = (dat2 V c).after 2 t from rfl, after2_2, out2_eq]
  refine funext fun (j : S512x512.Idx) => ?_
  rw [View.read_apply]
  have e : (((cfg2.win 2).blk t).view.emb j : S24576x2048.Idx) = ix2 ⟨_, row2_lt t (j 0)⟩ ⟨_, col2_lt t (j 1)⟩ := by
    funext a
    apply Fin.ext
    match a with
    | ⟨0, _⟩ => show win2_2.index t 0 * 512 + 1 * (j 0).val = 512 * (t.val / 4) + (j 0).val; rw [(idx2 t).2.2.1]; omega
    | ⟨1, _⟩ => show win2_2.index t 1 * 512 + 1 * (j 1).val = 512 * (t.val % 4) + (j 1).val; rw [(idx2 t).2.2.2]; omega
  rw [e]
  idx_vars j
  show k2_pay1 (F := Ideal) (iblk2 V c 0 t) (iblk2 V c 1 t) (ix2 j0 j1)
    = (times (columns 128 128 (by decide) (V c main_v9)) (V c main_v14)) (ix2 ⟨_, row2_lt t j0⟩ ⟨_, col2_lt t j1⟩)
  rw [pay2_apply]
  simp only [blk2_x, blk2_w]
  rfl

/-- Which entries point `t`'s tile of the third launch holds. -/
theorem mem_blk2 (t : Fin cfg2.N) (i : S24576x2048.Idx) :
    i ∈ ((cfg2.win 2).blk t).view.set ↔ (512 * (t.val / 4) ≤ (i 0 : Nat) ∧ (i 0 : Nat) < 512 * (t.val / 4) + 512)
      ∧ 512 * (t.val % 4) ≤ (i 1 : Nat) ∧ (i 1 : Nat) < 512 * (t.val % 4) + 512 := by
  show i ∈ ((View.whole main_v15).slice (win2_2.rect t)).set ↔ _
  rw [View.set_slice_whole, Rect.mem_set_unit]
  refine (Fin.forall_fin_two (p := fun a => _ ≤ (i a : Nat) ∧ (i a : Nat) < _)).trans ?_
  show (win2_2.index t 0 * 512 ≤ (i 0 : Nat) ∧ (i 0 : Nat) < win2_2.index t 0 * 512 + 512)
    ∧ (win2_2.index t 1 * 512 ≤ (i 1 : Nat) ∧ (i 1 : Nat) < win2_2.index t 1 * 512 + 512) ↔ _
  rw [(idx2 t).2.2.1, (idx2 t).2.2.2]
  omega

/-- The third launch's tiles cover its result. -/
theorem cover2 (i : S24576x2048.Idx) :
    ∃ t : Fin cfg2.N, (cfg2.win 2).flush t = true ∧ i ∈ ((cfg2.win 2).blk t).view.set := by
  have h0 : (i 0 : Nat) < 24576 := (i 0).isLt
  have h1 : (i 1 : Nat) < 2048 := (i 1).isLt
  have hN : cfg2.N = 192 := N_2
  refine ⟨⟨(i 0 : Nat) / 512 * 4 + (i 1 : Nat) / 512, by omega⟩, flush2_2 _, ?_⟩
  rw [mem_blk2]
  dsimp only
  omega

/-- What the third launch leaves in its result. -/
theorem final2 (c : Dev nD) : (dat2 V c).arrAt 2 cfg2.N = times (columns 128 128 (by decide) (V c main_v9)) (V c main_v14) :=
  (dat2 V c).arrAt_eq_of_cover 2 (times (columns 128 128 (by decide) (V c main_v9)) (V c main_v14)) (fun t _ => flushed2_eq V c t) cover2

/-! ## The padded weights -/

/-- The low factors with 32 columns of zeros each. -/
abbrev w1pad (w : S2x2048x96.Idx → EReal) : S2x2048x128.Idx → EReal :=
  pad S2x2048x128 ![0, 0, 0] ![0, 0, 32] ![0, 0, 0] w (sitofp (F := Ideal) .f32 (constantI S_ 32 0#32)) pads_S2x2048x96_S2x2048x128_000_000_0320 h_S_

/-- The first 96 columns of a padded low factor are the factor's. -/
theorem w1pad_apply (w : S2x2048x96.Idx → EReal) (d : Fin 2) (k : Fin 2048) (r : Fin 96) :
    w1pad w (ix3 d k ⟨r.val, by omega⟩) = w (ix3 d k r) := by
  pointwise

/-- The high factors with 32 rows of zeros each. -/
abbrev w2pad (w : S2x96x2048.Idx → EReal) : S2x128x2048.Idx → EReal :=
  pad S2x128x2048 ![0, 0, 0] ![0, 32, 0] ![0, 0, 0] w (sitofp (F := Ideal) .f32 (constantI S_ 32 0#32)) pads_S2x96x2048_S2x128x2048_000_0320_000 h_S_

/-- The zero the padding is made of. -/
theorem zero_word : (FloatOps.sitofp (F := Ideal) FTy.f32 (0#32) : EReal) = 0 := by
  show (((0#32 : BitVec 32).toInt : ℝ) : EReal) = 0
  simp

/-- A padded high factor: the factor's rows, then zeros. -/
theorem w2pad_apply (w : S2x96x2048.Idx → EReal) (d : Fin 2) (r : Fin 128) (l : Fin 2048) :
    w2pad w (ix3 d r l) = if h : r.val < 96 then w (ix3 d ⟨r.val, h⟩ l) else 0 := by
  pointwise
  rw [zero_word]

/-- Two padded low factors side by side. -/
abbrev side (p : S2x2048x128.Idx → EReal) : S2048x256.Idx → EReal :=
  (truncf (F := Ideal) (φ := .f32) .bf16 (concatenate S2048x256 1 [⟨S2048x128, shapeCast S2048x128 (extractStridedSlice S1x2048x128 ![0, 0, 0] p slices_S2x2048x128_S1x2048x128_0_0_0) shapeCasts_S1x2048x128_S2048x128⟩,
      ⟨S2048x128, shapeCast S2048x128 (extractStridedSlice S1x2048x128 ![1, 0, 0] p slices_S2x2048x128_S1x2048x128_1_0_0) shapeCasts_S1x2048x128_S2048x128⟩] concatenates_S2048x128_S2048x128_S2048x256_d1) bitsLt_bf16_f32 : S2048x256.Idx → EReal)

/-- Of the factors side by side, columns 0 to 127 are direction 0's. -/
theorem side_0 (p : S2x2048x128.Idx → EReal) (k : Fin 2048) (r : Fin 128) :
    side p (ix2 k ⟨0 + r.val, by omega⟩) = p (ix3 0 k r) := by
  pointwise

/-- Direction 0's high factor, cut out of the padded stack. -/
abbrev high0 (p : S2x128x2048.Idx → EReal) : S128x2048.Idx → EReal :=
  shapeCast S128x2048 (extractStridedSlice S1x128x2048 ![0, 0, 0] p slices_S2x128x2048_S1x128x2048_0_0_0) shapeCasts_S1x128x2048_S128x2048

/-- What it holds. -/
theorem high0_apply (p : S2x128x2048.Idx → EReal) (r : Fin 128) (l : Fin 2048) :
    high0 p (ix2 r l) = p (ix3 0 r l) := by
  pointwise

/-- The padding changes nothing of direction 0: its rows of zeros kill the products of the padded columns. -/
theorem unpad_0 (x : S24576x2048.Idx → EReal) (w1 : S2x2048x96.Idx → EReal) (w2 : S2x96x2048.Idx → EReal) :
    (times (columns 0 128 (by decide) (times x (side (w1pad w1)) : S24576x256.Idx → EReal)) (high0 (w2pad w2)) : S24576x2048.Idx → EReal)
      = times (times x (page 0 w1)) (page 0 w2) := by
  funext j
  idx_vars j
  refine (Finset.sum_congr rfl fun k _ => congrArg (_ * ·) ((high0_apply (w2pad w2) k j1).trans (w2pad_apply w2 0 k j1))).trans ?_
  refine (sum_padded _ (fun k => w2 (ix3 0 k j1))).trans (Finset.sum_congr rfl fun r _ => congrArg (· * w2 (ix3 0 r j1)) ?_)
  show ∑ k : Fin 2048, x (ix2 j0 k) * side (w1pad w1) (ix2 k ⟨0 + r.val, _⟩) = ∑ k : Fin 2048, x (ix2 j0 k) * w1 (ix3 0 k r)
  refine (Finset.sum_congr rfl fun k _ => congrArg (x (ix2 j0 k) * ·) ?_)
  exact (side_0 (w1pad w1) k ⟨r.val, by omega⟩).trans (w1pad_apply w1 0 k r)

/-- Of the factors side by side, columns 128 to 255 are direction 1's. -/
theorem side_1 (p : S2x2048x128.Idx → EReal) (k : Fin 2048) (r : Fin 128) :
    side p (ix2 k ⟨128 + r.val, by omega⟩) = p (ix3 1 k r) := by
  pointwise

/-- Direction 1's high factor, cut out of the padded stack. -/
abbrev high1 (p : S2x128x2048.Idx → EReal) : S128x2048.Idx → EReal :=
  shapeCast S128x2048 (extractStridedSlice S1x128x2048 ![1, 0, 0] p slices_S2x128x2048_S1x128x2048_1_0_0) shapeCasts_S1x128x2048_S128x2048

/-- What it holds. -/
theorem high1_apply (p : S2x128x2048.Idx → EReal) (r : Fin 128) (l : Fin 2048) :
    high1 p (ix2 r l) = p (ix3 1 r l) := by
  pointwise

/-- The padding changes nothing of direction 1: its rows of zeros kill the products of the padded columns. -/
theorem unpad_1 (x : S24576x2048.Idx → EReal) (w1 : S2x2048x96.Idx → EReal) (w2 : S2x96x2048.Idx → EReal) :
    (times (columns 128 128 (by decide) (times x (side (w1pad w1)) : S24576x256.Idx → EReal)) (high1 (w2pad w2)) : S24576x2048.Idx → EReal)
      = times (times x (page 1 w1)) (page 1 w2) := by
  funext j
  idx_vars j
  refine (Finset.sum_congr rfl fun k _ => congrArg (_ * ·) ((high1_apply (w2pad w2) k j1).trans (w2pad_apply w2 1 k j1))).trans ?_
  refine (sum_padded _ (fun k => w2 (ix3 1 k j1))).trans (Finset.sum_congr rfl fun r _ => congrArg (· * w2 (ix3 1 r j1)) ?_)
  show ∑ k : Fin 2048, x (ix2 j0 k) * side (w1pad w1) (ix2 k ⟨128 + r.val, _⟩) = ∑ k : Fin 2048, x (ix2 j0 k) * w1 (ix3 1 k r)
  refine (Finset.sum_congr rfl fun k _ => congrArg (x (ix2 j0 k) * ·) ?_)
  exact (side_1 (w1pad w1) k ⟨r.val, by omega⟩).trans (w1pad_apply w1 1 k r)

/-! ## The three launches in a row -/

variable (m : (ℓ : Loc nD τ sig) → Buf (Elt Ideal) ℓ) (ρ : Dev nD → PrngReg)

/-- The result of direction 0. -/
abbrev G0 (c : Dev nD) : Buf (Elt Ideal) ((c : Thread nD τ).loc main_v12) :=
  times (times (m ((c : Thread nD τ).loc main_arg0)) (page 0 (m ((c : Thread nD τ).loc main_arg1)))) (page 0 (m ((c : Thread nD τ).loc main_arg2)))

/-- The result of direction 1. -/
abbrev G1 (c : Dev nD) : Buf (Elt Ideal) ((c : Thread nD τ).loc main_v15) :=
  times (times (m ((c : Thread nD τ).loc main_arg0)) (page 1 (m ((c : Thread nD τ).loc main_arg1)))) (page 1 (m ((c : Thread nD τ).loc main_arg2)))

/-- The padded low factors. -/
theorem entry_pad1 (c : Dev nD) : (W4 m ρ c (Proc.devRef .tc main_v0) : S2x2048x128.Idx → EReal) = w1pad (m ((c : Thread nD τ).loc main_arg1)) := by
  have h : StableHlo.after hostOps0_1 (W1 m ρ c) (Proc.devRef .tc main_v0)
      = pad S2x2048x128 ![0, 0, 0] ![0, 0, 32] ![0, 0, 0] (W1 m ρ c (Proc.devRef .tc main_arg1)) (sitofp (F := Ideal) .f32 (W1 m ρ c (Proc.devRef .tc main_c))) pads_S2x2048x96_S2x2048x128_000_000_0320 h_S_ := by
    after_results <;> rfl
  have hc : W1 m ρ c (Proc.devRef .tc main_c) = constantI S_ 32 0#32 := by
    show StableHlo.after hostOps0 (W0 m ρ c) (Proc.devRef .tc main_c) = _
    after_results <;> rfl
  refine (W4_of m ρ c main_v0 (by decide)).trans ((W3_of m ρ c main_v0 (by decide)).trans (h.trans ?_))
  rw [hc, W1_args m ρ c main_arg1 (by decide)]

/-- The padded high factors. -/
theorem entry_pad2 (c : Dev nD) : (W4 m ρ c (Proc.devRef .tc main_v1) : S2x128x2048.Idx → EReal) = w2pad (m ((c : Thread nD τ).loc main_arg2)) := by
  have h : StableHlo.after hostOps0_3 (W3 m ρ c) (Proc.devRef .tc main_v1)
      = pad S2x128x2048 ![0, 0, 0] ![0, 32, 0] ![0, 0, 0] (W3 m ρ c (Proc.devRef .tc main_arg2)) (sitofp (F := Ideal) .f32 (W3 m ρ c (Proc.devRef .tc main_c_0))) pads_S2x96x2048_S2x128x2048_000_0320_000 h_S_ := by
    after_results <;> rfl
  have hc : W3 m ρ c (Proc.devRef .tc main_c_0) = constantI S_ 32 0#32 := by
    show StableHlo.after hostOps0_2 (W2 m ρ c) (Proc.devRef .tc main_c_0) = _
    after_results <;> rfl
  refine h.trans ?_
  rw [hc, W3_args m ρ c main_arg2 (by decide)]

/-- The weights of the first launch. -/
theorem entry_side (c : Dev nD) : (V5 m ρ c main_v7 : S2048x256.Idx → EReal) = side (w1pad (m ((c : Thread nD τ).loc main_arg1))) := by
  have h : StableHlo.after hostOps0_4 (W4 m ρ c) (Proc.devRef .tc main_v7) = side (W4 m ρ c (Proc.devRef .tc main_v0)) := by
    after_results <;> rfl
  refine h.trans ?_
  rw [entry_pad1]

/-- The stack of high factors after the host code. -/
theorem entry_stack (c : Dev nD) : (W5 m ρ c (Proc.devRef .tc main_v8) : S2x128x2048.Idx → EReal) = w2pad (m ((c : Thread nD τ).loc main_arg2)) := by
  have h : StableHlo.after hostOps0_4 (W4 m ρ c) (Proc.devRef .tc main_v8) = (truncf (F := Ideal) (φ := .f32) .bf16 (W4 m ρ c (Proc.devRef .tc main_v1)) bitsLt_bf16_f32 : S2x128x2048.Idx → EReal) := by
    after_results <;> rfl
  exact h.trans (entry_pad2 m ρ c)

/-- The weights of the second launch. -/
theorem entry_high0 (c : Dev nD) : (V7 m ρ c main_v11 : S128x2048.Idx → EReal) = high0 (w2pad (m ((c : Thread nD τ).loc main_arg2))) := by
  have h : StableHlo.after hostOps1 (W6 m ρ c) (Proc.devRef .tc main_v11) = high0 (W6 m ρ c (Proc.devRef .tc main_v8)) := by
    after_results <;> rfl
  refine h.trans ?_
  rw [W6_of m ρ c main_v8 (by decide), entry_stack]

/-- The weights of the third launch. -/
theorem entry_high1 (c : Dev nD) : (V9 m ρ c main_v14 : S128x2048.Idx → EReal) = high1 (w2pad (m ((c : Thread nD τ).loc main_arg2))) := by
  have h : StableHlo.after hostOps2 (W8 m ρ c) (Proc.devRef .tc main_v14) = high1 (W8 m ρ c (Proc.devRef .tc main_v8)) := by
    after_results <;> rfl
  refine h.trans ?_
  rw [W8_of m ρ c main_v8 (by decide), W7_of m ρ c main_v8 (by decide), W6_of m ρ c main_v8 (by decide), entry_stack]

/-- The first launch leaves the low products of both directions, side by side. -/
theorem after_low (c : Dev nD) : (W6 m ρ c (Proc.devRef .tc main_v9) : S24576x256.Idx → EReal) = times (m ((c : Thread nD τ).loc main_arg0)) (side (w1pad (m ((c : Thread nD τ).loc main_arg1)))) := by
  refine (W6_arr m ρ c 2).trans ((final0 (V5 m ρ) c).trans ?_)
  rw [entry_side, show V5 m ρ c main_arg0 = m ((c : Thread nD τ).loc main_arg0) from W5_args m ρ c main_arg0 (by decide)]

/-- They are still there at the second launch. -/
theorem entry_low0 (c : Dev nD) : V7 m ρ c main_v9 = W6 m ρ c (Proc.devRef .tc main_v9) := W7_of m ρ c main_v9 (by decide)

/-- They are still there at the third launch. -/
theorem entry_low1 (c : Dev nD) : V9 m ρ c main_v9 = W6 m ρ c (Proc.devRef .tc main_v9) :=
  (W9_of m ρ c main_v9 (by decide)).trans (((W8_of m ρ c main_v9 (by decide))).trans (W7_of m ρ c main_v9 (by decide)))

/-- Direction 0 at the end of the run. -/
theorem last_0 (c : Dev nD) : W10 m ρ c (Proc.devRef .tc main_v12) = G0 m c := by
  refine (W10_of m ρ c main_v12 (by decide)).trans ((W9_of m ρ c main_v12 (by decide)).trans ((W8_arr m ρ c 2).trans ((final1 (V7 m ρ) c).trans ?_)))
  rw [entry_low0, after_low, entry_high0]
  exact unpad_0 _ _ _

/-- Direction 1 at the end of the run. -/
theorem last_1 (c : Dev nD) : W10 m ρ c (Proc.devRef .tc main_v15) = G1 m c := by
  refine (W10_arr m ρ c 2).trans ((final2 (V9 m ρ) c).trans ?_)
  rw [entry_low1, after_low, entry_high1]
  exact unpad_1 _ _ _

open Idealize.ShloMosaic.Rounds Idealize.SL Idealize.SL.RA Idealize.SL.BI Idealize.SL.BI.BIBase Idealize.SL.BI.Laws Idealize.SL.ProofMode
open scoped Idealize.SL.BI

set_option backward.isDefEq.respectTransparency.types false in
/-- The run, read: every buffer outside the launches ends at the last boundary's contents. -/
theorem run_all : θ_run defs (onTc (τ := τ) (main (F := Ideal))) ⟨m, fun _ => 0, ρ⟩ (fun r =>
      ∀ c : Dev nD, ∀ b ∈ Pipeline.ucRefs τ sig, r.2.mem (c, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => fun c => h c)

/-- The run, read: both directions hold their low-rank products, and the arguments are unchanged. -/
theorem run : θ_run defs (onTc (τ := τ) (main (F := Ideal))) ⟨m, fun _ => 0, ρ⟩ fun r => ∀ c : Dev nD,
      r.2.mem ((c : Thread nD τ).loc main_v12) = G0 m c
      ∧ r.2.mem ((c : Thread nD τ).loc main_v15) = G1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c _ (mem_uc main_v12 (by decide))).trans (last_0 m ρ c),
     (h c _ (mem_uc main_v15 (by decide))).trans (last_1 m ρ c),
     (h c _ (mem_uc main_arg0 (by decide))).trans (W10_args m ρ c main_arg0 (by decide)),
     (h c _ (mem_uc main_arg1 (by decide))).trans (W10_args m ρ c main_arg1 (by decide)),
     (h c _ (mem_uc main_arg2 (by decide))).trans (W10_args m ρ c main_arg2 (by decide))⟩) (run_all m ρ)

end Cert.Kernel10Ideal.Rate

namespace Cert.Proof.Rate

open Cert.Proof.Products

/-- The kernel runs and leaves its arguments. -/
theorem frame_kernel : Cert.quiescent_Kernel10 := fun m ρ _ => Cert.Kernel10.Gen.frame m ρ

/-- So does the idealized kernel. -/
theorem frame_ideal : Cert.quiescent_Kernel10Ideal := fun m ρ _ => Cert.Kernel10Ideal.Gen.frame m ρ

/-- The reference leaves its arguments; it has no semaphore. -/
theorem frame_reference : Cert.quiescent_Reference10Ideal := fun m ρ _ =>
  (θ_run Cert.Reference10Ideal.defs _ _).mono
    (fun r h => ⟨fun c => (h c).2.2, sem_eq_zero_of_no_sems (by decide) r.2⟩)
    (Cert.Reference10Ideal.Value.run (F := Ideal) m ρ)

/-- Idealization rewrote nothing. -/
theorem preserves : Cert.preserves_Kernel10_Kernel10Ideal := trivial

/-- Kernel and reference end at the same arrays, one per direction. -/
theorem algebraic : Cert.algebraic_Kernel10Ideal_Reference10Ideal := fun m ρ m' ρ' _ hag =>
  ⟨fun c => Cert.Kernel10Ideal.Rate.G0 m c, fun c => Cert.Kernel10Ideal.Rate.G1 m c, Cert.Kernel10Ideal.Rate.run m ρ,
    (θ_run Cert.Reference10Ideal.defs _ _).mono
      (fun _ h c => ⟨((h c).1).trans ((Cert.Reference10Ideal.Rate.up_eq _ _).trans
          ((congrArg (fun a => times a _) (Cert.Reference10Ideal.Rate.low_eq _ _)).trans
            (by rw [Cert.Reference10Ideal.Rate.w1_0, Cert.Reference10Ideal.Rate.w2_0, (hag c).1, (hag c).2.1, (hag c).2.2]))),
        ((h c).2.1).trans ((Cert.Reference10Ideal.Rate.up_eq _ _).trans
          ((congrArg (fun a => times a _) (Cert.Reference10Ideal.Rate.low_eq _ _)).trans
            (by rw [Cert.Reference10Ideal.Rate.w1_1, Cert.Reference10Ideal.Rate.w2_1, (hag c).1, (hag c).2.1, (hag c).2.2]))),
        (h c).2.2⟩)
      (Cert.Reference10Ideal.Value.run (F := Ideal) m' ρ')⟩

end Cert.Proof.Rate

end
-- ==== Proof.RotaryKey.lean ====
/-
  The shared rotary key before the rotary code: 64 columns of the attention's input projection. The kernel cuts those
  columns out of the weights, pads them to 128 with zeros, multiplies and drops the padding; the reference makes the whole
  projection and cuts the columns out of it. Both programs are read over the extended reals.
-/
module

public import proofs.«01_k».proof.Defs
public import proofs.«01_k».proof.Proof.Products
public import proofs.«01_k».proof.Proof.Gen.Kernel11.Frame
public import proofs.«01_k».proof.Proof.Gen.Kernel11Ideal.Frame
public import proofs.«01_k».proof.Proof.Gen.Reference11Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Reference11Ideal.RotaryKey

open Cert.Reference11Ideal Cert.Reference11Ideal.Gen Cert.Proof.Products

/-- The reference's columns of the whole product are the columns of the product. -/
theorem key_eq (x : FVec Ideal S24576x2048 .f32) (w : FVec Ideal S2048x4160 .f32) :
    (extractStridedSlice S24576x64 ![0, 1024] (Host.dotGeneral (F := Ideal) dot_S24576x2048_S2048x4160_S24576x4160_1_0_0_1_n_n none x w) slices_S24576x4160_S24576x64_0_1024 : FVec Ideal S24576x64 .f32)
      = columns 1024 64 (by decide) (times x w) := by
  funext j
  idx_vars j
  pointwise [columns, times]

end Cert.Reference11Ideal.RotaryKey

namespace Cert.Kernel11Ideal.RotaryKey

open Cert.Kernel11Ideal Cert.Kernel11Ideal.Gen Cert.Proof.Products

/-- The zero offset. -/
theorem hz : (![0, 0] : Fin 2 → Nat) = fun _ => 0 := funext fun a => by fin_cases a <;> rfl

variable (m : (ℓ : Loc nD τ sig) → Buf (Elt Ideal) ℓ) (ρ : Dev nD → PrngReg)

/-! ## The launch, the padded product -/

/-- One tile of the launch: its payload at an entry. -/
theorem pay0_apply (x0 : S512x2048.Idx → EReal) (x1 : S2048x128.Idx → EReal) (r : Fin 512) (l : Fin 128) :
    k0_pay1 (F := Ideal) x0 x1 (ix2 r l) = ∑ k : Fin 2048, x0 (ix2 r k) * x1 (ix2 k l) := by
  pointwise [k0_pay1]

/-- The tile a point of the launch writes is the payload of its two blocks. -/
theorem out0_eq (x0 : S512x2048.Idx → EReal) (x1 : S2048x128.Idx → EReal) :
    out0_2 (F := Ideal) x0 x1 = k0_pay1 (F := Ideal) x0 x1 := by
  unfold out0_2
  rw [View.canon_unit_zero hz, View.ld_unit_zero hz, View.ld_unit_zero hz]

/-- The launch's block indices. -/
theorem idx0 : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0) := by decide +kernel

/-- A row tile of the launch lies in the array. -/
theorem row0_lt (t : Fin grid0.N) (r : Fin 512) : 512 * t.val + r.val < 24576 := by
  have := t.isLt; have hN : grid0.N = 48 := N_0; omega

/-- The left factor's block at point `t` of the launch, read at an entry. -/
theorem blk0_x (c : Dev nD) (t : Fin grid0.N) (r : Fin 512) (k : Fin 2048) :
    (iblk m c 0 t : S512x2048.Idx → EReal) (ix2 r k) = (V m c main_arg0 : S24576x2048.Idx → EReal) (ix2 ⟨_, row0_lt t r⟩ k) := by
  unfold iblk
  rw [View.read_apply]
  show V m c main_arg0 _ = _
  congr 1
  funext a
  apply Fin.ext
  match a with
  | ⟨0, _⟩ => show win0_0.index t 0 * 512 + 1 * r.val = 512 * t.val + r.val; rw [(idx0 t).1.1]; omega
  | ⟨1, _⟩ => show win0_0.index t 1 * 2048 + 1 * k.val = k.val; rw [(idx0 t).1.2]; omega

/-- The weights' block at point `t` of the launch. -/
theorem blk0_w (c : Dev nD) (t : Fin grid0.N) (k : Fin 2048) (l : Fin 128) :
    (iblk m c 1 t : S2048x128.Idx → EReal) (ix2 k l) = (V m c main_v2 : S2048x128.Idx → EReal) (ix2 k l) := by
  unfold iblk
  rw [View.read_apply]
  show V m c main_v2 _ = _
  congr 1
  funext a
  apply Fin.ext
  match a with
  | ⟨0, _⟩ => show win0_1.index t 0 * 2048 + 1 * k.val = k.val; rw [(idx0 t).2.1.1]; omega
  | ⟨1, _⟩ => show win0_1.index t 1 * 128 + 1 * l.val = l.val; rw [(idx0 t).2.1.2]; omega

/-- What point `t` of the launch writes back is its tile of the whole. -/
theorem flushed0_eq (c : Dev nD) (t : Fin cfg0.N) :
    (dats m 0 c).flushed 2 t = ((cfg0.win 2).blk t).view.read (Elt Ideal) (times (V m c main_arg0) (V m c main_v2)) := by
  rw [show (dats m 0 c).flushed 2 t = (dats m 0 c).after 2 t from rfl, after0_2, out0_eq]
  refine funext fun (j : S512x128.Idx) => ?_
  rw [View.read_apply]
  have e : (((cfg0.win 2).blk t).view.emb j : S24576x128.Idx) = ix2 ⟨_, row0_lt t (j 0)⟩ (j 1) := by
    funext a
    apply Fin.ext
    match a with
    | ⟨0, _⟩ => show win0_2.index t 0 * 512 + 1 * (j 0).val = 512 * t.val + (j 0).val; rw [(idx0 t).2.2.1]; omega
    | ⟨1, _⟩ => show win0_2.index t 1 * 128 + 1 * (j 1).val = (j 1).val; rw [(idx0 t).2.2.2]; omega
  rw [e]
  idx_vars j
  show k0_pay1 (F := Ideal) (iblk m c 0 t) (iblk m c 1 t) (ix2 j0 j1)
    = (times (V m c main_arg0) (V m c main_v2)) (ix2 ⟨_, row0_lt t j0⟩ j1)
  rw [pay0_apply]
  simp only [blk0_x, blk0_w]
  rfl

/-- Which entries point `t`'s tile of the launch holds. -/
theorem mem_blk0 (t : Fin cfg0.N) (i : S24576x128.Idx) :
    i ∈ ((cfg0.win 2).blk t).view.set ↔ (512 * t.val ≤ (i 0 : Nat) ∧ (i 0 : Nat) < 512 * t.val + 512)
      ∧ 0 ≤ (i 1 : Nat) ∧ (i 1 : Nat) < 128 := by
  show i ∈ ((View.whole main_v3).slice (win0_2.rect t)).set ↔ _
  rw [View.set_slice_whole, Rect.mem_set_unit]
  refine (Fin.forall_fin_two (p := fun a => _ ≤ (i a : Nat) ∧ (i a : Nat) < _)).trans ?_
  show (win0_2.index t 0 * 512 ≤ (i 0 : Nat) ∧ (i 0 : Nat) < win0_2.index t 0 * 512 + 512)
    ∧ (win0_2.index t 1 * 128 ≤ (i 1 : Nat) ∧ (i 1 : Nat) < win0_2.index t 1 * 128 + 128) ↔ _
  rw [(idx0 t).2.2.1, (idx0 t).2.2.2]
  omega

/-- The launch's tiles cover its result. -/
theorem cover0 (i : S24576x128.Idx) :
    ∃ t : Fin cfg0.N, (cfg0.win 2).flush t = true ∧ i ∈ ((cfg0.win 2).blk t).view.set := by
  have h0 : (i 0 : Nat) < 24576 := (i 0).isLt
  have h1 : (i 1 : Nat) < 128 := (i 1).isLt
  have hN : cfg0.N = 48 := N_0
  refine ⟨⟨(i 0 : Nat) / 512, by omega⟩, flush0_2 _, ?_⟩
  rw [mem_blk0]
  dsimp only
  omega

/-- What the launch leaves in its result. -/
theorem final0 (c : Dev nD) : (dats m 0 c).arrAt 2 cfg0.N = times (V m c main_arg0) (V m c main_v2) :=
  (dats m 0 c).arrAt_eq_of_cover 2 (times (V m c main_arg0) (V m c main_v2)) (fun t _ => flushed0_eq m c t) cover0

/-! ## The padded weights and the cut result -/

/-- The key's columns of the weights with 64 columns of zeros. -/
abbrev wpad (w : S2048x4160.Idx → EReal) : S2048x128.Idx → EReal :=
  truncf (F := Ideal) (φ := .f32) .bf16 (pad S2048x128 ![0, 0] ![0, 64] ![0, 0]
    (extractStridedSlice S2048x64 ![0, 1024] w slices_S2048x4160_S2048x64_0_1024 : FVec Ideal S2048x64 .f32) (sitofp (F := Ideal) .f32 (constantI S_ 32 0#32)) pads_S2048x64_S2048x128_000_0640 h_S_) bitsLt_bf16_f32

/-- Its first 64 columns are the key's. -/
theorem wpad_apply (w : S2048x4160.Idx → EReal) (k : Fin 2048) (r : Fin 64) :
    wpad w (ix2 k ⟨r.val, by omega⟩) = w (ix2 k ⟨1024 + r.val, by omega⟩) := by
  pointwise

/-- The rotary key: columns 1024 to 1087 of the product. -/
abbrev G (c : Dev nD) : Buf (Elt Ideal) ((c : Thread nD τ).loc main_v4) :=
  columns 1024 64 (by decide) (times (m ((c : Thread nD τ).loc main_arg0)) (m ((c : Thread nD τ).loc main_arg1)))

/-- The weights the launch reads. -/
theorem entry_w (c : Dev nD) : (V m c main_v2 : S2048x128.Idx → EReal) = wpad (m ((c : Thread nD τ).loc main_arg1)) := by
  show StableHlo.after (List.flatten [hostOps0, hostOps0_1, hostOps0_2]) (fun b => m (c, b)) (Proc.devRef .tc main_v2) = _
  simp only [List.flatten_cons, List.flatten_nil, List.append_nil, List.cons_append, List.nil_append]
  after_results <;> rfl

/-- The product's first 64 columns are the key. -/
theorem cut (x : S24576x2048.Idx → EReal) (w : S2048x4160.Idx → EReal) :
    (extractStridedSlice S24576x64 ![0, 0] (times x (wpad w) : FVec Ideal S24576x128 .f32) slices_S24576x128_S24576x64_0_0 : S24576x64.Idx → EReal)
      = columns 1024 64 (by decide) (times x w) := by
  funext j
  idx_vars j
  refine Eq.trans (b := times x (wpad w) (ix2 j0 ⟨j1.val, by omega⟩)) ?_ (Finset.sum_congr rfl fun k _ => congrArg (x (ix2 j0 k) * ·) (wpad_apply w k j1))
  generalize times x (wpad w) = p
  pointwise

/-- The result after the host code that follows the launch. -/
theorem tail_eq (c : Dev nD) : Pipeline.afterTail₀ cfgs (dats m) 0 (V0 m) [hostOps1] c main_v4 = G m c := by
  unfold Pipeline.afterTail₀
  have h : ∀ U : Valuation τ sig (Elt Ideal), StableHlo.after (List.flatten [hostOps1]) U (Proc.devRef .tc main_v4)
      = extractStridedSlice S24576x64 ![0, 0] (U (Proc.devRef .tc main_v3)) slices_S24576x128_S24576x64_0_0 := by
    intro U
    simp only [List.flatten_cons, List.flatten_nil, List.append_nil]
    after_results <;> rfl
  refine (h _).trans ?_
  rw [show Pipeline.withArrays (cfgs 0).spec c (V0 m c) (fun w => (dats m 0 c).arrAt w (cfgs 0).N) (Proc.devRef .tc main_v3) = (dats m 0 c).arrAt 2 cfg0.N
    from Pipeline.withArrays_arr (cfgs 0).spec launch0.win.arr_inj c (V0 m c) (fun w => (dats m 0 c).arrAt w (cfgs 0).N) 2, final0, entry_w,
    V_main_arg0]
  exact cut _ _

/-- The run, read: the result is the key, and the arguments are unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h.1 c).2 main_v4 (Pipeline.mem_restRefs_of main_v4 (by decide) (by decide))).trans (tail_eq m c), h.2 c⟩)
    (θ_run_and (run_main m ρ) (unchanged m ρ))

end Cert.Kernel11Ideal.RotaryKey

namespace Cert.Proof.RotaryKey

open Cert.Proof.Products

/-- The kernel runs and leaves its arguments. -/
theorem frame_kernel : Cert.quiescent_Kernel11 := fun m ρ _ => Cert.Kernel11.Gen.frame m ρ

/-- So does the idealized kernel. -/
theorem frame_ideal : Cert.quiescent_Kernel11Ideal := fun m ρ _ => Cert.Kernel11Ideal.Gen.frame m ρ

/-- The reference leaves its arguments; it has no semaphore. -/
theorem frame_reference : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

/-- Idealization rewrote nothing. -/
theorem preserves : Cert.preserves_Kernel11_Kernel11Ideal := trivial

/-- Kernel and reference end at the same rotary key. -/
theorem algebraic : Cert.algebraic_Kernel11Ideal_Reference11Ideal := fun m ρ m' ρ' _ hag =>
  ⟨fun c => Cert.Kernel11Ideal.RotaryKey.G m c, Cert.Kernel11Ideal.RotaryKey.run m ρ,
    (θ_run Cert.Reference11Ideal.defs _ _).mono
      (fun _ h c => ⟨(h c).1.trans ((Cert.Reference11Ideal.RotaryKey.key_eq _ _).trans (by rw [(hag c).1, (hag c).2])),
        (h c).2⟩)
      (Cert.Reference11Ideal.Value.run (F := Ideal) m' ρ')⟩

end Cert.Proof.RotaryKey

end
-- ==== Proof.Hidden.lean ====
/-
  The feed-forward's hidden activations from the tokens themselves: the pre-norm and the gated product, two launches of
  which the second reads what the first wrote. Both programs are read over the extended reals.
-/
module

public import proofs.«01_k».proof.Defs
public import proofs.«01_k».proof.Proof.Products
public import proofs.«01_k».proof.Proof.GateUp
public import proofs.«01_k».proof.Proof.Gen.Kernel12.Frame
public import proofs.«01_k».proof.Proof.Gen.Kernel12Ideal.Frame
public import proofs.«01_k».proof.Proof.Gen.Reference12Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Reference12Ideal.Hidden

open Cert.Reference12Ideal Cert.Reference12Ideal.Gen Cert.Proof.Products Cert.Proof.GateUp

/-- The reference's normed tokens. -/
theorem norm_eq (x : FVec Ideal S24576x2048 .f32) (g : FVec Ideal S2048 .f32) :
    ((mulf (mulf x (broadcastInDim S24576x2048 ![0, 1] bcast_S24576x1_S24576x2048_0_1 (Host.rsqrt (addf (Host.divf (broadcastInDim S24576x1 ![0] bcast_S24576_S24576x1_0 (Host.reduceAdd (mulf x x) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 g))) : FVec Ideal S24576x2048 .f32)
      = rowNorm x g := by
  funext j
  idx_vars j
  pointwise [rowNorm]

/-- The reference's gated product of activations holding anything. -/
theorem hidden_eq (h : S24576x2048.Idx → EReal) (wg wu : S2048x5632.Idx → EReal) :
    (truncf .bf16 (mulf (mulf (Host.dotGeneral (F := Ideal) (φ₁ := .f32) (φ₂ := .f32) dot_S24576x2048_S2048x5632_S24576x5632_1_0_0_1_n_n none h wg) (Host.divf (broadcastInDim S24576x5632 ![] bcast_S_S24576x5632 (constant S_ .f32 0x3F800000#32)) (addf (broadcastInDim S24576x5632 ![] bcast_S_S24576x5632 (constant S_ .f32 0x3F800000#32)) (Host.exp (Host.negf (Host.dotGeneral (F := Ideal) (φ₁ := .f32) (φ₂ := .f32) dot_S24576x2048_S2048x5632_S24576x5632_1_0_0_1_n_n none h wg)))))) (Host.dotGeneral (F := Ideal) (φ₁ := .f32) (φ₂ := .f32) dot_S24576x2048_S2048x5632_S24576x5632_1_0_0_1_n_n none h wu)) bitsLt_bf16_f32 : FVec Ideal S24576x5632 .bf16)
      = swiglu h wg wu := by
  funext j
  idx_vars j
  pointwise [swiglu, Ideal.logistic]

end Cert.Reference12Ideal.Hidden

namespace Cert.Kernel12Ideal.Hidden

open Cert.Kernel12Ideal Cert.Kernel12Ideal.Gen Cert.Proof.Products Cert.Proof.GateUp

/-- The zero offset. -/
theorem hz : (![0, 0] : Fin 2 → Nat) = fun _ => 0 := funext fun a => by fin_cases a <;> rfl

variable (V : (c : Dev nD) → (b : Ref sig .tc) → Buf (Elt Ideal) ((c : Thread nD τ).loc b))

/-! ## The first launch, the pre-norm, on arrays holding anything -/

/-- One tile of the first launch: its payload at an entry. -/
theorem pay0_apply (x0 : S512x2048.Idx → EReal) (x1 : S1x2048.Idx → EReal) (r : Fin 512) (l : Fin 2048) :
    k0_pay1 (F := Ideal) x0 x1 (ix2 r l) = x0 (ix2 r l) * Ideal.rsqrt (Ideal.div (∑ k : Fin 2048, x0 (ix2 r k) * x0 (ix2 r k)) (Ideal.ofBits .f32 0x45000000#32)
        + Ideal.ofBits .f32 0x358637BD#32) * x1 (ix2 0 l) := by
  pointwise [k0_pay1]

/-- The tile a point of the first launch writes is the payload of its two blocks. -/
theorem out0_eq (x0 : S512x2048.Idx → EReal) (x1 : S1x2048.Idx → EReal) :
    out0_2 (F := Ideal) x0 x1 = k0_pay1 (F := Ideal) x0 x1 := by
  unfold out0_2
  rw [View.canon_unit_zero hz, View.ld_unit_zero hz, View.ld_unit_zero hz]

/-- The first launch's block indices. -/
theorem idx0 : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0) := by decide +kernel

/-- A row tile of the first launch lies in the array. -/
theorem row0_lt (t : Fin grid0.N) (r : Fin 512) : 512 * t.val + r.val < 24576 := by
  have := t.isLt; have hN : grid0.N = 48 := N_0; omega

/-- The tokens' block at point `t` of the first launch, read at an entry. -/
theorem blk0_x (c : Dev nD) (t : Fin grid0.N) (r : Fin 512) (k : Fin 2048) :
    (iblk0 V c 0 t : S512x2048.Idx → EReal) (ix2 r k) = (V c main_arg0 : S24576x2048.Idx → EReal) (ix2 ⟨_, row0_lt t r⟩ k) := by
  unfold iblk0
  rw [View.read_apply]
  show V c main_arg0 _ = _
  congr 1
  funext a
  apply Fin.ext
  match a with
  | ⟨0, _⟩ => show win0_0.index t 0 * 512 + 1 * r.val = 512 * t.val + r.val; rw [(idx0 t).1.1]; omega
  | ⟨1, _⟩ => show win0_0.index t 1 * 2048 + 1 * k.val = k.val; rw [(idx0 t).1.2]; omega

/-- The gain's block, the whole row at every point of the first launch. -/
theorem blk0_g (c : Dev nD) (t : Fin grid0.N) (l : Fin 2048) :
    (iblk0 V c 1 t : S1x2048.Idx → EReal) (ix2 0 l) = (V c main_v0 : S1x2048.Idx → EReal) (ix2 0 l) := by
  unfold iblk0
  rw [View.read_apply]
  show V c main_v0 _ = _
  congr 1
  funext a
  apply Fin.ext
  match a with
  | ⟨0, _⟩ => show win0_1.index t 0 * 1 + 1 * (0 : Fin 1).val = (0 : Fin 1).val; rw [(idx0 t).2.1.1]; omega
  | ⟨1, _⟩ => show win0_1.index t 1 * 2048 + 1 * l.val = l.val; rw [(idx0 t).2.1.2]; omega

/-- What point `t` of the first launch writes back is its tile of the whole. -/
theorem flushed0_eq (c : Dev nD) (t : Fin cfg0.N) :
    (dat0 V c).flushed 2 t = ((cfg0.win 2).blk t).view.read (Elt Ideal) (rowNorm (V c main_arg0) (fun i => (V c main_v0 : S1x2048.Idx → EReal) (ix2 0 (i 0)))) := by
  rw [show (dat0 V c).flushed 2 t = (dat0 V c).after 2 t from rfl, after0_2, out0_eq]
  refine funext fun (j : S512x2048.Idx) => ?_
  rw [View.read_apply]
  have e : (((cfg0.win 2).blk t).view.emb j : S24576x2048.Idx) = ix2 ⟨_, row0_lt t (j 0)⟩ (j 1) := by
    funext a
    apply Fin.ext
    match a with
    | ⟨0, _⟩ => show win0_2.index t 0 * 512 + 1 * (j 0).val = 512 * t.val + (j 0).val; rw [(idx0 t).2.2.1]; omega
    | ⟨1, _⟩ => show win0_2.index t 1 * 2048 + 1 * (j 1).val = (j 1).val; rw [(idx0 t).2.2.2]; omega
  rw [e]
  idx_vars j
  show k0_pay1 (F := Ideal) (iblk0 V c 0 t) (iblk0 V c 1 t) (ix2 j0 j1)
    = (rowNorm (V c main_arg0) (fun i => (V c main_v0 : S1x2048.Idx → EReal) (ix2 0 (i 0)))) (ix2 ⟨_, row0_lt t j0⟩ j1)
  rw [pay0_apply]
  simp only [blk0_x, blk0_g]
  rfl

/-- Which entries point `t`'s tile of the first launch holds. -/
theorem mem_blk0 (t : Fin cfg0.N) (i : S24576x2048.Idx) :
    i ∈ ((cfg0.win 2).blk t).view.set ↔ (512 * t.val ≤ (i 0 : Nat) ∧ (i 0 : Nat) < 512 * t.val + 512)
      ∧ 0 ≤ (i 1 : Nat) ∧ (i 1 : Nat) < 2048 := by
  show i ∈ ((View.whole main_v1).slice (win0_2.rect t)).set ↔ _
  rw [View.set_slice_whole, Rect.mem_set_unit]
  refine (Fin.forall_fin_two (p := fun a => _ ≤ (i a : Nat) ∧ (i a : Nat) < _)).trans ?_
  show (win0_2.index t 0 * 512 ≤ (i 0 : Nat) ∧ (i 0 : Nat) < win0_2.index t 0 * 512 + 512)
    ∧ (win0_2.index t 1 * 2048 ≤ (i 1 : Nat) ∧ (i 1 : Nat) < win0_2.index t 1 * 2048 + 2048) ↔ _
  rw [(idx0 t).2.2.1, (idx0 t).2.2.2]
  omega

/-- The first launch's tiles cover its result. -/
theorem cover0 (i : S24576x2048.Idx) :
    ∃ t : Fin cfg0.N, (cfg0.win 2).flush t = true ∧ i ∈ ((cfg0.win 2).blk t).view.set := by
  have h0 : (i 0 : Nat) < 24576 := (i 0).isLt
  have h1 : (i 1 : Nat) < 2048 := (i 1).isLt
  have hN : cfg0.N = 48 := N_0
  refine ⟨⟨(i 0 : Nat) / 512, by omega⟩, flush0_2 _, ?_⟩
  rw [mem_blk0]
  dsimp only
  omega

/-- What the first launch leaves in its result. -/
theorem final0 (c : Dev nD) : (dat0 V c).arrAt 2 cfg0.N = rowNorm (V c main_arg0) (fun i => (V c main_v0 : S1x2048.Idx → EReal) (ix2 0 (i 0))) :=
  (dat0 V c).arrAt_eq_of_cover 2 (rowNorm (V c main_arg0) (fun i => (V c main_v0 : S1x2048.Idx → EReal) (ix2 0 (i 0)))) (fun t _ => flushed0_eq V c t) cover0

/-! ## The second launch, the gated product, on arrays holding anything -/

/-- One tile of the second launch: its payload at an entry. -/
theorem pay1_apply (x0 : S512x2048.Idx → EReal) (x1 x2 : S2048x512.Idx → EReal) (r l : Fin 512) :
    k1_pay1 (F := Ideal) x0 x1 x2 (ix2 r l)
      = (∑ k : Fin 2048, x0 (ix2 r k) * x1 (ix2 k l)) * Ideal.logistic (∑ k : Fin 2048, x0 (ix2 r k) * x1 (ix2 k l))
        * ∑ k : Fin 2048, x0 (ix2 r k) * x2 (ix2 k l) := by
  pointwise [k1_pay1, logistic]

/-- The tile a point of the second launch writes is the payload of its three blocks. -/
theorem out1_eq (x0 : S512x2048.Idx → EReal) (x1 x2 : S2048x512.Idx → EReal) :
    out1_3 (F := Ideal) x0 x1 x2 = k1_pay1 (F := Ideal) x0 x1 x2 := by
  unfold out1_3
  rw [View.canon_unit_zero hz, View.ld_unit_zero hz, View.ld_unit_zero hz, View.ld_unit_zero hz]

/-- The second launch's block indices: point `t` is row tile `t / 11`, column tile `t % 11`. -/
theorem idx1 : ∀ t : Fin grid1.N, (win1_0.index t 0 = t.val / 11 ∧ win1_0.index t 1 = 0)
    ∧ (win1_1.index t 0 = 0 ∧ win1_1.index t 1 = t.val % 11) ∧ (win1_2.index t 0 = 0 ∧ win1_2.index t 1 = t.val % 11)
    ∧ (win1_3.index t 0 = t.val / 11 ∧ win1_3.index t 1 = t.val % 11) := by decide +kernel

/-- A row tile of the second launch lies in the array. -/
theorem row1_lt (t : Fin grid1.N) (r : Fin 512) : 512 * (t.val / 11) + r.val < 24576 := by
  have := t.isLt; have hN : grid1.N = 528 := N_1; omega

/-- A column tile of the second launch lies in the array. -/
theorem col1_lt (t : Fin grid1.N) (l : Fin 512) : 512 * (t.val % 11) + l.val < 5632 := by omega

/-- The activations' block at point `t` of the second launch, read at an entry. -/
theorem blk1_h (c : Dev nD) (t : Fin grid1.N) (r : Fin 512) (k : Fin 2048) :
    (iblk1 V c 0 t : S512x2048.Idx → EReal) (ix2 r k) = (V c main_v1 : S24576x2048.Idx → EReal) (ix2 ⟨_, row1_lt t r⟩ k) := by
  unfold iblk1
  rw [View.read_apply]
  show V c main_v1 _ = _
  congr 1
  funext a
  apply Fin.ext
  match a with
  | ⟨0, _⟩ => show win1_0.index t 0 * 512 + 1 * r.val = 512 * (t.val / 11) + r.val; rw [(idx1 t).1.1]; omega
  | ⟨1, _⟩ => show win1_0.index t 1 * 2048 + 1 * k.val = k.val; rw [(idx1 t).1.2]; omega

/-- The gate weights' block at point `t` of the second launch. -/
theorem blk1_g (c : Dev nD) (t : Fin grid1.N) (k : Fin 2048) (l : Fin 512) :
    (iblk1 V c 1 t : S2048x512.Idx → EReal) (ix2 k l) = (V c main_v2 : S2048x5632.Idx → EReal) (ix2 k ⟨_, col1_lt t l⟩) := by
  unfold iblk1
  rw [View.read_apply]
  show V c main_v2 _ = _
  congr 1
  funext a
  apply Fin.ext
  match a with
  | ⟨0, _⟩ => show win1_1.index t 0 * 2048 + 1 * k.val = k.val; rw [(idx1 t).2.1.1]; omega
  | ⟨1, _⟩ => show win1_1.index t 1 * 512 + 1 * l.val = 512 * (t.val % 11) + l.val; rw [(idx1 t).2.1.2]; omega

/-- The up weights' block at point `t` of the second launch. -/
theorem blk1_u (c : Dev nD) (t : Fin grid1.N) (k : Fin 2048) (l : Fin 512) :
    (iblk1 V c 2 t : S2048x512.Idx → EReal) (ix2 k l) = (V c main_v3 : S2048x5632.Idx → EReal) (ix2 k ⟨_, col1_lt t l⟩) := by
  unfold iblk1
  rw [View.read_apply]
  show V c main_v3 _ = _
  congr 1
  funext a
  apply Fin.ext
  match a with
  | ⟨0, _⟩ => show win1_2.index t 0 * 2048 + 1 * k.val = k.val; rw [(idx1 t).2.2.1.1]; omega
  | ⟨1, _⟩ => show win1_2.index t 1 * 512 + 1 * l.val = 512 * (t.val % 11) + l.val; rw [(idx1 t).2.2.1.2]; omega

/-- What point `t` of the second launch writes back is its tile of the whole. -/
theorem flushed1_eq (c : Dev nD) (t : Fin cfg1.N) :
    (dat1 V c).flushed 3 t = ((cfg1.win 3).blk t).view.read (Elt Ideal) (swiglu (V c main_v1) (V c main_v2) (V c main_v3)) := by
  rw [show (dat1 V c).flushed 3 t = (dat1 V c).after 3 t from rfl, after1_3, out1_eq]
  refine funext fun (j : S512x512.Idx) => ?_
  rw [View.read_apply]
  have e : (((cfg1.win 3).blk t).view.emb j : S24576x5632.Idx) = ix2 ⟨_, row1_lt t (j 0)⟩ ⟨_, col1_lt t (j 1)⟩ := by
    funext a
    apply Fin.ext
    match a with
    | ⟨0, _⟩ => show win1_3.index t 0 * 512 + 1 * (j 0).val = 512 * (t.val / 11) + (j 0).val; rw [(idx1 t).2.2.2.1]; omega
    | ⟨1, _⟩ => show win1_3.index t 1 * 512 + 1 * (j 1).val = 512 * (t.val % 11) + (j 1).val; rw [(idx1 t).2.2.2.2]; omega
  rw [e]
  idx_vars j
  show k1_pay1 (F := Ideal) (iblk1 V c 0 t) (iblk1 V c 1 t) (iblk1 V c 2 t) (ix2 j0 j1)
    = (swiglu (V c main_v1) (V c main_v2) (V c main_v3)) (ix2 ⟨_, row1_lt t j0⟩ ⟨_, col1_lt t j1⟩)
  rw [pay1_apply]
  simp only [blk1_h, blk1_g, blk1_u]
  rfl

/-- Which entries point `t`'s tile of the second launch holds. -/
theorem mem_blk1 (t : Fin cfg1.N) (i : S24576x5632.Idx) :
    i ∈ ((cfg1.win 3).blk t).view.set ↔ (512 * (t.val / 11) ≤ (i 0 : Nat) ∧ (i 0 : Nat) < 512 * (t.val / 11) + 512)
      ∧ 512 * (t.val % 11) ≤ (i 1 : Nat) ∧ (i 1 : Nat) < 512 * (t.val % 11) + 512 := by
  show i ∈ ((View.whole main_v4).slice (win1_3.rect t)).set ↔ _
  rw [View.set_slice_whole, Rect.mem_set_unit]
  refine (Fin.forall_fin_two (p := fun a => _ ≤ (i a : Nat) ∧ (i a : Nat) < _)).trans ?_
  show (win1_3.index t 0 * 512 ≤ (i 0 : Nat) ∧ (i 0 : Nat) < win1_3.index t 0 * 512 + 512)
    ∧ (win1_3.index t 1 * 512 ≤ (i 1 : Nat) ∧ (i 1 : Nat) < win1_3.index t 1 * 512 + 512) ↔ _
  rw [(idx1 t).2.2.2.1, (idx1 t).2.2.2.2]
  omega

/-- The second launch's tiles cover its result. -/
theorem cover1 (i : S24576x5632.Idx) :
    ∃ t : Fin cfg1.N, (cfg1.win 3).flush t = true ∧ i ∈ ((cfg1.win 3).blk t).view.set := by
  have h0 : (i 0 : Nat) < 24576 := (i 0).isLt
  have h1 : (i 1 : Nat) < 5632 := (i 1).isLt
  have hN : cfg1.N = 528 := N_1
  refine ⟨⟨(i 0 : Nat) / 512 * 11 + (i 1 : Nat) / 512, by omega⟩, flush1_3 _, ?_⟩
  rw [mem_blk1]
  dsimp only
  omega

/-- What the second launch leaves in its result. -/
theorem final1 (c : Dev nD) : (dat1 V c).arrAt 3 cfg1.N = swiglu (V c main_v1) (V c main_v2) (V c main_v3) :=
  (dat1 V c).arrAt_eq_of_cover 3 (swiglu (V c main_v1) (V c main_v2) (V c main_v3)) (fun t _ => flushed1_eq V c t) cover1

/-! ## The two launches in a row -/

variable (m : (ℓ : Loc nD τ sig) → Buf (Elt Ideal) ℓ) (ρ : Dev nD → PrngReg)

/-- The hidden activations of the normed tokens. -/
abbrev G (c : Dev nD) : Buf (Elt Ideal) ((c : Thread nD τ).loc main_v4) :=
  swiglu (rowNorm (m ((c : Thread nD τ).loc main_arg0)) (m ((c : Thread nD τ).loc main_arg1)))
    (m ((c : Thread nD τ).loc main_arg2)) (m ((c : Thread nD τ).loc main_arg3))

/-- The gain the first launch reads is the argument laid out as one row. -/
theorem entry_g (c : Dev nD) : (fun i : S2048.Idx => (V1 m ρ c main_v0 : S1x2048.Idx → EReal) (ix2 0 (i 0))) = m ((c : Thread nD τ).loc main_arg1) := by
  have h : StableHlo.after hostOps0 (W0 m ρ c) (Proc.devRef .tc main_v0) = shapeCast S1x2048 (W0 m ρ c (Proc.devRef .tc main_arg1)) shapeCasts_S2048_S1x2048 := by
    after_results
    rfl
  funext i
  idx_vars i
  refine (congrFun h (ix2 0 i0)).trans (Eq.trans ?_ (congrFun (W0_args m ρ c main_arg1 (by decide)) (ix1 i0)))
  generalize W0 m ρ c (Proc.devRef .tc main_arg1) = u
  pointwise

/-- The first launch leaves the normed tokens. -/
theorem after_h (c : Dev nD) : W2 m ρ c (Proc.devRef .tc main_v1)
    = rowNorm (m ((c : Thread nD τ).loc main_arg0)) (m ((c : Thread nD τ).loc main_arg1)) := by
  refine (W2_arr m ρ c 2).trans ((final0 (V1 m ρ) c).trans ?_)
  rw [entry_g, show V1 m ρ c main_arg0 = m ((c : Thread nD τ).loc main_arg0) from W1_args m ρ c main_arg0 (by decide)]

/-- The gate weights the second launch reads are the argument (the cast to bf16 changes nothing over the reals). -/
theorem entry_gate (c : Dev nD) : (V3 m ρ c main_v2 : S2048x5632.Idx → EReal) = m ((c : Thread nD τ).loc main_arg2) := by
  have h : StableHlo.after hostOps1 (W2 m ρ c) (Proc.devRef .tc main_v2) = truncf (F := Ideal) .bf16 (W2 m ρ c (Proc.devRef .tc main_arg2)) bitsLt_bf16_f32 := by
    after_results
  exact h.trans (W2_args m ρ c main_arg2 (by decide))

/-- The up weights the second launch reads are the argument (the cast to bf16 changes nothing over the reals). -/
theorem entry_up (c : Dev nD) : (V3 m ρ c main_v3 : S2048x5632.Idx → EReal) = m ((c : Thread nD τ).loc main_arg3) := by
  have h : StableHlo.after hostOps1 (W2 m ρ c) (Proc.devRef .tc main_v3) = truncf (F := Ideal) .bf16 (W2 m ρ c (Proc.devRef .tc main_arg3)) bitsLt_bf16_f32 := by
    after_results
  exact h.trans (W2_args m ρ c main_arg3 (by decide))

/-- The hidden activations at the end of the run. -/
theorem last (c : Dev nD) : W4 m ρ c (Proc.devRef .tc main_v4) = G m c := by
  refine (W4_arr m ρ c 3).trans ((final1 (V3 m ρ) c).trans ?_)
  rw [show V3 m ρ c main_v1 = W2 m ρ c (Proc.devRef .tc main_v1) from W3_of m ρ c main_v1 (by decide), after_h, entry_gate, entry_up]

open Idealize.ShloMosaic.Rounds Idealize.SL Idealize.SL.RA Idealize.SL.BI Idealize.SL.BI.BIBase Idealize.SL.BI.Laws Idealize.SL.ProofMode
open scoped Idealize.SL.BI

set_option backward.isDefEq.respectTransparency.types false in
/-- The run, read: every buffer outside the launches ends at the last boundary's contents. -/
theorem run_all : θ_run defs (onTc (τ := τ) (main (F := Ideal))) ⟨m, fun _ => 0, ρ⟩ (fun r =>
      ∀ c : Dev nD, ∀ b ∈ Pipeline.ucRefs τ sig, r.2.mem (c, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c => h c)

/-- The run, read: the result is the hidden activations of the normed tokens, and the arguments are unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c _ (mem_uc main_v4 (by decide))).trans (last m ρ c),
     (h c _ (mem_uc main_arg0 (by decide))).trans (W4_args m ρ c main_arg0 (by decide)),
     (h c _ (mem_uc main_arg1 (by decide))).trans (W4_args m ρ c main_arg1 (by decide)),
     (h c _ (mem_uc main_arg2 (by decide))).trans (W4_args m ρ c main_arg2 (by decide)),
     (h c _ (mem_uc main_arg3 (by decide))).trans (W4_args m ρ c main_arg3 (by decide))⟩) (run_all m ρ)

end Cert.Kernel12Ideal.Hidden

namespace Cert.Proof.Hidden

open Cert.Proof.Products Cert.Proof.GateUp

/-- The kernel runs and leaves its arguments. -/
theorem frame_kernel : Cert.quiescent_Kernel12 := fun m ρ _ => Cert.Kernel12.Gen.frame m ρ

/-- So does the idealized kernel. -/
theorem frame_ideal : Cert.quiescent_Kernel12Ideal := fun m ρ _ => Cert.Kernel12Ideal.Gen.frame m ρ

/-- The reference leaves its arguments; it has no semaphore. -/
theorem frame_reference : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

/-- Idealization rewrote nothing. -/
theorem preserves : Cert.preserves_Kernel12_Kernel12Ideal := trivial

/-- Kernel and reference end at the same hidden activations. -/
theorem algebraic : Cert.algebraic_Kernel12Ideal_Reference12Ideal := fun m ρ m' ρ' _ hag =>
  ⟨fun c => Cert.Kernel12Ideal.Hidden.G m c, Cert.Kernel12Ideal.Hidden.run m ρ,
    (θ_run Cert.Reference12Ideal.defs _ _).mono
      (fun _ h c => ⟨(h c).1.trans ((Cert.Reference12Ideal.Hidden.hidden_eq _ _ _).trans
          ((congrArg (fun a => swiglu a _ _) (Cert.Reference12Ideal.Hidden.norm_eq _ _)).trans
            (by rw [(hag c).1, (hag c).2.1, (hag c).2.2.1, (hag c).2.2.2]))),
        (h c).2⟩)
      (Cert.Reference12Ideal.Value.run (F := Ideal) m' ρ')⟩

end Cert.Proof.Hidden

end
-- ==== Proof.LayerInput.lean ====
/-
  The input of an attention layer from the tokens themselves: the pre-norm, the input projection without the shared rotary
  key's columns, and those columns by a call of their own; the last two launches read what the first wrote. Both programs
  are read over the extended reals.
-/
module

public import proofs.«01_k».proof.Defs
public import proofs.«01_k».proof.Proof.Products
public import proofs.«01_k».proof.Proof.InputProjection
public import proofs.«01_k».proof.Proof.Gen.Kernel13.Frame
public import proofs.«01_k».proof.Proof.Gen.Kernel13Ideal.Frame
public import proofs.«01_k».proof.Proof.Gen.Reference13Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.Reference13Ideal.LayerInput

open Cert.Reference13Ideal Cert.Reference13Ideal.Gen Cert.Proof.Products Cert.Proof.InputProjection

/-- The reference's normed tokens. -/
theorem norm_eq (x : FVec Ideal S24576x2048 .f32) (g : FVec Ideal S2048 .f32) :
    ((mulf (mulf x (broadcastInDim S24576x2048 ![0, 1] bcast_S24576x1_S24576x2048_0_1 (Host.rsqrt (addf (Host.divf (broadcastInDim S24576x1 ![0] bcast_S24576_S24576x1_0 (Host.reduceAdd (mulf x x) (constant S_ .f32 0x00000000#32) reducesTo_S24576x2048_S24576_d1 h_S_)) (broadcastInDim S24576x1 ![] bcast_S_S24576x1 (constant S_ .f32 0x45000000#32))) (broadcastInDim S24576x1 ![] bcast_S_S24576x1 (constant S_ .f32 0x358637BD#32)))))) (broadcastInDim S24576x2048 ![0, 1] bcast_S1x2048_S24576x2048_0_1 (broadcastInDim S1x2048 ![1] bcast_S2048_S1x2048_1 g))) : FVec Ideal S24576x2048 .f32)
      = rowNorm x g := by
  funext j
  idx_vars j
  pointwise [rowNorm]

/-- The reference's projection of activations holding anything, its five parts joined. -/
theorem z_eq (h : S24576x2048.Idx → EReal) (w : S2048x4160.Idx → EReal) :
    ((concatenate S24576x4096 1 [⟨S24576x512, ((extractStridedSlice S24576x512 ![0, 0] (Host.dotGeneral (F := Ideal) (φ₁ := .f32) (φ₂ := .f32) dot_S24576x2048_S2048x4160_S24576x4160_1_0_0_1_n_n none h w) slices_S24576x4160_S24576x512_0_0) : (⟨S24576x512, .f32⟩ : BufTy).Contents (Elt Ideal))⟩, ⟨S24576x512, ((extractStridedSlice S24576x512 ![0, 512] (Host.dotGeneral (F := Ideal) (φ₁ := .f32) (φ₂ := .f32) dot_S24576x2048_S2048x4160_S24576x4160_1_0_0_1_n_n none h w) slices_S24576x4160_S24576x512_0_512) : (⟨S24576x512, .f32⟩ : BufTy).Contents (Elt Ideal))⟩, ⟨S24576x1024, ((extractStridedSlice S24576x1024 ![0, 1088] (Host.dotGeneral (F := Ideal) (φ₁ := .f32) (φ₂ := .f32) dot_S24576x2048_S2048x4160_S24576x4160_1_0_0_1_n_n none h w) slices_S24576x4160_S24576x1024_0_1088) : (⟨S24576x1024, .f32⟩ : BufTy).Contents (Elt Ideal))⟩, ⟨S24576x1024, ((extractStridedSlice S24576x1024 ![0, 2112] (Host.dotGeneral (F := Ideal) (φ₁ := .f32) (φ₂ := .f32) dot_S24576x2048_S2048x4160_S24576x4160_1_0_0_1_n_n none h w) slices_S24576x4160_S24576x1024_0_2112) : (⟨S24576x1024, .f32⟩ : BufTy).Contents (Elt Ideal))⟩, ⟨S24576x1024, ((extractStridedSlice S24576x1024 ![0, 3136] (Host.dotGeneral (F := Ideal) (φ₁ := .f32) (φ₂ := .f32) dot_S24576x2048_S2048x4160_S24576x4160_1_0_0_1_n_n none h w) slices_S24576x4160_S24576x1024_0_3136) : (⟨S24576x1024, .f32⟩ : BufTy).Contents (Elt Ideal))⟩] concatenates_S24576x512_S24576x512_S24576x1024_S24576x1024_S24576x1024_S24576x4096_d1 : (⟨S24576x4096, .f32⟩ : BufTy).Contents (Elt Ideal)) : FVec Ideal S24576x4096 .f32)
      = projected h w := by
  funext j
  idx_vars j
  pointwise [projected]
  split_ifs <;>
    exact Finset.sum_congr rfl fun k _ => congrArg (fun n => h (ix2 j0 k) * w (ix2 k n))
      (eq_column _ _ (fun _ => by first | rfl | (dsimp only; omega)) (fun _ => by first | rfl | (dsimp only; omega)))

/-- The reference's rotary key of activations holding anything. -/
theorem key_eq (h : S24576x2048.Idx → EReal) (w : S2048x4160.Idx → EReal) :
    (extractStridedSlice S24576x64 ![0, 1024] (Host.dotGeneral (F := Ideal) (φ₁ := .f32) (φ₂ := .f32) dot_S24576x2048_S2048x4160_S24576x4160_1_0_0_1_n_n none h w) slices_S24576x4160_S24576x64_0_1024 : FVec Ideal S24576x64 .f32)
      = columns 1024 64 (by decide) (times h w) := by
  funext j
  idx_vars j
  pointwise [columns, times]

end Cert.Reference13Ideal.LayerInput

namespace Cert.Kernel13Ideal.LayerInput

open Cert.Kernel13Ideal Cert.Kernel13Ideal.Gen Cert.Proof.Products Cert.Proof.InputProjection

/-- The zero offset. -/
theorem hz : (![0, 0] : Fin 2 → Nat) = fun _ => 0 := funext fun a => by fin_cases a <;> rfl

variable (V : (c : Dev nD) → (b : Ref sig .tc) → Buf (Elt Ideal) ((c : Thread nD τ).loc b))

/-! ## The first launch, the pre-norm, on arrays holding anything -/

/-- One tile of the first launch: its payload at an entry. -/
theorem pay0_apply (x0 : S512x2048.Idx → EReal) (x1 : S1x2048.Idx → EReal) (r : Fin 512) (l : Fin 2048) :
    k0_pay1 (F := Ideal) x0 x1 (ix2 r l) = x0 (ix2 r l) * Ideal.rsqrt (Ideal.div (∑ k : Fin 2048, x0 (ix2 r k) * x0 (ix2 r k)) (Ideal.ofBits .f32 0x45000000#32)
        + Ideal.ofBits .f32 0x358637BD#32) * x1 (ix2 0 l) := by
  pointwise [k0_pay1]

/-- The tile a point of the first launch writes is the payload of its two blocks. -/
theorem out0_eq (x0 : S512x2048.Idx → EReal) (x1 : S1x2048.Idx → EReal) :
    out0_2 (F := Ideal) x0 x1 = k0_pay1 (F := Ideal) x0 x1 := by
  unfold out0_2
  rw [View.canon_unit_zero hz, View.ld_unit_zero hz, View.ld_unit_zero hz]

/-- The first launch's block indices. -/
theorem idx0 : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0) := by decide +kernel

/-- A row tile of the first launch lies in the array. -/
theorem row0_lt (t : Fin grid0.N) (r : Fin 512) : 512 * t.val + r.val < 24576 := by
  have := t.isLt; have hN : grid0.N = 48 := N_0; omega

/-- The tokens' block at point `t` of the first launch, read at an entry. -/
theorem blk0_x (c : Dev nD) (t : Fin grid0.N) (r : Fin 512) (k : Fin 2048) :
    (iblk0 V c 0 t : S512x2048.Idx → EReal) (ix2 r k) = (V c main_arg0 : S24576x2048.Idx → EReal) (ix2 ⟨_, row0_lt t r⟩ k) := by
  unfold iblk0
  rw [View.read_apply]
  show V c main_arg0 _ = _
  congr 1
  funext a
  apply Fin.ext
  match a with
  | ⟨0, _⟩ => show win0_0.index t 0 * 512 + 1 * r.val = 512 * t.val + r.val; rw [(idx0 t).1.1]; omega
  | ⟨1, _⟩ => show win0_0.index t 1 * 2048 + 1 * k.val = k.val; rw [(idx0 t).1.2]; omega

/-- The gain's block, the whole row at every point of the first launch. -/
theorem blk0_g (c : Dev nD) (t : Fin grid0.N) (l : Fin 2048) :
    (iblk0 V c 1 t : S1x2048.Idx → EReal) (ix2 0 l) = (V c main_v0 : S1x2048.Idx → EReal) (ix2 0 l) := by
  unfold iblk0
  rw [View.read_apply]
  show V c main_v0 _ = _
  congr 1
  funext a
  apply Fin.ext
  match a with
  | ⟨0, _⟩ => show win0_1.index t 0 * 1 + 1 * (0 : Fin 1).val = (0 : Fin 1).val; rw [(idx0 t).2.1.1]; omega
  | ⟨1, _⟩ => show win0_1.index t 1 * 2048 + 1 * l.val = l.val; rw [(idx0 t).2.1.2]; omega

/-- What point `t` of the first launch writes back is its tile of the whole. -/
theorem flushed0_eq (c : Dev nD) (t : Fin cfg0.N) :
    (dat0 V c).flushed 2 t = ((cfg0.win 2).blk t).view.read (Elt Ideal) (rowNorm (V c main_arg0) (fun i => (V c main_v0 : S1x2048.Idx → EReal) (ix2 0 (i 0)))) := by
  rw [show (dat0 V c).flushed 2 t = (dat0 V c).after 2 t from rfl, after0_2, out0_eq]
  refine funext fun (j : S512x2048.Idx) => ?_
  rw [View.read_apply]
  have e : (((cfg0.win 2).blk t).view.emb j : S24576x2048.Idx) = ix2 ⟨_, row0_lt t (j 0)⟩ (j 1) := by
    funext a
    apply Fin.ext
    match a with
    | ⟨0, _⟩ => show win0_2.index t 0 * 512 + 1 * (j 0).val = 512 * t.val + (j 0).val; rw [(idx0 t).2.2.1]; omega
    | ⟨1, _⟩ => show win0_2.index t 1 * 2048 + 1 * (j 1).val = (j 1).val; rw [(idx0 t).2.2.2]; omega
  rw [e]
  idx_vars j
  show k0_pay1 (F := Ideal) (iblk0 V c 0 t) (iblk0 V c 1 t) (ix2 j0 j1)
    = (rowNorm (V c main_arg0) (fun i => (V c main_v0 : S1x2048.Idx → EReal) (ix2 0 (i 0)))) (ix2 ⟨_, row0_lt t j0⟩ j1)
  rw [pay0_apply]
  simp only [blk0_x, blk0_g]
  rfl

/-- Which entries point `t`'s tile of the first launch holds. -/
theorem mem_blk0 (t : Fin cfg0.N) (i : S24576x2048.Idx) :
    i ∈ ((cfg0.win 2).blk t).view.set ↔ (512 * t.val ≤ (i 0 : Nat) ∧ (i 0 : Nat) < 512 * t.val + 512)
      ∧ 0 ≤ (i 1 : Nat) ∧ (i 1 : Nat) < 2048 := by
  show i ∈ ((View.whole main_v1).slice (win0_2.rect t)).set ↔ _
  rw [View.set_slice_whole, Rect.mem_set_unit]
  refine (Fin.forall_fin_two (p := fun a => _ ≤ (i a : Nat) ∧ (i a : Nat) < _)).trans ?_
  show (win0_2.index t 0 * 512 ≤ (i 0 : Nat) ∧ (i 0 : Nat) < win0_2.index t 0 * 512 + 512)
    ∧ (win0_2.index t 1 * 2048 ≤ (i 1 : Nat) ∧ (i 1 : Nat) < win0_2.index t 1 * 2048 + 2048) ↔ _
  rw [(idx0 t).2.2.1, (idx0 t).2.2.2]
  omega

/-- The first launch's tiles cover its result. -/
theorem cover0 (i : S24576x2048.Idx) :
    ∃ t : Fin cfg0.N, (cfg0.win 2).flush t = true ∧ i ∈ ((cfg0.win 2).blk t).view.set := by
  have h0 : (i 0 : Nat) < 24576 := (i 0).isLt
  have h1 : (i 1 : Nat) < 2048 := (i 1).isLt
  have hN : cfg0.N = 48 := N_0
  refine ⟨⟨(i 0 : Nat) / 512, by omega⟩, flush0_2 _, ?_⟩
  rw [mem_blk0]
  dsimp only
  omega

/-- What the first launch leaves in its result. -/
theorem final0 (c : Dev nD) : (dat0 V c).arrAt 2 cfg0.N = rowNorm (V c main_arg0) (fun i => (V c main_v0 : S1x2048.Idx → EReal) (ix2 0 (i 0))) :=
  (dat0 V c).arrAt_eq_of_cover 2 (rowNorm (V c main_arg0) (fun i => (V c main_v0 : S1x2048.Idx → EReal) (ix2 0 (i 0)))) (fun t _ => flushed0_eq V c t) cover0

/-! ## The second launch, the projection without the key, on arrays holding anything -/

/-- One tile of the second launch: its payload at an entry. -/
theorem pay1_apply (x0 : S512x2048.Idx → EReal) (x1 : S2048x512.Idx → EReal) (r : Fin 512) (l : Fin 512) :
    k1_pay1 (F := Ideal) x0 x1 (ix2 r l) = ∑ k : Fin 2048, x0 (ix2 r k) * x1 (ix2 k l) := by
  pointwise [k1_pay1]

/-- The tile a point of the second launch writes is the payload of its two blocks. -/
theorem out1_eq (x0 : S512x2048.Idx → EReal) (x1 : S2048x512.Idx → EReal) :
    out1_2 (F := Ideal) x0 x1 = k1_pay1 (F := Ideal) x0 x1 := by
  unfold out1_2
  rw [View.canon_unit_zero hz, View.ld_unit_zero hz, View.ld_unit_zero hz]

/-- The second launch's block indices. -/
theorem idx1 : ∀ t : Fin grid1.N, (win1_0.index t 0 = t.val / 8 ∧ win1_0.index t 1 = 0)
    ∧ (win1_1.index t 0 = 0 ∧ win1_1.index t 1 = t.val % 8)
    ∧ (win1_2.index t 0 = t.val / 8 ∧ win1_2.index t 1 = t.val % 8) := by decide +kernel

/-- A row tile of the second launch lies in the array. -/
theorem row1_lt (t : Fin grid1.N) (r : Fin 512) : 512 * (t.val / 8) + r.val < 24576 := by
  have := t.isLt; have hN : grid1.N = 384 := N_1; omega

/-- A column tile of the second launch lies in the array. -/
theorem col1_lt (t : Fin grid1.N) (l : Fin 512) : 512 * (t.val % 8) + l.val < 4096 := by omega

/-- The left factor's block at point `t` of the second launch, read at an entry. -/
theorem blk1_x (c : Dev nD) (t : Fin grid1.N) (r : Fin 512) (k : Fin 2048) :
    (iblk1 V c 0 t : S512x2048.Idx → EReal) (ix2 r k) = (V c main_v1 : S24576x2048.Idx → EReal) (ix2 ⟨_, row1_lt t r⟩ k) := by
  unfold iblk1
  rw [View.read_apply]
  show V c main_v1 _ = _
  congr 1
  funext a
  apply Fin.ext
  match a with
  | ⟨0, _⟩ => show win1_0.index t 0 * 512 + 1 * r.val = 512 * (t.val / 8) + r.val; rw [(idx1 t).1.1]; omega
  | ⟨1, _⟩ => show win1_0.index t 1 * 2048 + 1 * k.val = k.val; rw [(idx1 t).1.2]; omega

/-- The weights' block at point `t` of the second launch. -/
theorem blk1_w (c : Dev nD) (t : Fin grid1.N) (k : Fin 2048) (l : Fin 512) :
    (iblk1 V c 1 t : S2048x512.Idx → EReal) (ix2 k l) = (V c main_v5 : S2048x4096.Idx → EReal) (ix2 k ⟨_, col1_lt t l⟩) := by
  unfold iblk1
  rw [View.read_apply]
  show V c main_v5 _ = _
  congr 1
  funext a
  apply Fin.ext
  match a with
  | ⟨0, _⟩ => show win1_1.index t 0 * 2048 + 1 * k.val = k.val; rw [(idx1 t).2.1.1]; omega
  | ⟨1, _⟩ => show win1_1.index t 1 * 512 + 1 * l.val = 512 * (t.val % 8) + l.val; rw [(idx1 t).2.1.2]; omega

/-- What point `t` of the second launch writes back is its tile of the whole. -/
theorem flushed1_eq (c : Dev nD) (t : Fin cfg1.N) :
    (dat1 V c).flushed 2 t = ((cfg1.win 2).blk t).view.read (Elt Ideal) (times (V c main_v1) (V c main_v5)) := by
  rw [show (dat1 V c).flushed 2 t = (dat1 V c).after 2 t from rfl, after1_2, out1_eq]
  refine funext fun (j : S512x512.Idx) => ?_
  rw [View.read_apply]
  have e : (((cfg1.win 2).blk t).view.emb j : S24576x4096.Idx) = ix2 ⟨_, row1_lt t (j 0)⟩ ⟨_, col1_lt t (j 1)⟩ := by
    funext a
    apply Fin.ext
    match a with
    | ⟨0, _⟩ => show win1_2.index t 0 * 512 + 1 * (j 0).val = 512 * (t.val / 8) + (j 0).val; rw [(idx1 t).2.2.1]; omega
    | ⟨1, _⟩ => show win1_2.index t 1 * 512 + 1 * (j 1).val = 512 * (t.val % 8) + (j 1).val; rw [(idx1 t).2.2.2]; omega
  rw [e]
  idx_vars j
  show k1_pay1 (F := Ideal) (iblk1 V c 0 t) (iblk1 V c 1 t) (ix2 j0 j1)
    = (times (V c main_v1) (V c main_v5)) (ix2 ⟨_, row1_lt t j0⟩ ⟨_, col1_lt t j1⟩)
  rw [pay1_apply]
  simp only [blk1_x, blk1_w]
  rfl

/-- Which entries point `t`'s tile of the second launch holds. -/
theorem mem_blk1 (t : Fin cfg1.N) (i : S24576x4096.Idx) :
    i ∈ ((cfg1.win 2).blk t).view.set ↔ (512 * (t.val / 8) ≤ (i 0 : Nat) ∧ (i 0 : Nat) < 512 * (t.val / 8) + 512)
      ∧ 512 * (t.val % 8) ≤ (i 1 : Nat) ∧ (i 1 : Nat) < 512 * (t.val % 8) + 512 := by
  show i ∈ ((View.whole main_v8).slice (win1_2.rect t)).set ↔ _
  rw [View.set_slice_whole, Rect.mem_set_unit]
  refine (Fin.forall_fin_two (p := fun a => _ ≤ (i a : Nat) ∧ (i a : Nat) < _)).trans ?_
  show (win1_2.index t 0 * 512 ≤ (i 0 : Nat) ∧ (i 0 : Nat) < win1_2.index t 0 * 512 + 512)
    ∧ (win1_2.index t 1 * 512 ≤ (i 1 : Nat) ∧ (i 1 : Nat) < win1_2.index t 1 * 512 + 512) ↔ _
  rw [(idx1 t).2.2.1, (idx1 t).2.2.2]
  omega

/-- The second launch's tiles cover its result. -/
theorem cover1 (i : S24576x4096.Idx) :
    ∃ t : Fin cfg1.N, (cfg1.win 2).flush t = true ∧ i ∈ ((cfg1.win 2).blk t).view.set := by
  have h0 : (i 0 : Nat) < 24576 := (i 0).isLt
  have h1 : (i 1 : Nat) < 4096 := (i 1).isLt
  have hN : cfg1.N = 384 := N_1
  refine ⟨⟨(i 0 : Nat) / 512 * 8 + (i 1 : Nat) / 512, by omega⟩, flush1_2 _, ?_⟩
  rw [mem_blk1]
  dsimp only
  omega

/-- What the second launch leaves in its result. -/
theorem final1 (c : Dev nD) : (dat1 V c).arrAt 2 cfg1.N = times (V c main_v1) (V c main_v5) :=
  (dat1 V c).arrAt_eq_of_cover 2 (times (V c main_v1) (V c main_v5)) (fun t _ => flushed1_eq V c t) cover1

/-! ## The third launch, the padded key, on arrays holding anything -/

/-- One tile of the third launch: its payload at an entry. -/
theorem pay2_apply (x0 : S512x2048.Idx → EReal) (x1 : S2048x128.Idx → EReal) (r : Fin 512) (l : Fin 128) :
    k2_pay1 (F := Ideal) x0 x1 (ix2 r l) = ∑ k : Fin 2048, x0 (ix2 r k) * x1 (ix2 k l) := by
  pointwise [k2_pay1]

/-- The tile a point of the third launch writes is the payload of its two blocks. -/
theorem out2_eq (x0 : S512x2048.Idx → EReal) (x1 : S2048x128.Idx → EReal) :
    out2_2 (F := Ideal) x0 x1 = k2_pay1 (F := Ideal) x0 x1 := by
  unfold out2_2
  rw [View.canon_unit_zero hz, View.ld_unit_zero hz, View.ld_unit_zero hz]

/-- The third launch's block indices. -/
theorem idx2 : ∀ t : Fin grid2.N, (win2_0.index t 0 = t.val ∧ win2_0.index t 1 = 0)
    ∧ (win2_1.index t 0 = 0 ∧ win2_1.index t 1 = 0)
    ∧ (win2_2.index t 0 = t.val ∧ win2_2.index t 1 = 0) := by decide +kernel

/-- A row tile of the third launch lies in the array. -/
theorem row2_lt (t : Fin grid2.N) (r : Fin 512) : 512 * t.val + r.val < 24576 := by
  have := t.isLt; have hN : grid2.N = 48 := N_2; omega

/-- The left factor's block at point `t` of the third launch, read at an entry. -/
theorem blk2_x (c : Dev nD) (t : Fin grid2.N) (r : Fin 512) (k : Fin 2048) :
    (iblk2 V c 0 t : S512x2048.Idx → EReal) (ix2 r k) = (V c main_v1 : S24576x2048.Idx → EReal) (ix2 ⟨_, row2_lt t r⟩ k) := by
  unfold iblk2
  rw [View.read_apply]
  show V c main_v1 _ = _
  congr 1
  funext a
  apply Fin.ext
  match a with
  | ⟨0, _⟩ => show win2_0.index t 0 * 512 + 1 * r.val = 512 * t.val + r.val; rw [(idx2 t).1.1]; omega
  | ⟨1, _⟩ => show win2_0.index t 1 * 2048 + 1 * k.val = k.val; rw [(idx2 t).1.2]; omega

/-- The weights' block at point `t` of the third launch. -/
theorem blk2_w (c : Dev nD) (t : Fin grid2.N) (k : Fin 2048) (l : Fin 128) :
    (iblk2 V c 1 t : S2048x128.Idx → EReal) (ix2 k l) = (V c main_v9 : S2048x128.Idx → EReal) (ix2 k l) := by
  unfold iblk2
  rw [View.read_apply]
  show V c main_v9 _ = _
  congr 1
  funext a
  apply Fin.ext
  match a with
  | ⟨0, _⟩ => show win2_1.index t 0 * 2048 + 1 * k.val = k.val; rw [(idx2 t).2.1.1]; omega
  | ⟨1, _⟩ => show win2_1.index t 1 * 128 + 1 * l.val = l.val; rw [(idx2 t).2.1.2]; omega

/-- What point `t` of the third launch writes back is its tile of the whole. -/
theorem flushed2_eq (c : Dev nD) (t : Fin cfg2.N) :
    (dat2 V c).flushed 2 t = ((cfg2.win 2).blk t).view.read (Elt Ideal) (times (V c main_v1) (V c main_v9)) := by
  rw [show (dat2 V c).flushed 2 t = (dat2 V c).after 2 t from rfl, after2_2, out2_eq]
  refine funext fun (j : S512x128.Idx) => ?_
  rw [View.read_apply]
  have e : (((cfg2.win 2).blk t).view.emb j : S24576x128.Idx) = ix2 ⟨_, row2_lt t (j 0)⟩ (j 1) := by
    funext a
    apply Fin.ext
    match a with
    | ⟨0, _⟩ => show win2_2.index t 0 * 512 + 1 * (j 0).val = 512 * t.val + (j 0).val; rw [(idx2 t).2.2.1]; omega
    | ⟨1, _⟩ => show win2_2.index t 1 * 128 + 1 * (j 1).val = (j 1).val; rw [(idx2 t).2.2.2]; omega
  rw [e]
  idx_vars j
  show k2_pay1 (F := Ideal) (iblk2 V c 0 t) (iblk2 V c 1 t) (ix2 j0 j1)
    = (times (V c main_v1) (V c main_v9)) (ix2 ⟨_, row2_lt t j0⟩ j1)
  rw [pay2_apply]
  simp only [blk2_x, blk2_w]
  rfl

/-- Which entries point `t`'s tile of the third launch holds. -/
theorem mem_blk2 (t : Fin cfg2.N) (i : S24576x128.Idx) :
    i ∈ ((cfg2.win 2).blk t).view.set ↔ (512 * t.val ≤ (i 0 : Nat) ∧ (i 0 : Nat) < 512 * t.val + 512)
      ∧ 0 ≤ (i 1 : Nat) ∧ (i 1 : Nat) < 128 := by
  show i ∈ ((View.whole main_v10).slice (win2_2.rect t)).set ↔ _
  rw [View.set_slice_whole, Rect.mem_set_unit]
  refine (Fin.forall_fin_two (p := fun a => _ ≤ (i a : Nat) ∧ (i a : Nat) < _)).trans ?_
  show (win2_2.index t 0 * 512 ≤ (i 0 : Nat) ∧ (i 0 : Nat) < win2_2.index t 0 * 512 + 512)
    ∧ (win2_2.index t 1 * 128 ≤ (i 1 : Nat) ∧ (i 1 : Nat) < win2_2.index t 1 * 128 + 128) ↔ _
  rw [(idx2 t).2.2.1, (idx2 t).2.2.2]
  omega

/-- The third launch's tiles cover its result. -/
theorem cover2 (i : S24576x128.Idx) :
    ∃ t : Fin cfg2.N, (cfg2.win 2).flush t = true ∧ i ∈ ((cfg2.win 2).blk t).view.set := by
  have h0 : (i 0 : Nat) < 24576 := (i 0).isLt
  have h1 : (i 1 : Nat) < 128 := (i 1).isLt
  have hN : cfg2.N = 48 := N_2
  refine ⟨⟨(i 0 : Nat) / 512, by omega⟩, flush2_2 _, ?_⟩
  rw [mem_blk2]
  dsimp only
  omega

/-- What the third launch leaves in its result. -/
theorem final2 (c : Dev nD) : (dat2 V c).arrAt 2 cfg2.N = times (V c main_v1) (V c main_v9) :=
  (dat2 V c).arrAt_eq_of_cover 2 (times (V c main_v1) (V c main_v9)) (fun t _ => flushed2_eq V c t) cover2

/-! ## The weights of the two products -/

/-- The weights without the key's columns. -/
abbrev wmain (w : S2048x4160.Idx → EReal) : S2048x4096.Idx → EReal :=
  truncf (F := Ideal) (φ := .f32) .bf16 (concatenate S2048x4096 1 [⟨S2048x1024, (extractStridedSlice S2048x1024 ![0, 0] w slices_S2048x4160_S2048x1024_0_0 : FVec Ideal S2048x1024 .f32)⟩,
    ⟨S2048x3072, (extractStridedSlice S2048x3072 ![0, 1088] w slices_S2048x4160_S2048x3072_0_1088 : FVec Ideal S2048x3072 .f32)⟩] concatenates_S2048x1024_S2048x3072_S2048x4096_d1 : FVec Ideal S2048x4096 .f32) bitsLt_bf16_f32

/-- Each of them is the column behind it. -/
theorem wmain_apply (w : S2048x4160.Idx → EReal) (k : Fin 2048) (l : Fin 4096) : wmain w (ix2 k l) = w (ix2 k (column l)) := by
  pointwise
  split_ifs <;>
    exact congrArg (fun n => w (ix2 k n))
      (eq_column _ _ (fun _ => by first | rfl | (dsimp only; omega)) (fun _ => by first | rfl | (dsimp only; omega)))

/-- The key's columns of the weights with 64 columns of zeros. -/
abbrev wkey (w : S2048x4160.Idx → EReal) : S2048x128.Idx → EReal :=
  truncf (F := Ideal) (φ := .f32) .bf16 (pad S2048x128 ![0, 0] ![0, 64] ![0, 0]
    (extractStridedSlice S2048x64 ![0, 1024] w slices_S2048x4160_S2048x64_0_1024 : FVec Ideal S2048x64 .f32) (sitofp (F := Ideal) .f32 (constantI S_ 32 0#32)) pads_S2048x64_S2048x128_000_0640 h_S_) bitsLt_bf16_f32

/-- Its first 64 columns are the key's. -/
theorem wkey_apply (w : S2048x4160.Idx → EReal) (k : Fin 2048) (r : Fin 64) :
    wkey w (ix2 k ⟨r.val, by omega⟩) = w (ix2 k ⟨1024 + r.val, by omega⟩) := by
  pointwise

/-- A product by the weights without the key's columns is the projection. -/
theorem times_main (h : S24576x2048.Idx → EReal) (w : S2048x4160.Idx → EReal) : times h (wmain w) = projected h w := by
  funext j
  exact Finset.sum_congr rfl fun k _ => congrArg (h (ix2 (j 0) k) * ·) (wmain_apply w k (j 1))

/-- The padded product's first 64 columns are the key. -/
theorem cut (h : S24576x2048.Idx → EReal) (w : S2048x4160.Idx → EReal) :
    (extractStridedSlice S24576x64 ![0, 0] (times h (wkey w) : FVec Ideal S24576x128 .f32) slices_S24576x128_S24576x64_0_0 : S24576x64.Idx → EReal)
      = columns 1024 64 (by decide) (times h w) := by
  funext j
  idx_vars j
  refine Eq.trans (b := times h (wkey w) (ix2 j0 ⟨j1.val, by omega⟩)) ?_ (Finset.sum_congr rfl fun k _ => congrArg (h (ix2 j0 k) * ·) (wkey_apply w k j1))
  generalize times h (wkey w) = p
  pointwise

/-! ## The three launches in a row -/

variable (m : (ℓ : Loc nD τ sig) → Buf (Elt Ideal) ℓ) (ρ : Dev nD → PrngReg)

/-- The projected tokens. -/
abbrev Gz (c : Dev nD) : Buf (Elt Ideal) ((c : Thread nD τ).loc main_v8) :=
  projected (rowNorm (m ((c : Thread nD τ).loc main_arg0)) (m ((c : Thread nD τ).loc main_arg1))) (m ((c : Thread nD τ).loc main_arg2))

/-- The rotary key. -/
abbrev Gk (c : Dev nD) : Buf (Elt Ideal) ((c : Thread nD τ).loc main_v11) :=
  columns 1024 64 (by decide) (times (rowNorm (m ((c : Thread nD τ).loc main_arg0)) (m ((c : Thread nD τ).loc main_arg1))) (m ((c : Thread nD τ).loc main_arg2)))

/-- The gain the first launch reads is the argument laid out as one row. -/
theorem entry_g (c : Dev nD) : (fun i : S2048.Idx => (V1 m ρ c main_v0 : S1x2048.Idx → EReal) (ix2 0 (i 0))) = m ((c : Thread nD τ).loc main_arg1) := by
  have h : StableHlo.after hostOps0 (W0 m ρ c) (Proc.devRef .tc main_v0) = shapeCast S1x2048 (W0 m ρ c (Proc.devRef .tc main_arg1)) shapeCasts_S2048_S1x2048 := by
    after_results
    rfl
  funext i
  idx_vars i
  refine (congrFun h (ix2 0 i0)).trans (Eq.trans ?_ (congrFun (W0_args m ρ c main_arg1 (by decide)) (ix1 i0)))
  generalize W0 m ρ c (Proc.devRef .tc main_arg1) = u
  pointwise

/-- The first launch leaves the normed tokens. -/
theorem after_h (c : Dev nD) : W2 m ρ c (Proc.devRef .tc main_v1)
    = rowNorm (m ((c : Thread nD τ).loc main_arg0)) (m ((c : Thread nD τ).loc main_arg1)) := by
  refine (W2_arr m ρ c 2).trans ((final0 (V1 m ρ) c).trans ?_)
  rw [entry_g, show V1 m ρ c main_arg0 = m ((c : Thread nD τ).loc main_arg0) from W1_args m ρ c main_arg0 (by decide)]

/-- The weights the second launch reads. -/
theorem entry_main (c : Dev nD) : (V4 m ρ c main_v5 : S2048x4096.Idx → EReal) = wmain (m ((c : Thread nD τ).loc main_arg2)) := by
  have h : StableHlo.after hostOps1 (W2 m ρ c) (Proc.devRef .tc main_v5) = wmain (W2 m ρ c (Proc.devRef .tc main_arg2)) := by
    after_results <;> rfl
  exact (W4_of m ρ c main_v5 (by decide)).trans (h.trans (congrArg wmain (W2_args m ρ c main_arg2 (by decide))))

/-- The padded columns before their cast. -/
theorem entry_pad (c : Dev nD) : W4 m ρ c (Proc.devRef .tc main_v7) = pad S2048x128 ![0, 0] ![0, 64] ![0, 0]
    (extractStridedSlice S2048x64 ![0, 1024] (m ((c : Thread nD τ).loc main_arg2)) slices_S2048x4160_S2048x64_0_1024 : FVec Ideal S2048x64 .f32) (sitofp (F := Ideal) .f32 (constantI S_ 32 0#32)) pads_S2048x64_S2048x128_000_0640 h_S_ := by
  have h : ∀ U : Valuation τ sig (Elt Ideal), StableHlo.after hostOps1_1 U (Proc.devRef .tc main_v7) = pad S2048x128 ![0, 0] ![0, 64] ![0, 0]
      (U (Proc.devRef .tc main_v6)) (sitofp (F := Ideal) .f32 (U (Proc.devRef .tc main_c))) pads_S2048x64_S2048x128_000_0640 h_S_ := by
    intro U
    after_results <;> rfl
  have h6 : W3 m ρ c (Proc.devRef .tc main_v6) = extractStridedSlice S2048x64 ![0, 1024] (W2 m ρ c (Proc.devRef .tc main_arg2)) slices_S2048x4160_S2048x64_0_1024 := by
    show StableHlo.after hostOps1 (W2 m ρ c) (Proc.devRef .tc main_v6) = _
    after_results <;> rfl
  have hc : W3 m ρ c (Proc.devRef .tc main_c) = constantI S_ 32 0#32 := by
    show StableHlo.after hostOps1 (W2 m ρ c) (Proc.devRef .tc main_c) = _
    after_results <;> rfl
  refine (h (W3 m ρ c)).trans ?_
  rw [h6, hc, W2_args m ρ c main_arg2 (by decide)]

/-- The weights the third launch reads. -/
theorem entry_key (c : Dev nD) : (V6 m ρ c main_v9 : S2048x128.Idx → EReal) = wkey (m ((c : Thread nD τ).loc main_arg2)) := by
  have h : StableHlo.after hostOps2 (W5 m ρ c) (Proc.devRef .tc main_v9) = truncf (F := Ideal) .bf16 (W5 m ρ c (Proc.devRef .tc main_v7)) bitsLt_bf16_f32 := by
    after_results
  refine h.trans (congrArg (fun u : FVec Ideal S2048x128 .f32 => truncf (F := Ideal) .bf16 u bitsLt_bf16_f32) ?_)
  exact (W5_of m ρ c main_v7 (by decide)).trans (entry_pad m ρ c)

/-- What the first launch wrote is still there at the second. -/
theorem kept1 (c : Dev nD) : V4 m ρ c main_v1 = W2 m ρ c (Proc.devRef .tc main_v1) :=
  (W4_of m ρ c main_v1 (by decide)).trans (W3_of m ρ c main_v1 (by decide))

/-- And at the third. -/
theorem kept2 (c : Dev nD) : V6 m ρ c main_v1 = W2 m ρ c (Proc.devRef .tc main_v1) :=
  (W6_of m ρ c main_v1 (by decide)).trans ((W5_of m ρ c main_v1 (by decide)).trans (kept1 m ρ c))

/-- The projected tokens at the end of the run. -/
theorem last_z (c : Dev nD) : W8 m ρ c (Proc.devRef .tc main_v8) = Gz m c := by
  refine (W8_of m ρ c main_v8 (by decide)).trans ((W7_of m ρ c main_v8 (by decide)).trans ((W6_of m ρ c main_v8 (by decide)).trans
    ((W5_arr m ρ c 2).trans ((final1 (V4 m ρ) c).trans ?_))))
  rw [kept1, after_h, entry_main, times_main]

/-- The padded key the third launch leaves. -/
theorem after_k (c : Dev nD) : W7 m ρ c (Proc.devRef .tc main_v10)
    = times (rowNorm (m ((c : Thread nD τ).loc main_arg0)) (m ((c : Thread nD τ).loc main_arg1))) (wkey (m ((c : Thread nD τ).loc main_arg2))) := by
  refine (W7_arr m ρ c 2).trans ((final2 (V6 m ρ) c).trans ?_)
  rw [kept2, after_h, entry_key]

/-- The rotary key at the end of the run. -/
theorem last_k (c : Dev nD) : W8 m ρ c (Proc.devRef .tc main_v11) = Gk m c := by
  have h : ∀ U : Valuation τ sig (Elt Ideal), StableHlo.after hostOps3 U (Proc.devRef .tc main_v11)
      = extractStridedSlice S24576x64 ![0, 0] (U (Proc.devRef .tc main_v10)) slices_S24576x128_S24576x64_0_0 := by
    intro U
    after_results <;> rfl
  refine (h (W7 m ρ c)).trans ?_
  rw [after_k]
  exact cut _ _

open Idealize.ShloMosaic.Rounds Idealize.SL Idealize.SL.RA Idealize.SL.BI Idealize.SL.BI.BIBase Idealize.SL.BI.Laws Idealize.SL.ProofMode
open scoped Idealize.SL.BI

set_option backward.isDefEq.respectTransparency.types false in
/-- The run, read: every buffer outside the launches ends at the last boundary's contents. -/
theorem run_all : θ_run defs (onTc (τ := τ) (main (F := Ideal))) ⟨m, fun _ => 0, ρ⟩ (fun r =>
      ∀ c : Dev nD, ∀ b ∈ Pipeline.ucRefs τ sig, r.2.mem (c, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c => h c)

/-- The run, read: the results are the projection and the rotary key of the normed tokens, and the arguments are unchanged. -/
theorem run : θ_run defs (onTc (τ := τ) (main (F := Ideal))) ⟨m, fun _ => 0, ρ⟩ fun r => ∀ c : Dev nD,
      r.2.mem ((c : Thread nD τ).loc main_v8) = Gz m c
      ∧ r.2.mem ((c : Thread nD τ).loc main_v11) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c _ (mem_uc main_v8 (by decide))).trans (last_z m ρ c),
     (h c _ (mem_uc main_v11 (by decide))).trans (last_k m ρ c),
     (h c _ (mem_uc main_arg0 (by decide))).trans (W8_args m ρ c main_arg0 (by decide)),
     (h c _ (mem_uc main_arg1 (by decide))).trans (W8_args m ρ c main_arg1 (by decide)),
     (h c _ (mem_uc main_arg2 (by decide))).trans (W8_args m ρ c main_arg2 (by decide))⟩) (run_all m ρ)

end Cert.Kernel13Ideal.LayerInput

namespace Cert.Proof.LayerInput

open Cert.Proof.Products Cert.Proof.InputProjection

/-- The kernel runs and leaves its arguments. -/
theorem frame_kernel : Cert.quiescent_Kernel13 := fun m ρ _ => Cert.Kernel13.Gen.frame m ρ

/-- So does the idealized kernel. -/
theorem frame_ideal : Cert.quiescent_Kernel13Ideal := fun m ρ _ => Cert.Kernel13Ideal.Gen.frame m ρ

/-- The reference leaves its arguments; it has no semaphore. -/
theorem frame_reference : Cert.quiescent_Reference13Ideal := fun m ρ _ =>
  (θ_run Cert.Reference13Ideal.defs _ _).mono
    (fun r h => ⟨fun c => (h c).2.2, sem_eq_zero_of_no_sems (by decide) r.2⟩)
    (Cert.Reference13Ideal.Value.run (F := Ideal) m ρ)

/-- Idealization rewrote nothing. -/
theorem preserves : Cert.preserves_Kernel13_Kernel13Ideal := trivial

/-- Kernel and reference end at the same projected tokens and the same rotary key. -/
theorem algebraic : Cert.algebraic_Kernel13Ideal_Reference13Ideal := fun m ρ m' ρ' _ hag =>
  ⟨fun c => Cert.Kernel13Ideal.LayerInput.Gz m c, fun c => Cert.Kernel13Ideal.LayerInput.Gk m c, Cert.Kernel13Ideal.LayerInput.run m ρ,
    (θ_run Cert.Reference13Ideal.defs _ _).mono
      (fun _ h c => ⟨(h c).1.trans ((Cert.Reference13Ideal.LayerInput.z_eq _ _).trans
          ((congrArg (fun a => projected a _) (Cert.Reference13Ideal.LayerInput.norm_eq _ _)).trans
            (by rw [(hag c).1, (hag c).2.1, (hag c).2.2]))),
        (h c).2.1.trans ((Cert.Reference13Ideal.LayerInput.key_eq _ _).trans
          ((congrArg (fun a => columns 1024 64 (by decide) (times a _)) (Cert.Reference13Ideal.LayerInput.norm_eq _ _)).trans
            (by rw [(hag c).1, (hag c).2.1, (hag c).2.2]))),
        (h c).2.2⟩)
      (Cert.Reference13Ideal.Value.run (F := Ideal) m' ρ')⟩

end Cert.Proof.LayerInput

end
-- ==== Proof.lean ====
/-
  Everything claimed of the layers' attention, projection and feed-forward calls, put together from the modules that prove it.
-/
module

public import proofs.«01_k».proof.Defs
public import proofs.«01_k».proof.Proof.Attention
public import proofs.«01_k».proof.Proof.FeedForward
public import proofs.«01_k».proof.Proof.Projection
public import proofs.«01_k».proof.Proof.MixerOut
public import proofs.«01_k».proof.Proof.InputProjection
public import proofs.«01_k».proof.Proof.Gate
public import proofs.«01_k».proof.Proof.Latents
public import proofs.«01_k».proof.Proof.Decay
public import proofs.«01_k».proof.Proof.Rate
public import proofs.«01_k».proof.Proof.RotaryKey
public import proofs.«01_k».proof.Proof.Hidden
public import proofs.«01_k».proof.Proof.LayerInput

@[expose] public section

set_option maxRecDepth 16384

noncomputable section

namespace Cert.Proof

/-- All the claims of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite_qk.holds,
    Attention.frame_kernel, Attention.frame_ideal, Attention.frame_ideal_pre,
    Attention.frame_reference, Attention.frame_reference_pre,
    GateUp.frame_kernel, GateUp.frame_ideal, GateUp.frame_reference,
    Resnorm.frame_kernel, Resnorm.frame_ideal, Resnorm.frame_reference,
    Projection.frame_kernel, Projection.frame_ideal, Projection.frame_reference,
    MixerOut.frame_kernel, MixerOut.frame_ideal, MixerOut.frame_reference,
    InputProjection.frame_kernel, InputProjection.frame_ideal, InputProjection.frame_reference,
    Gate.frame_kernel, Gate.frame_ideal, Gate.frame_reference,
    Latents.frame_kernel, Latents.frame_ideal, Latents.frame_reference,
    Decay.frame_kernel, Decay.frame_ideal, Decay.frame_reference,
    Rate.frame_kernel, Rate.frame_ideal, Rate.frame_reference,
    RotaryKey.frame_kernel, RotaryKey.frame_ideal, RotaryKey.frame_reference,
    Hidden.frame_kernel, Hidden.frame_ideal, Hidden.frame_reference,
    LayerInput.frame_kernel, LayerInput.frame_ideal, LayerInput.frame_reference,
    Attention.preserves, Attention.algebraic,
    GateUp.preserves, GateUp.algebraic,
    Resnorm.preserves, Resnorm.algebraic,
    Projection.preserves, Projection.algebraic,
    MixerOut.preserves, MixerOut.algebraic,
    InputProjection.preserves, InputProjection.algebraic,
    Gate.preserves, Gate.algebraic,
    Latents.preserves, Latents.algebraic,
    Decay.preserves, Decay.algebraic,
    Rate.preserves, Rate.algebraic,
    RotaryKey.preserves, RotaryKey.algebraic,
    Hidden.preserves, Hidden.algebraic,
    LayerInput.preserves, LayerInput.algebraic⟩

end Cert.Proof

end
